-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "minus_scale" .f32 0xBE38AA3B#32 (((-1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v66) = v2 c
          ∧ r.2.mem ((c.tc : Thread Cert.Reference4Ideal.nD Cert.Reference4Ideal.τ).loc Cert.Reference4Ideal.main_v67) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v36_0)) (v1 : (c : Dev Cert.Kernel5Ideal.nD) → Buf (Elt Ideal) ((c.tc : Thread Cert.Kernel5Ideal.nD Cert.Kernel5Ideal.τ).loc Cert.Kernel5Ideal.main_v36_1)) (v2 : (c : Dev Cert.Kernel5Ideal.nD) → Buf (Elt Ideal) ((c.tc : Thread Cert.Kernel5Ideal.nD Cert.Kernel5Ideal.τ).loc Cert.Kernel5Ideal.main_v36_2)) (v3 : (c : Dev Cert.Kernel5Ideal.nD) → Buf (Elt Ideal) ((c.tc : Thread Cert.Kernel5Ideal.nD Cert.Kernel5Ideal.τ).loc Cert.Kernel5Ideal.main_v36_3)) (v4 : (c : Dev Cert.Kernel5Ideal.nD) → Buf (Elt Ideal) ((c.tc : Thread Cert.Kernel5Ideal.nD Cert.Kernel5Ideal.τ).loc Cert.Kernel5Ideal.main_v36_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36_0) = v0 c
          ∧ r.2.mem ((c.tc : Thread Cert.Kernel5Ideal.nD Cert.Kernel5Ideal.τ).loc Cert.Kernel5Ideal.main_v36_1) = v1 c
          ∧ r.2.mem ((c.tc : Thread Cert.Kernel5Ideal.nD Cert.Kernel5Ideal.τ).loc Cert.Kernel5Ideal.main_v36_2) = v2 c
          ∧ r.2.mem ((c.tc : Thread Cert.Kernel5Ideal.nD Cert.Kernel5Ideal.τ).loc Cert.Kernel5Ideal.main_v36_3) = v3 c
          ∧ r.2.mem ((c.tc : Thread Cert.Kernel5Ideal.nD Cert.Kernel5Ideal.τ).loc Cert.Kernel5Ideal.main_v36_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v55) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S16x2048x2304 : Shape := ⟨3, ![16, 2048, 2304]⟩
abbrev S16x2048x1024 : Shape := ⟨3, ![16, 2048, 1024]⟩
abbrev S_ : Shape := ⟨0, ![]⟩

class Facts : Prop where
  slices_S16x2048x2304_S16x2048x1024_0_0_0 : S16x2048x2304.Slices ![0, 0, 0] S16x2048x1024
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x2304 .f32) : IVec S_ 1 :=
  let main_v0 : FVec F S16x2048x1024 .f32 := (extractStridedSlice S16x2048x1024 ![0, 0, 0] · slices_S16x2048x2304_S16x2048x1024_0_0_0) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  main_v4
-- ==== Kernel.lean ====
abbrev S16x2048x2304 : Shape := ⟨3, ![16, 2048, 2304]⟩
abbrev S16x2048x512 : Shape := ⟨3, ![16, 2048, 512]⟩
abbrev S16x2048x128 : Shape := ⟨3, ![16, 2048, 128]⟩
abbrev S16x2048x2x64 : Shape := ⟨4, ![16, 2048, 2, 64]⟩
abbrev S16x2048x2x2x64 : Shape := ⟨5, ![16, 2048, 2, 2, 64]⟩
abbrev S16x2048x4x64 : Shape := ⟨4, ![16, 2048, 4, 64]⟩
abbrev S16x2048x256 : Shape := ⟨3, ![16, 2048, 256]⟩
abbrev S16x2048x1536 : Shape := ⟨3, ![16, 2048, 1536]⟩
abbrev S16x512x2048 : Shape := ⟨3, ![16, 512, 2048]⟩
abbrev S16x8x256x512 : Shape := ⟨4, ![16, 8, 256, 512]⟩
abbrev S16x8x512x256 : Shape := ⟨4, ![16, 8, 512, 256]⟩
abbrev S1x512x512 : Shape := ⟨3, ![1, 512, 512]⟩
abbrev S1x2048x512 : Shape := ⟨3, ![1, 2048, 512]⟩
abbrev S1x8x512x256 : Shape := ⟨4, ![1, 8, 512, 256]⟩
abbrev S8x256x512 : Shape := ⟨3, ![8, 256, 512]⟩
abbrev S8x64x512 : Shape := ⟨3, ![8, 64, 512]⟩
abbrev S512x512 : Shape := ⟨2, ![512, 512]⟩
abbrev S128x512 : Shape := ⟨2, ![128, 512]⟩
abbrev S256x512 : Shape := ⟨2, ![256, 512]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S1x256x256 : Shape := ⟨3, ![1, 256, 256]⟩
abbrev S1x512 : Shape := ⟨2, ![1, 512]⟩
abbrev S1x256x512 : Shape := ⟨3, ![1, 256, 512]⟩
abbrev S1x256 : Shape := ⟨2, ![1, 256]⟩
abbrev S1x64x256 : Shape := ⟨3, ![1, 64, 256]⟩
abbrev S64x256 : Shape := ⟨2, ![64, 256]⟩
abbrev S1x1x64x256 : Shape := ⟨4, ![1, 1, 64, 256]⟩
abbrev S1x64x512 : Shape := ⟨3, ![1, 64, 512]⟩
abbrev S64x512 : Shape := ⟨2, ![64, 512]⟩

abbrev nBuf : Space → Nat
  | .hbm => 23
  | .vmem => 13
  | .smem => 0
  | _ => 0

abbrev bufTy : (tb : Table) → Fin (tcTables nBuf tb) → BufTy
  | .hbm, ⟨0, _⟩ => ⟨S16x2048x2304, .f32⟩
  | .hbm, ⟨1, _⟩ => ⟨S16x2048x512, .f32⟩
  | .hbm, ⟨2, _⟩ => ⟨S16x2048x512, .f32⟩
  | .hbm, ⟨3, _⟩ => ⟨S16x2048x128, .f32⟩
  | .hbm, ⟨4, _⟩ => ⟨S16x2048x2x64, .f32⟩
  | .hbm, ⟨5, _⟩ => ⟨S16x2048x2x2x64, .f32⟩
  | .hbm, ⟨6, _⟩ => ⟨S16x2048x4x64, .f32⟩
  | .hbm, ⟨7, _⟩ => ⟨S16x2048x256, .f32⟩
  | .hbm, ⟨8, _⟩ => ⟨S16x2048x128, .f32⟩
  | .hbm, ⟨9, _⟩ => ⟨S16x2048x2x64, .f32⟩
  | .hbm, ⟨10, _⟩ => ⟨S16x2048x2x2x64, .f32⟩
  | .hbm, ⟨11, _⟩ => ⟨S16x2048x4x64, .f32⟩
  | .hbm, ⟨12, _⟩ => ⟨S16x2048x256, .f32⟩
  | .hbm, ⟨13, _⟩ => ⟨S16x2048x1536, .f32⟩
  | .hbm, ⟨14, _⟩ => ⟨S16x2048x1536, .bf16⟩
  | .hbm, ⟨15, _⟩ => ⟨S16x2048x512, .f32⟩
  | .hbm, ⟨16, _⟩ => ⟨S16x512x2048, .f32⟩
  | .hbm, ⟨17, _⟩ => ⟨S16x512x2048, .bf16⟩
  | .hbm, ⟨18, _⟩ => ⟨S16x2048x512, .f32⟩
  | .hbm, ⟨19, _⟩ => ⟨S16x8x256x512, .f32⟩
  | .hbm, ⟨20, _⟩ => ⟨S16x8x512x256, .f32⟩
  | .hbm, ⟨21, _⟩ => ⟨S16x8x512x256, .bf16⟩
  | .hbm, ⟨22, _⟩ => ⟨S16x512x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S8x256x512, .f32⟩
  | .local _ .vmem, ⟨9, _⟩ => ⟨S8x256x512, .f32⟩
  | .local _ .vmem, ⟨10, _⟩ => ⟨S8x256x512, .bf16⟩
  | .local _ .vmem, ⟨11, _⟩ => ⟨S8x256x512, .bf16⟩
  | .local _ .vmem, ⟨12, _⟩ => ⟨S8x64x512, .f32⟩
  | _, _ => ⟨S16x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_mult1 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32 : BitVec 32 := 256#32
  let v42 : BitVec 32 := Scalar.muli v37 c256_i32
  v42
def k0_off1 (i : grid0.Coords) : Fin 3 → Nat :=
  let c0_12 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32 : BitVec 32 := 256#32
  let v42 : BitVec 32 := Scalar.muli v37 c256_i32
  let v43 : BitVec 32 := v42
  let v44 : Index := Scalar.indexCast v43
  let c0_13 : Index := 0#32
  ![0, v44.toNat, 0]
def k0_mult2 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_17 : BitVec 32 := 256#32
  let v52 : BitVec 32 := Scalar.muli v37 c256_i32_17
  v52
def k0_mult3 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_23 : BitVec 32 := 256#32
  let v62 : BitVec 32 := Scalar.muli v37 c256_i32_23
  v62
def k0_off2 (i : grid0.Coords) : Fin 3 → Nat :=
  let c0_24 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_23 : BitVec 32 := 256#32
  let v62 : BitVec 32 := Scalar.muli v37 c256_i32_23
  let v63 : BitVec 32 := v62
  let v64 : Index := Scalar.indexCast v63
  let c128 : Index := 128#32
  ![0, v64.toNat, 128]
def k0_mult4 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_28 : BitVec 32 := 256#32
  let v72 : BitVec 32 := Scalar.muli v37 c256_i32_28
  v72
def k0_mult5 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_34 : BitVec 32 := 256#32
  let v82 : BitVec 32 := Scalar.muli v37 c256_i32_34
  v82
def k0_off3 (i : grid0.Coords) : Fin 3 → Nat :=
  let c0_35 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_34 : BitVec 32 := 256#32
  let v82 : BitVec 32 := Scalar.muli v37 c256_i32_34
  let v83 : BitVec 32 := v82
  let v84 : Index := Scalar.indexCast v83
  let c256_36 : Index := 256#32
  ![0, v84.toNat, 256]
def k0_mult6 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_40 : BitVec 32 := 256#32
  let v92 : BitVec 32 := Scalar.muli v37 c256_i32_40
  v92
def k0_mult7 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_46 : BitVec 32 := 256#32
  let v102 : BitVec 32 := Scalar.muli v37 c256_i32_46
  v102
def k0_off4 (i : grid0.Coords) : Fin 3 → Nat :=
  let c0_47 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_46 : BitVec 32 := 256#32
  let v102 : BitVec 32 := Scalar.muli v37 c256_i32_46
  let v103 : BitVec 32 := v102
  let v104 : Index := Scalar.indexCast v103
  let c384 : Index := 384#32
  ![0, v104.toNat, 384]
def k0_mult8 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c256_i32_51 : BitVec 32 := 256#32
  let v112 : BitVec 32 := Scalar.muli v37 c256_i32_51
  v112
def k0_mult9 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_67 : BitVec 32 := 256#32
  let v133 : BitVec 32 := Scalar.muli v132 c256_i32_67
  v133
def k0_off5 (i : grid0.Coords) (c0_i32 : BitVec 32) : Fin 3 → Nat :=
  let c0_68 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_67 : BitVec 32 := 256#32
  let v133 : BitVec 32 := Scalar.muli v132 c256_i32_67
  let v134 : BitVec 32 := v133
  let v135 : Index := Scalar.indexCast v134
  let c0_69 : Index := 0#32
  ![0, v135.toNat, 0]
def k0_mult10 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_74 : BitVec 32 := 256#32
  let v142 : BitVec 32 := Scalar.muli v132 c256_i32_74
  v142
def k0_mult11 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_81 : BitVec 32 := 256#32
  let v151 : BitVec 32 := Scalar.muli v132 c256_i32_81
  v151
def k0_off6 (i : grid0.Coords) (c0_i32 : BitVec 32) : Fin 3 → Nat :=
  let c0_82 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_81 : BitVec 32 := 256#32
  let v151 : BitVec 32 := Scalar.muli v132 c256_i32_81
  let v152 : BitVec 32 := v151
  let v153 : Index := Scalar.indexCast v152
  let c128_83 : Index := 128#32
  ![0, v153.toNat, 128]
def k0_mult12 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_88 : BitVec 32 := 256#32
  let v160 : BitVec 32 := Scalar.muli v132 c256_i32_88
  v160
def k0_mult13 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_95 : BitVec 32 := 256#32
  let v169 : BitVec 32 := Scalar.muli v132 c256_i32_95
  v169
def k0_off7 (i : grid0.Coords) (c0_i32 : BitVec 32) : Fin 3 → Nat :=
  let c0_96 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_95 : BitVec 32 := 256#32
  let v169 : BitVec 32 := Scalar.muli v132 c256_i32_95
  let v170 : BitVec 32 := v169
  let v171 : Index := Scalar.indexCast v170
  let c256_97 : Index := 256#32
  ![0, v171.toNat, 256]
def k0_mult14 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_102 : BitVec 32 := 256#32
  let v178 : BitVec 32 := Scalar.muli v132 c256_i32_102
  v178
def k0_mult15 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_109 : BitVec 32 := 256#32
  let v187 : BitVec 32 := Scalar.muli v132 c256_i32_109
  v187
def k0_off8 (i : grid0.Coords) (c0_i32 : BitVec 32) : Fin 3 → Nat :=
  let c0_110 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_109 : BitVec 32 := 256#32
  let v187 : BitVec 32 := Scalar.muli v132 c256_i32_109
  let v188 : BitVec 32 := v187
  let v189 : Index := Scalar.indexCast v188
  let c384_111 : Index := 384#32
  ![0, v189.toNat, 384]
def k0_mult16 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c0_i32 : BitVec 32 := 0#32
  let v130 : BitVec 32 := Scalar.subi v37 c0_i32
  let c1_i32_65 : BitVec 32 := 1#32
  let v131 : BitVec 32 := Scalar.subi v130 c1_i32_65
  let c0_i32_66 : BitVec 32 := 0#32
  let v132 : BitVec 32 := Scalar.maxsi v131 c0_i32_66
  let c256_i32_116 : BitVec 32 := 256#32
  let v196 : BitVec 32 := Scalar.muli v132 c256_i32_116
  v196
def k0_mult17 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_254 : BitVec 32 := 256#32
  let v496 : BitVec 32 := Scalar.muli v495 c256_i32_254
  v496
def k0_mult18 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_261 : BitVec 32 := 256#32
  let v505 : BitVec 32 := Scalar.muli v495 c256_i32_261
  v505
def k0_mult19 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_268 : BitVec 32 := 256#32
  let v514 : BitVec 32 := Scalar.muli v495 c256_i32_268
  v514
def k0_mult20 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_275 : BitVec 32 := 256#32
  let v523 : BitVec 32 := Scalar.muli v495 c256_i32_275
  v523
def k0_mult21 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_282 : BitVec 32 := 256#32
  let v532 : BitVec 32 := Scalar.muli v495 c256_i32_282
  v532
def k0_mult22 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_289 : BitVec 32 := 256#32
  let v541 : BitVec 32 := Scalar.muli v495 c256_i32_289
  v541
def k0_mult23 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_296 : BitVec 32 := 256#32
  let v550 : BitVec 32 := Scalar.muli v495 c256_i32_296
  v550
def k0_mult24 (i : grid0.Coords) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_252 : BitVec 32 := 1#32
  let v494 : BitVec 32 := Scalar.subi v493 c1_i32_252
  let c0_i32_253 : BitVec 32 := 0#32
  let v495 : BitVec 32 := Scalar.maxsi v494 c0_i32_253
  let c256_i32_303 : BitVec 32 := 256#32
  let v559 : BitVec 32 := Scalar.muli v495 c256_i32_303
  v559
def k0_off9 (i : grid0.Coords) : Fin 4 → Nat :=
  let c0_314 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v571 : Index := Scalar.indexCast v568
  let c0_315 : Index := 0#32
  let c0_316 : Index := 0#32
  ![0, v571.toNat, 0, 0]
def k0_off10 (i : grid0.Coords) : Fin 4 → Nat :=
  let c0_327 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v583 : Index := Scalar.indexCast v568
  let c64 : Index := 64#32
  let c0_328 : Index := 0#32
  ![0, v583.toNat, 64, 0]
def k0_off11 (i : grid0.Coords) : Fin 4 → Nat :=
  let c0_339 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v595 : Index := Scalar.indexCast v568
  let c128_340 : Index := 128#32
  let c0_341 : Index := 0#32
  ![0, v595.toNat, 128, 0]
def k0_off12 (i : grid0.Coords) : Fin 4 → Nat :=
  let c0_352 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v607 : Index := Scalar.indexCast v568
  let c192 : Index := 192#32
  let c0_353 : Index := 0#32
  ![0, v607.toNat, 192, 0]
def k0_off13 (i : grid0.Coords) : Fin 4 → Nat :=
  let c0_364 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v619 : Index := Scalar.indexCast v568
  let c256_365 : Index := 256#32
  let c0_366 : Index := 0#32
  ![0, v619.toNat, 256, 0]
def k0_off14 (i : grid0.Coords) : Fin 4 → Nat :=
  let c0_377 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v631 : Index := Scalar.indexCast v568
  let c320 : Index := 320#32
  let c0_378 : Index := 0#32
  ![0, v631.toNat, 320, 0]
def k0_off15 (i : grid0.Coords) : Fin 4 → Nat :=
  let c0_389 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v643 : Index := Scalar.indexCast v568
  let c384_390 : Index := 384#32
  let c0_391 : Index := 0#32
  ![0, v643.toNat, 384, 0]
def k0_off16 (i : grid0.Coords) : Fin 4 → Nat :=
  let c0_402 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c1_i32_251 : BitVec 32 := 1#32
  let v493 : BitVec 32 := Scalar.subi v37 c1_i32_251
  let c1_i32_310 : BitVec 32 := 1#32
  let v568 : BitVec 32 := Scalar.addi v493 c1_i32_310
  let v655 : Index := Scalar.indexCast v568
  let c448 : Index := 448#32
  let c0_403 : Index := 0#32
  ![0, v655.toNat, 448, 0]
@[reducible] def k0_t1_loop (i : grid0.Coords) : Scf.Loop 32 :=
  let c0_i32_539 : BitVec 32 := 0#32
  let arg2 : BitVec 32 := BitVec.ofNat 32 (i 2).val
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_541 : BitVec 32 := 1#32
  ⟨c0_i32_539, v925, c1_i32_541⟩
def k0_mult25 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_707 : BitVec 32 := 256#32
  let v1069 : BitVec 32 := Scalar.muli v1068 c256_i32_707
  v1069
def k0_off17 (i : grid0.Coords) (k0_t1 : Fin (k0_t1_loop i).trips) (c2_i32_704 : BitVec 32) : Fin 3 → Nat :=
  let c0_708 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_707 : BitVec 32 := 256#32
  let v1069 : BitVec 32 := Scalar.muli v1068 c256_i32_707
  let v1070 : BitVec 32 := v1069
  let v1071 : Index := Scalar.indexCast v1070
  let c0_709 : Index := 0#32
  ![0, v1071.toNat, 0]
def k0_mult26 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_714 : BitVec 32 := 256#32
  let v1078 : BitVec 32 := Scalar.muli v1068 c256_i32_714
  v1078
def k0_mult27 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_721 : BitVec 32 := 256#32
  let v1087 : BitVec 32 := Scalar.muli v1068 c256_i32_721
  v1087
def k0_off18 (i : grid0.Coords) (k0_t1 : Fin (k0_t1_loop i).trips) (c2_i32_704 : BitVec 32) : Fin 3 → Nat :=
  let c0_722 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_721 : BitVec 32 := 256#32
  let v1087 : BitVec 32 := Scalar.muli v1068 c256_i32_721
  let v1088 : BitVec 32 := v1087
  let v1089 : Index := Scalar.indexCast v1088
  let c128_723 : Index := 128#32
  ![0, v1089.toNat, 128]
def k0_mult28 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_728 : BitVec 32 := 256#32
  let v1096 : BitVec 32 := Scalar.muli v1068 c256_i32_728
  v1096
def k0_mult29 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_735 : BitVec 32 := 256#32
  let v1105 : BitVec 32 := Scalar.muli v1068 c256_i32_735
  v1105
def k0_off19 (i : grid0.Coords) (k0_t1 : Fin (k0_t1_loop i).trips) (c2_i32_704 : BitVec 32) : Fin 3 → Nat :=
  let c0_736 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_735 : BitVec 32 := 256#32
  let v1105 : BitVec 32 := Scalar.muli v1068 c256_i32_735
  let v1106 : BitVec 32 := v1105
  let v1107 : Index := Scalar.indexCast v1106
  let c256_737 : Index := 256#32
  ![0, v1107.toNat, 256]
def k0_mult30 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_742 : BitVec 32 := 256#32
  let v1114 : BitVec 32 := Scalar.muli v1068 c256_i32_742
  v1114
def k0_mult31 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_749 : BitVec 32 := 256#32
  let v1123 : BitVec 32 := Scalar.muli v1068 c256_i32_749
  v1123
def k0_off20 (i : grid0.Coords) (k0_t1 : Fin (k0_t1_loop i).trips) (c2_i32_704 : BitVec 32) : Fin 3 → Nat :=
  let c0_750 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_749 : BitVec 32 := 256#32
  let v1123 : BitVec 32 := Scalar.muli v1068 c256_i32_749
  let v1124 : BitVec 32 := v1123
  let v1125 : Index := Scalar.indexCast v1124
  let c384_751 : Index := 384#32
  ![0, v1125.toNat, 384]
def k0_mult32 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_756 : BitVec 32 := 256#32
  let v1132 : BitVec 32 := Scalar.muli v1068 c256_i32_756
  v1132
def k0_off21 (i : grid0.Coords) (k0_t1 : Fin (k0_t1_loop i).trips) (c2_i32_704 : BitVec 32) : Fin 4 → Nat :=
  let c0_767 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1144 : Index := Scalar.indexCast v1141
  let c0_768 : Index := 0#32
  let c0_769 : Index := 0#32
  ![0, v1144.toNat, 0, 0]
def k0_off22 (i : grid0.Coords) (k0_t1 : Fin (k0_t1_loop i).trips) (c2_i32_704 : BitVec 32) : Fin 4 → Nat :=
  let c0_780 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1156 : Index := Scalar.indexCast v1141
  let c64_781 : Index := 64#32
  let c0_782 : Index := 0#32
  ![0, v1156.toNat, 64, 0]
def k0_off23 (i : grid0.Coords) (k0_t1 : Fin (k0_t1_loop i).trips) (c2_i32_704 : BitVec 32) : Fin 4 → Nat :=
  let c0_793 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1168 : Index := Scalar.indexCast v1141
  let c128_794 : Index := 128#32
  let c0_795 : Index := 0#32
  ![0, v1168.toNat, 128, 0]
def k0_off24 (i : grid0.Coords) (k0_t1 : Fin (k0_t1_loop i).trips) (c2_i32_704 : BitVec 32) : Fin 4 → Nat :=
  let c0_806 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1180 : Index := Scalar.indexCast v1141
  let c192_807 : Index := 192#32
  let c0_808 : Index := 0#32
  ![0, v1180.toNat, 192, 0]
def k0_off25 (i : grid0.Coords) (k0_t1 : Fin (k0_t1_loop i).trips) (c2_i32_704 : BitVec 32) : Fin 4 → Nat :=
  let c0_819 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1192 : Index := Scalar.indexCast v1141
  let c256_820 : Index := 256#32
  let c0_821 : Index := 0#32
  ![0, v1192.toNat, 256, 0]
def k0_off26 (i : grid0.Coords) (k0_t1 : Fin (k0_t1_loop i).trips) (c2_i32_704 : BitVec 32) : Fin 4 → Nat :=
  let c0_832 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1204 : Index := Scalar.indexCast v1141
  let c320_833 : Index := 320#32
  let c0_834 : Index := 0#32
  ![0, v1204.toNat, 320, 0]
def k0_off27 (i : grid0.Coords) (k0_t1 : Fin (k0_t1_loop i).trips) (c2_i32_704 : BitVec 32) : Fin 4 → Nat :=
  let c0_845 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1216 : Index := Scalar.indexCast v1141
  let c384_846 : Index := 384#32
  let c0_847 : Index := 0#32
  ![0, v1216.toNat, 384, 0]
def k0_off28 (i : grid0.Coords) (k0_t1 : Fin (k0_t1_loop i).trips) (c2_i32_704 : BitVec 32) : Fin 4 → Nat :=
  let c0_858 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let c1_i32_541 : BitVec 32 := 1#32
  let arg12 : BitVec 32 := Scf.iv c0_i32_539 c1_i32_541 k0_t1
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1228 : Index := Scalar.indexCast v1141
  let c448_859 : Index := 448#32
  let c0_860 : Index := 0#32
  ![0, v1228.toNat, 448, 0]
def k0_mult33 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_983 : BitVec 32 := 256#32
  let v1467 : BitVec 32 := Scalar.muli v1466 c256_i32_983
  v1467
def k0_mult34 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_990 : BitVec 32 := 256#32
  let v1476 : BitVec 32 := Scalar.muli v1466 c256_i32_990
  v1476
def k0_mult35 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_997 : BitVec 32 := 256#32
  let v1485 : BitVec 32 := Scalar.muli v1466 c256_i32_997
  v1485
def k0_mult36 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1004 : BitVec 32 := 256#32
  let v1494 : BitVec 32 := Scalar.muli v1466 c256_i32_1004
  v1494
def k0_mult37 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1011 : BitVec 32 := 256#32
  let v1503 : BitVec 32 := Scalar.muli v1466 c256_i32_1011
  v1503
def k0_mult38 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1018 : BitVec 32 := 256#32
  let v1512 : BitVec 32 := Scalar.muli v1466 c256_i32_1018
  v1512
def k0_mult39 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1025 : BitVec 32 := 256#32
  let v1521 : BitVec 32 := Scalar.muli v1466 c256_i32_1025
  v1521
def k0_mult40 (i : grid0.Coords) (k0_t1 : Fin (k0_t1_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let c1_i32_541 : BitVec 32 := 1#32
  let arg12 : BitVec 32 := Scf.iv c0_i32_539 c1_i32_541 k0_t1
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1032 : BitVec 32 := 256#32
  let v1530 : BitVec 32 := Scalar.muli v1466 c256_i32_1032
  v1530
@[reducible] def k0_t2_loop (i : grid0.Coords) : Scf.Loop 32 :=
  let c0_i32_539 : BitVec 32 := 0#32
  let arg2 : BitVec 32 := BitVec.ofNat 32 (i 2).val
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let v922 : BitVec 32 := Scalar.addi c0_i32_539 v921
  let c1_i32_542 : BitVec 32 := 1#32
  ⟨v925, v922, c1_i32_542⟩
def k0_mult41 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_707 : BitVec 32 := 256#32
  let v1069 : BitVec 32 := Scalar.muli v1068 c256_i32_707
  v1069
def k0_off29 (i : grid0.Coords) (k0_t2 : Fin (k0_t2_loop i).trips) (c2_i32_704 : BitVec 32) : Fin 3 → Nat :=
  let c0_708 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_707 : BitVec 32 := 256#32
  let v1069 : BitVec 32 := Scalar.muli v1068 c256_i32_707
  let v1070 : BitVec 32 := v1069
  let v1071 : Index := Scalar.indexCast v1070
  let c0_709 : Index := 0#32
  ![0, v1071.toNat, 0]
def k0_mult42 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_714 : BitVec 32 := 256#32
  let v1078 : BitVec 32 := Scalar.muli v1068 c256_i32_714
  v1078
def k0_mult43 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_721 : BitVec 32 := 256#32
  let v1087 : BitVec 32 := Scalar.muli v1068 c256_i32_721
  v1087
def k0_off30 (i : grid0.Coords) (k0_t2 : Fin (k0_t2_loop i).trips) (c2_i32_704 : BitVec 32) : Fin 3 → Nat :=
  let c0_722 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_721 : BitVec 32 := 256#32
  let v1087 : BitVec 32 := Scalar.muli v1068 c256_i32_721
  let v1088 : BitVec 32 := v1087
  let v1089 : Index := Scalar.indexCast v1088
  let c128_723 : Index := 128#32
  ![0, v1089.toNat, 128]
def k0_mult44 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_728 : BitVec 32 := 256#32
  let v1096 : BitVec 32 := Scalar.muli v1068 c256_i32_728
  v1096
def k0_mult45 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_735 : BitVec 32 := 256#32
  let v1105 : BitVec 32 := Scalar.muli v1068 c256_i32_735
  v1105
def k0_off31 (i : grid0.Coords) (k0_t2 : Fin (k0_t2_loop i).trips) (c2_i32_704 : BitVec 32) : Fin 3 → Nat :=
  let c0_736 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_735 : BitVec 32 := 256#32
  let v1105 : BitVec 32 := Scalar.muli v1068 c256_i32_735
  let v1106 : BitVec 32 := v1105
  let v1107 : Index := Scalar.indexCast v1106
  let c256_737 : Index := 256#32
  ![0, v1107.toNat, 256]
def k0_mult46 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_742 : BitVec 32 := 256#32
  let v1114 : BitVec 32 := Scalar.muli v1068 c256_i32_742
  v1114
def k0_mult47 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_749 : BitVec 32 := 256#32
  let v1123 : BitVec 32 := Scalar.muli v1068 c256_i32_749
  v1123
def k0_off32 (i : grid0.Coords) (k0_t2 : Fin (k0_t2_loop i).trips) (c2_i32_704 : BitVec 32) : Fin 3 → Nat :=
  let c0_750 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_749 : BitVec 32 := 256#32
  let v1123 : BitVec 32 := Scalar.muli v1068 c256_i32_749
  let v1124 : BitVec 32 := v1123
  let v1125 : Index := Scalar.indexCast v1124
  let c384_751 : Index := 384#32
  ![0, v1125.toNat, 384]
def k0_mult48 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let c2_i32_704 : BitVec 32 := 2#32
  let v1065 : BitVec 32 := Scalar.addi v1064 c2_i32_704
  let v1066 : BitVec 32 := Scalar.subi v37 v1065
  let c1_i32_705 : BitVec 32 := 1#32
  let v1067 : BitVec 32 := Scalar.subi v1066 c1_i32_705
  let c0_i32_706 : BitVec 32 := 0#32
  let v1068 : BitVec 32 := Scalar.maxsi v1067 c0_i32_706
  let c256_i32_756 : BitVec 32 := 256#32
  let v1132 : BitVec 32 := Scalar.muli v1068 c256_i32_756
  v1132
def k0_off33 (i : grid0.Coords) (k0_t2 : Fin (k0_t2_loop i).trips) (c2_i32_704 : BitVec 32) : Fin 4 → Nat :=
  let c0_767 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1144 : Index := Scalar.indexCast v1141
  let c0_768 : Index := 0#32
  let c0_769 : Index := 0#32
  ![0, v1144.toNat, 0, 0]
def k0_off34 (i : grid0.Coords) (k0_t2 : Fin (k0_t2_loop i).trips) (c2_i32_704 : BitVec 32) : Fin 4 → Nat :=
  let c0_780 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1156 : Index := Scalar.indexCast v1141
  let c64_781 : Index := 64#32
  let c0_782 : Index := 0#32
  ![0, v1156.toNat, 64, 0]
def k0_off35 (i : grid0.Coords) (k0_t2 : Fin (k0_t2_loop i).trips) (c2_i32_704 : BitVec 32) : Fin 4 → Nat :=
  let c0_793 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1168 : Index := Scalar.indexCast v1141
  let c128_794 : Index := 128#32
  let c0_795 : Index := 0#32
  ![0, v1168.toNat, 128, 0]
def k0_off36 (i : grid0.Coords) (k0_t2 : Fin (k0_t2_loop i).trips) (c2_i32_704 : BitVec 32) : Fin 4 → Nat :=
  let c0_806 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1180 : Index := Scalar.indexCast v1141
  let c192_807 : Index := 192#32
  let c0_808 : Index := 0#32
  ![0, v1180.toNat, 192, 0]
def k0_off37 (i : grid0.Coords) (k0_t2 : Fin (k0_t2_loop i).trips) (c2_i32_704 : BitVec 32) : Fin 4 → Nat :=
  let c0_819 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1192 : Index := Scalar.indexCast v1141
  let c256_820 : Index := 256#32
  let c0_821 : Index := 0#32
  ![0, v1192.toNat, 256, 0]
def k0_off38 (i : grid0.Coords) (k0_t2 : Fin (k0_t2_loop i).trips) (c2_i32_704 : BitVec 32) : Fin 4 → Nat :=
  let c0_832 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1204 : Index := Scalar.indexCast v1141
  let c320_833 : Index := 320#32
  let c0_834 : Index := 0#32
  ![0, v1204.toNat, 320, 0]
def k0_off39 (i : grid0.Coords) (k0_t2 : Fin (k0_t2_loop i).trips) (c2_i32_704 : BitVec 32) : Fin 4 → Nat :=
  let c0_845 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1216 : Index := Scalar.indexCast v1141
  let c384_846 : Index := 384#32
  let c0_847 : Index := 0#32
  ![0, v1216.toNat, 384, 0]
def k0_off40 (i : grid0.Coords) (k0_t2 : Fin (k0_t2_loop i).trips) (c2_i32_704 : BitVec 32) : Fin 4 → Nat :=
  let c0_858 : Index := 0#32
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_703 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1064 : BitVec 32 := Scalar.muli c2_i32_703 arg12
  let v1065 : BitVec 32 := Scalar.addi v1064 c2_i32_704
  let v1066 : BitVec 32 := Scalar.subi v37 v1065
  let c1_i32_763 : BitVec 32 := 1#32
  let v1141 : BitVec 32 := Scalar.addi v1066 c1_i32_763
  let v1228 : Index := Scalar.indexCast v1141
  let c448_859 : Index := 448#32
  let c0_860 : Index := 0#32
  ![0, v1228.toNat, 448, 0]
def k0_mult49 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_983 : BitVec 32 := 256#32
  let v1467 : BitVec 32 := Scalar.muli v1466 c256_i32_983
  v1467
def k0_mult50 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_990 : BitVec 32 := 256#32
  let v1476 : BitVec 32 := Scalar.muli v1466 c256_i32_990
  v1476
def k0_mult51 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_997 : BitVec 32 := 256#32
  let v1485 : BitVec 32 := Scalar.muli v1466 c256_i32_997
  v1485
def k0_mult52 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1004 : BitVec 32 := 256#32
  let v1494 : BitVec 32 := Scalar.muli v1466 c256_i32_1004
  v1494
def k0_mult53 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1011 : BitVec 32 := 256#32
  let v1503 : BitVec 32 := Scalar.muli v1466 c256_i32_1011
  v1503
def k0_mult54 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1018 : BitVec 32 := 256#32
  let v1512 : BitVec 32 := Scalar.muli v1466 c256_i32_1018
  v1512
def k0_mult55 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1025 : BitVec 32 := 256#32
  let v1521 : BitVec 32 := Scalar.muli v1466 c256_i32_1025
  v1521
def k0_mult56 (i : grid0.Coords) (k0_t2 : Fin (k0_t2_loop i).trips) : BitVec 32 :=
  let c2_i32 : BitVec 32 := 2#32
  let arg2 : BitVec 32 := BitVec.ofNat 32 (i 2).val
  let v36 : BitVec 32 := Scalar.muli c2_i32 arg2
  let c1_i32 : BitVec 32 := 1#32
  let v37 : BitVec 32 := Scalar.addi v36 c1_i32
  let c2_i32_980 : BitVec 32 := 2#32
  let c0_i32_539 : BitVec 32 := 0#32
  let v921 : BitVec 32 := Scalar.subi arg2 c0_i32_539
  let c1_i32_540 : BitVec 32 := 1#32
  let v923 : BitVec 32 := Scalar.divsi v921 c1_i32_540
  let v924 : BitVec 32 := Scalar.muli v923 c1_i32_540
  let v925 : BitVec 32 := Scalar.addi c0_i32_539 v924
  let c1_i32_542 : BitVec 32 := 1#32
  let arg12 : BitVec 32 := Scf.iv v925 c1_i32_542 k0_t2
  let v1462 : BitVec 32 := Scalar.muli c2_i32_980 arg12
  let c3_i32 : BitVec 32 := 3#32
  let v1463 : BitVec 32 := Scalar.addi v1462 c3_i32
  let v1464 : BitVec 32 := Scalar.subi v37 v1463
  let c1_i32_981 : BitVec 32 := 1#32
  let v1465 : BitVec 32 := Scalar.subi v1464 c1_i32_981
  let c0_i32_982 : BitVec 32 := 0#32
  let v1466 : BitVec 32 := Scalar.maxsi v1465 c0_i32_982
  let c256_i32_1032 : BitVec 32 := 256#32
  let v1530 : BitVec 32 := Scalar.muli v1466 c256_i32_1032
  v1530
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "minus_scale" => some (((-1 / 8) * (Real.log 2)⁻¹ : ℝ) : EReal)
  | _ => none
-- ==== ReferenceIdeal.lean ====
abbrev S16x2048x2304 : Shape := ⟨3, ![16, 2048, 2304]⟩
abbrev S16x2048x512 : Shape := ⟨3, ![16, 2048, 512]⟩
abbrev S16x2048x8x64 : Shape := ⟨4, ![16, 2048, 8, 64]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x64x2048 : Shape := ⟨4, ![16, 8, 64, 2048]⟩
abbrev S16x512x2048 : Shape := ⟨3, ![16, 512, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x2304, .f32⟩
  | .hbm, ⟨1, _⟩ => ⟨S16x2048x512, .f32⟩
  | .hbm, ⟨2, _⟩ => ⟨S16x2048x8x64, .f32⟩
  | .hbm, ⟨3, _⟩ => ⟨S16x2048x512, .f32⟩
  | .hbm, ⟨4, _⟩ => ⟨S16x2048x8x64, .f32⟩
  | .hbm, ⟨5, _⟩ => ⟨S16x2048x512, .f32⟩
  | .hbm, ⟨6, _⟩ => ⟨S16x2048x8x64, .f32⟩
  | .hbm, ⟨7, _⟩ => ⟨S16x8x2048x2048, .f32⟩
  | .hbm, ⟨8, _⟩ => ⟨S_, .f32⟩
  | .hbm, ⟨9, _⟩ => ⟨S16x8x2048x2048, .f32⟩
  | .hbm, ⟨10, _⟩ => ⟨S16x8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x8x2048x2048, .f32⟩
  | .hbm, ⟨19, _⟩ => ⟨S16x8x2048x2048, .f32⟩
  | .hbm, ⟨20, _⟩ => ⟨S_, .f32⟩
  | .hbm, ⟨21, _⟩ => ⟨S16x8x2048x2048, .f32⟩
  | .hbm, ⟨22, _⟩ => ⟨S16x8x2048x2048, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .i1⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S_, .f32⟩
  | .hbm, ⟨37, _⟩ => ⟨S16x8x2048x2048, .i1⟩
  | .hbm, ⟨38, _⟩ => ⟨S16x8x2048x2048, .f32⟩
  | .hbm, ⟨39, _⟩ => ⟨S16x8x2048x2048, .f32⟩
  | .hbm, ⟨40, _⟩ => ⟨S_, .f32⟩
  | .hbm, ⟨41, _⟩ => ⟨S_, .f32⟩
  | .hbm, ⟨42, _⟩ => ⟨S16x8x2048x2048, .f32⟩
  | .hbm, ⟨43, _⟩ => ⟨S16x8x2048x2048, .f32⟩
  | .hbm, ⟨44, _⟩ => ⟨S16x8x2048x2048, .f32⟩
  | .hbm, ⟨45, _⟩ => ⟨S_, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .i1⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S_, .f32⟩
  | .hbm, ⟨63, _⟩ => ⟨S_, .f32⟩
  | .hbm, ⟨64, _⟩ => ⟨S16x8x2048x2048, .i1⟩
  | .hbm, ⟨65, _⟩ => ⟨S16x8x2048x2048, .f32⟩
  | .hbm, ⟨66, _⟩ => ⟨S16x8x2048x2048, .f32⟩
  | .hbm, ⟨67, _⟩ => ⟨S16x8x64x2048, .f32⟩
  | .hbm, ⟨68, _⟩ => ⟨S16x2048x8x64, .f32⟩
  | .hbm, ⟨69, _⟩ => ⟨S16x2048x512, .f32⟩
  | .hbm, ⟨70, _⟩ => ⟨S16x512x2048, .f32⟩
  | .hbm, ⟨71, _⟩ => ⟨S16x512x2048, .bf16⟩
  | _, _ => ⟨S16x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1x1x1024 : Shape := ⟨3, ![1, 1, 1024]⟩
abbrev S1024 : Shape := ⟨1, ![1024]⟩
abbrev S1x1024 : Shape := ⟨2, ![1, 1024]⟩
abbrev S16x1024x2048 : Shape := ⟨3, ![16, 1024, 2048]⟩
abbrev S1024x1024 : Shape := ⟨2, ![1024, 1024]⟩
abbrev S1x1024x512 : Shape := ⟨3, ![1, 1024, 512]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S1024x512 : Shape := ⟨2, ![1024, 512]⟩
abbrev S512x1024 : Shape := ⟨2, ![512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 32
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x3x1024, .f32⟩
  | .hbm, ⟨3, _⟩ => ⟨S2x3x1024, .f32⟩
  | .hbm, ⟨4, _⟩ => ⟨S2x1024x5632, .f32⟩
  | .hbm, ⟨5, _⟩ => ⟨S2x2816x1024, .f32⟩
  | .hbm, ⟨6, _⟩ => ⟨S1x1024x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S1x1x1024, .f32⟩
  | .hbm, ⟨20, _⟩ => ⟨S1024, .f32⟩
  | .hbm, ⟨21, _⟩ => ⟨S1x1024, .f32⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S2x1024x5632, .bf16⟩
  | .hbm, ⟨26, _⟩ => ⟨S2x2816x1024, .bf16⟩
  | .hbm, ⟨27, _⟩ => ⟨S16x1024x2048, .f32⟩
  | .hbm, ⟨28, _⟩ => ⟨S16x1024x2048, .bf16⟩
  | .hbm, ⟨29, _⟩ => ⟨S1024x1024, .f32⟩
  | .hbm, ⟨30, _⟩ => ⟨S1024x1024, .bf16⟩
  | .hbm, ⟨31, _⟩ => ⟨S16x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x2816, .bf16⟩
  | .local _ .vmem, ⟨8, _⟩ => ⟨S1x1024x2816, .bf16⟩
  | .local _ .vmem, ⟨9, _⟩ => ⟨S1x2816x1024, .bf16⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S_ : Shape := ⟨0, ![]⟩
abbrev S1024x1024 : Shape := ⟨2, ![1024, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x3x1024, .f32⟩
  | .hbm, ⟨3, _⟩ => ⟨S2x3x1024, .f32⟩
  | .hbm, ⟨4, _⟩ => ⟨S2x1024x5632, .f32⟩
  | .hbm, ⟨5, _⟩ => ⟨S2x2816x1024, .f32⟩
  | .hbm, ⟨6, _⟩ => ⟨S1x1024x1024, .f32⟩
  | .hbm, ⟨7, _⟩ => ⟨S_, .f32⟩
  | .hbm, ⟨8, _⟩ => ⟨S16x2048x1024, .f32⟩
  | .hbm, ⟨9, _⟩ => ⟨S16x2048x1024, .f32⟩
  | .hbm, ⟨10, _⟩ => ⟨S1024x1024, .f32⟩
  | .hbm, ⟨11, _⟩ => ⟨S16x2048x1024, .f32⟩
  | .hbm, ⟨12, _⟩ => ⟨S16x2048x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048x1024, .f32⟩
  | .hbm, ⟨48, _⟩ => ⟨S16x2048x1024, .f32⟩
  | .hbm, ⟨49, _⟩ => ⟨S1x1024x5632, .f32⟩
  | .hbm, ⟨50, _⟩ => ⟨S1024x5632, .f32⟩
  | .hbm, ⟨51, _⟩ => ⟨S1x2816x1024, .f32⟩
  | .hbm, ⟨52, _⟩ => ⟨S2816x1024, .f32⟩
  | .hbm, ⟨53, _⟩ => ⟨S16x2048x5632, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S1x1x1024, .f32⟩
  | .hbm, ⟨72, _⟩ => ⟨S1024, .f32⟩
  | .hbm, ⟨73, _⟩ => ⟨S1x1x1024, .f32⟩
  | .hbm, ⟨74, _⟩ => ⟨S1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x2048, .f32⟩
  | .hbm, ⟨86, _⟩ => ⟨S16x2048x1, .f32⟩
  | .hbm, ⟨87, _⟩ => ⟨S_, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S1x1x1024, .f32⟩
  | .hbm, ⟨102, _⟩ => ⟨S16x2048x1024, .f32⟩
  | .hbm, ⟨103, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1x1x1024 : Shape := ⟨3, ![1, 1, 1024]⟩
abbrev S1024 : Shape := ⟨1, ![1024]⟩
abbrev S1x1024 : Shape := ⟨2, ![1, 1024]⟩
abbrev S16x2048x512 : Shape := ⟨3, ![16, 2048, 512]⟩
abbrev S16x512x2048 : Shape := ⟨3, ![16, 512, 2048]⟩
abbrev S1024x1024 : Shape := ⟨2, ![1024, 1024]⟩
abbrev S1x512x512 : Shape := ⟨3, ![1, 512, 512]⟩
abbrev S1x512x1024 : Shape := ⟨3, ![1, 512, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512x512 : Shape := ⟨2, ![512, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 35
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x3x1024, .f32⟩
  | .hbm, ⟨3, _⟩ => ⟨S2x3x1024, .f32⟩
  | .hbm, ⟨4, _⟩ => ⟨S2x1024x5632, .f32⟩
  | .hbm, ⟨5, _⟩ => ⟨S2x2816x1024, .f32⟩
  | .hbm, ⟨6, _⟩ => ⟨S1x1024x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S1x1x1024, .f32⟩
  | .hbm, ⟨20, _⟩ => ⟨S1024, .f32⟩
  | .hbm, ⟨21, _⟩ => ⟨S1x1024, .f32⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S2x1024x5632, .bf16⟩
  | .hbm, ⟨26, _⟩ => ⟨S2x2816x1024, .bf16⟩
  | .hbm, ⟨27, _⟩ => ⟨S16x2048x512, .f32⟩
  | .hbm, ⟨28, _⟩ => ⟨S16x512x2048, .f32⟩
  | .hbm, ⟨29, _⟩ => ⟨S16x512x2048, .bf16⟩
  | .hbm, ⟨30, _⟩ => ⟨S16x2048x512, .f32⟩
  | .hbm, ⟨31, _⟩ => ⟨S16x2048x512, .bf16⟩
  | .hbm, ⟨32, _⟩ => ⟨S1024x1024, .f32⟩
  | .hbm, ⟨33, _⟩ => ⟨S1024x1024, .bf16⟩
  | .hbm, ⟨34, _⟩ => ⟨S16x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S_ : Shape := ⟨0, ![]⟩
abbrev S1024x1024 : Shape := ⟨2, ![1024, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x3x1024, .f32⟩
  | .hbm, ⟨3, _⟩ => ⟨S2x3x1024, .f32⟩
  | .hbm, ⟨4, _⟩ => ⟨S2x1024x5632, .f32⟩
  | .hbm, ⟨5, _⟩ => ⟨S2x2816x1024, .f32⟩
  | .hbm, ⟨6, _⟩ => ⟨S1x1024x1024, .f32⟩
  | .hbm, ⟨7, _⟩ => ⟨S_, .f32⟩
  | .hbm, ⟨8, _⟩ => ⟨S16x2048x1024, .f32⟩
  | .hbm, ⟨9, _⟩ => ⟨S16x2048x1024, .f32⟩
  | .hbm, ⟨10, _⟩ => ⟨S1024x1024, .f32⟩
  | .hbm, ⟨11, _⟩ => ⟨S16x2048x1024, .f32⟩
  | .hbm, ⟨12, _⟩ => ⟨S16x2048x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048x1024, .f32⟩
  | .hbm, ⟨48, _⟩ => ⟨S16x2048x1024, .f32⟩
  | .hbm, ⟨49, _⟩ => ⟨S1x1024x5632, .f32⟩
  | .hbm, ⟨50, _⟩ => ⟨S1024x5632, .f32⟩
  | .hbm, ⟨51, _⟩ => ⟨S1x2816x1024, .f32⟩
  | .hbm, ⟨52, _⟩ => ⟨S2816x1024, .f32⟩
  | .hbm, ⟨53, _⟩ => ⟨S16x2048x5632, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S1x1x1024, .f32⟩
  | .hbm, ⟨72, _⟩ => ⟨S1024, .f32⟩
  | .hbm, ⟨73, _⟩ => ⟨S1x1x1024, .f32⟩
  | .hbm, ⟨74, _⟩ => ⟨S1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x2048, .f32⟩
  | .hbm, ⟨86, _⟩ => ⟨S16x2048x1, .f32⟩
  | .hbm, ⟨87, _⟩ => ⟨S_, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S1x1x1024, .f32⟩
  | .hbm, ⟨102, _⟩ => ⟨S16x2048x1024, .f32⟩
  | .hbm, ⟨103, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Kernel4.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x2304 : Shape := ⟨3, ![1, 1024, 2304]⟩
abbrev S1x1x1024 : Shape := ⟨3, ![1, 1, 1024]⟩
abbrev S1024 : Shape := ⟨1, ![1024]⟩
abbrev S1x1024 : Shape := ⟨2, ![1, 1024]⟩
abbrev S1024x2304 : Shape := ⟨2, ![1024, 2304]⟩
abbrev S1024x512 : Shape := ⟨2, ![1024, 512]⟩
abbrev S1024x128 : Shape := ⟨2, ![1024, 128]⟩
abbrev S1024x2x64 : Shape := ⟨3, ![1024, 2, 64]⟩
abbrev S1024x2x2x64 : Shape := ⟨4, ![1024, 2, 2, 64]⟩
abbrev S1024x4x64 : Shape := ⟨3, ![1024, 4, 64]⟩
abbrev S1024x256 : Shape := ⟨2, ![1024, 256]⟩
abbrev S1024x1536 : Shape := ⟨2, ![1024, 1536]⟩
abbrev S512x1024 : Shape := ⟨2, ![512, 1024]⟩
abbrev S1024x1024 : Shape := ⟨2, ![1024, 1024]⟩
abbrev S16x2048x1536 : Shape := ⟨3, ![16, 2048, 1536]⟩
abbrev S16x512x2048 : Shape := ⟨3, ![16, 512, 2048]⟩
abbrev S16x8x512x256 : Shape := ⟨4, ![16, 8, 512, 256]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S1x512x1536 : Shape := ⟨3, ![1, 512, 1536]⟩
abbrev S1x512x512 : Shape := ⟨3, ![1, 512, 512]⟩
abbrev S1x2x512x256 : Shape := ⟨4, ![1, 2, 512, 256]⟩
abbrev S1x256x1024 : Shape := ⟨3, ![1, 256, 1024]⟩
abbrev S256x1024 : Shape := ⟨2, ![256, 1024]⟩
abbrev S1024x2816 : Shape := ⟨2, ![1024, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩
abbrev S512x1536 : Shape := ⟨2, ![512, 1536]⟩
abbrev S512x512 : Shape := ⟨2, ![512, 512]⟩
abbrev S512x256 : Shape := ⟨2, ![512, 256]⟩
abbrev S1x1x512x256 : Shape := ⟨4, ![1, 1, 512, 256]⟩

abbrev nBuf : Space → Nat
  | .hbm => 52
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S2x3x1024, .f32⟩
  | .hbm, ⟨2, _⟩ => ⟨S2x3x1024, .f32⟩
  | .hbm, ⟨3, _⟩ => ⟨S2x1024x5632, .f32⟩
  | .hbm, ⟨4, _⟩ => ⟨S2x2816x1024, .f32⟩
  | .hbm, ⟨5, _⟩ => ⟨S1x1024x2304, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S2x1024x5632, .bf16⟩
  | .hbm, ⟨25, _⟩ => ⟨S2x2816x1024, .bf16⟩
  | .hbm, ⟨26, _⟩ => ⟨S1024x2304, .f32⟩
  | .hbm, ⟨27, _⟩ => ⟨S1024x512, .f32⟩
  | .hbm, ⟨28, _⟩ => ⟨S1024x512, .f32⟩
  | .hbm, ⟨29, _⟩ => ⟨S1024x128, .f32⟩
  | .hbm, ⟨30, _⟩ => ⟨S1024x2x64, .f32⟩
  | .hbm, ⟨31, _⟩ => ⟨S1024x2x2x64, .f32⟩
  | .hbm, ⟨32, _⟩ => ⟨S1024x4x64, .f32⟩
  | .hbm, ⟨33, _⟩ => ⟨S1024x256, .f32⟩
  | .hbm, ⟨34, _⟩ => ⟨S1024x128, .f32⟩
  | .hbm, ⟨35, _⟩ => ⟨S1024x2x64, .f32⟩
  | .hbm, ⟨36, _⟩ => ⟨S1024x2x2x64, .f32⟩
  | .hbm, ⟨37, _⟩ => ⟨S1024x4x64, .f32⟩
  | .hbm, ⟨38, _⟩ => ⟨S1024x256, .f32⟩
  | .hbm, ⟨39, _⟩ => ⟨S1024x1536, .f32⟩
  | .hbm, ⟨40, _⟩ => ⟨S1024x1536, .bf16⟩
  | .hbm, ⟨41, _⟩ => ⟨S1024x512, .f32⟩
  | .hbm, ⟨42, _⟩ => ⟨S512x1024, .f32⟩
  | .hbm, ⟨43, _⟩ => ⟨S512x1024, .bf16⟩
  | .hbm, ⟨44, _⟩ => ⟨S1024x512, .f32⟩
  | .hbm, ⟨45, _⟩ => ⟨S512x1024, .f32⟩
  | .hbm, ⟨46, _⟩ => ⟨S512x1024, .bf16⟩
  | .hbm, ⟨47, _⟩ => ⟨S1024x1024, .bf16⟩
  | .hbm, ⟨48, _⟩ => ⟨S16x2048x1024, .f32⟩
  | .hbm, ⟨49, _⟩ => ⟨S16x2048x1536, .bf16⟩
  | .hbm, ⟨50, _⟩ => ⟨S16x512x2048, .bf16⟩
  | .hbm, ⟨51, _⟩ => ⟨S16x8x512x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1536, .bf16⟩
  | .local _ .vmem, ⟨12, _⟩ => ⟨S1x512x1536, .bf16⟩
  | .local _ .vmem, ⟨13, _⟩ => ⟨S1x512x512, .bf16⟩
  | .local _ .vmem, ⟨14, _⟩ => ⟨S1x512x512, .bf16⟩
  | .local _ .vmem, ⟨15, _⟩ => ⟨S1x2x512x256, .bf16⟩
  | .local _ .vmem, ⟨16, _⟩ => ⟨S1x2x512x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42_0 : Ref sig .tc := ⟨.hbm, 48, rfl⟩
abbrev main_v42_1 : Ref sig .tc := ⟨.hbm, 49, rfl⟩
abbrev main_v42_2 : Ref sig .tc := ⟨.hbm, 50, rfl⟩
abbrev main_v42_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x2304 : Shape := ⟨3, ![1, 1024, 2304]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1024x2304 : Shape := ⟨2, ![1024, 2304]⟩
abbrev S16x2048x2304 : Shape := ⟨3, ![16, 2048, 2304]⟩
abbrev S16x2048x512 : Shape := ⟨3, ![16, 2048, 512]⟩
abbrev S16x2048x128 : Shape := ⟨3, ![16, 2048, 128]⟩
abbrev S16x2048x2x64 : Shape := ⟨4, ![16, 2048, 2, 64]⟩
abbrev S16x2048x2x2x64 : Shape := ⟨5, ![16, 2048, 2, 2, 64]⟩
abbrev S16x2048x4x64 : Shape := ⟨4, ![16, 2048, 4, 64]⟩
abbrev S16x2048x256 : Shape := ⟨3, ![16, 2048, 256]⟩
abbrev S16x2048x1536 : Shape := ⟨3, ![16, 2048, 1536]⟩
abbrev S16x512x2048 : Shape := ⟨3, ![16, 512, 2048]⟩
abbrev S16x8x256x512 : Shape := ⟨4, ![16, 8, 256, 512]⟩
abbrev S16x8x512x256 : Shape := ⟨4, ![16, 8, 512, 256]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x3x1024, .f32⟩
  | .hbm, ⟨2, _⟩ => ⟨S2x3x1024, .f32⟩
  | .hbm, ⟨3, _⟩ => ⟨S2x1024x5632, .f32⟩
  | .hbm, ⟨4, _⟩ => ⟨S2x2816x1024, .f32⟩
  | .hbm, ⟨5, _⟩ => ⟨S1x1024x2304, .f32⟩
  | .hbm, ⟨6, _⟩ => ⟨S_, .f32⟩
  | .hbm, ⟨7, _⟩ => ⟨S16x2048x1024, .f32⟩
  | .hbm, ⟨8, _⟩ => ⟨S16x2048x1024, .f32⟩
  | .hbm, ⟨9, _⟩ => ⟨S1x1024x5632, .f32⟩
  | .hbm, ⟨10, _⟩ => ⟨S1024x5632, .f32⟩
  | .hbm, ⟨11, _⟩ => ⟨S1x2816x1024, .f32⟩
  | .hbm, ⟨12, _⟩ => ⟨S2816x1024, .f32⟩
  | .hbm, ⟨13, _⟩ => ⟨S16x2048x5632, .f32⟩
  | .hbm, ⟨14, _⟩ => ⟨S16x2048x2816, .f32⟩
  | .hbm, ⟨15, _⟩ => ⟨S16x2048x2816, .f32⟩
  | .hbm, ⟨16, _⟩ => ⟨S16x2048x2816, .f32⟩
  | .hbm, ⟨17, _⟩ => ⟨S16x2048x2816, .f32⟩
  | .hbm, ⟨18, _⟩ => ⟨S_, .f32⟩
  | .hbm, ⟨19, _⟩ => ⟨S16x2048x2816, .f32⟩
  | .hbm, ⟨20, _⟩ => ⟨S16x2048x2816, .f32⟩
  | .hbm, ⟨21, _⟩ => ⟨S_, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S16x2048x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | .hbm, ⟨64, _⟩ => ⟨S1024x2304, .f32⟩
  | .hbm, ⟨65, _⟩ => ⟨S16x2048x2304, .f32⟩
  | .hbm, ⟨66, _⟩ => ⟨S16x2048x512, .f32⟩
  | .hbm, ⟨67, _⟩ => ⟨S16x2048x512, .f32⟩
  | .hbm, ⟨68, _⟩ => ⟨S16x2048x512, .f32⟩
  | .hbm, ⟨69, _⟩ => ⟨S16x2048x512, .f32⟩
  | .hbm, ⟨70, _⟩ => ⟨S16x2048x128, .f32⟩
  | .hbm, ⟨71, _⟩ => ⟨S16x2048x128, .f32⟩
  | .hbm, ⟨72, _⟩ => ⟨S16x2048x2x64, .f32⟩
  | .hbm, ⟨73, _⟩ => ⟨S16x2048x2x2x64, .f32⟩
  | .hbm, ⟨74, _⟩ => ⟨S16x2048x4x64, .f32⟩
  | .hbm, ⟨75, _⟩ => ⟨S16x2048x256, .f32⟩
  | .hbm, ⟨76, _⟩ => ⟨S16x2048x2x64, .f32⟩
  | .hbm, ⟨77, _⟩ => ⟨S16x2048x2x2x64, .f32⟩
  | .hbm, ⟨78, _⟩ => ⟨S16x2048x4x64, .f32⟩
  | .hbm, ⟨79, _⟩ => ⟨S16x2048x256, .f32⟩
  | .hbm, ⟨80, _⟩ => ⟨S16x2048x1536, .f32⟩
  | .hbm, ⟨81, _⟩ => ⟨S_, .f32⟩
  | .hbm, ⟨82, _⟩ => ⟨S16x2048x512, .f32⟩
  | .hbm, ⟨83, _⟩ => ⟨S16x2048x512, .f32⟩
  | .hbm, ⟨84, _⟩ => ⟨S16x512x2048, .f32⟩
  | .hbm, ⟨85, _⟩ => ⟨S16x8x256x512, .f32⟩
  | .hbm, ⟨86, _⟩ => ⟨S16x8x512x256, .f32⟩
  | .hbm, ⟨87, _⟩ => ⟨S16x2048x1536, .bf16⟩
  | .hbm, ⟨88, _⟩ => ⟨S16x512x2048, .bf16⟩
  | .hbm, ⟨89, _⟩ => ⟨S16x8x512x256, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x3088 : Shape := ⟨3, ![1, 1024, 3088]⟩
abbrev S1x1x1024 : Shape := ⟨3, ![1, 1, 1024]⟩
abbrev S1024 : Shape := ⟨1, ![1024]⟩
abbrev S1x1024 : Shape := ⟨2, ![1, 1024]⟩
abbrev S1024x3088 : Shape := ⟨2, ![1024, 3088]⟩
abbrev S1024x1024 : Shape := ⟨2, ![1024, 1024]⟩
abbrev S1024x16 : Shape := ⟨2, ![1024, 16]⟩
abbrev S1x1024x1x16 : Shape := ⟨4, ![1, 1024, 1, 16]⟩
abbrev S1x1024x3x16 : Shape := ⟨4, ![1, 1024, 3, 16]⟩
abbrev S1024x48 : Shape := ⟨2, ![1024, 48]⟩
abbrev S_ : Shape := ⟨0, ![]⟩
abbrev S1024x128 : Shape := ⟨2, ![1024, 128]⟩
abbrev S1024x1152 : Shape := ⟨2, ![1024, 1152]⟩
abbrev S2048x1024 : Shape := ⟨2, ![2048, 1024]⟩
abbrev S16x1024x2048 : Shape := ⟨3, ![16, 1024, 2048]⟩
abbrev S16x8x1024x256 : Shape := ⟨4, ![16, 8, 1024, 256]⟩
abbrev S16x2048x128 : Shape := ⟨3, ![16, 2048, 128]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S1x1024x512 : Shape := ⟨3, ![1, 1024, 512]⟩
abbrev S1x2x1024x256 : Shape := ⟨4, ![1, 2, 1024, 256]⟩
abbrev S1x512x128 : Shape := ⟨3, ![1, 512, 128]⟩
abbrev S1x256x1024 : Shape := ⟨3, ![1, 256, 1024]⟩
abbrev S256x1024 : Shape := ⟨2, ![256, 1024]⟩
abbrev S1024x2816 : Shape := ⟨2, ![1024, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩
abbrev S512x1024 : Shape := ⟨2, ![512, 1024]⟩
abbrev S512x1152 : Shape := ⟨2, ![512, 1152]⟩
abbrev S512x128 : Shape := ⟨2, ![512, 128]⟩
abbrev S2048x512 : Shape := ⟨2, ![2048, 512]⟩
abbrev S1024x512 : Shape := ⟨2, ![1024, 512]⟩
abbrev S1024x256 : Shape := ⟨2, ![1024, 256]⟩
abbrev S1x1x1024x256 : Shape := ⟨4, ![1, 1, 1024, 256]⟩

abbrev nBuf : Space → Nat
  | .hbm => 49
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S2x3x1024, .f32⟩
  | .hbm, ⟨2, _⟩ => ⟨S2x3x1024, .f32⟩
  | .hbm, ⟨3, _⟩ => ⟨S2x1024x5632, .f32⟩
  | .hbm, ⟨4, _⟩ => ⟨S2x2816x1024, .f32⟩
  | .hbm, ⟨5, _⟩ => ⟨S1x1024x3088, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S2x1024x5632, .bf16⟩
  | .hbm, ⟨25, _⟩ => ⟨S2x2816x1024, .bf16⟩
  | .hbm, ⟨26, _⟩ => ⟨S1024x3088, .f32⟩
  | .hbm, ⟨27, _⟩ => ⟨S1024x1024, .f32⟩
  | .hbm, ⟨28, _⟩ => ⟨S1024x16, .f32⟩
  | .hbm, ⟨29, _⟩ => ⟨S1x1024x1x16, .f32⟩
  | .hbm, ⟨30, _⟩ => ⟨S1x1024x3x16, .f32⟩
  | .hbm, ⟨31, _⟩ => ⟨S1024x48, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x1152, .f32⟩
  | .hbm, ⟨36, _⟩ => ⟨S1024x1152, .bf16⟩
  | .hbm, ⟨37, _⟩ => ⟨S1024x1024, .f32⟩
  | .hbm, ⟨38, _⟩ => ⟨S1024x1024, .f32⟩
  | .hbm, ⟨39, _⟩ => ⟨S1024x1024, .bf16⟩
  | .hbm, ⟨40, _⟩ => ⟨S1024x1024, .f32⟩
  | .hbm, ⟨41, _⟩ => ⟨S1024x1024, .f32⟩
  | .hbm, ⟨42, _⟩ => ⟨S1024x1024, .bf16⟩
  | .hbm, ⟨43, _⟩ => ⟨S2048x1024, .bf16⟩
  | .hbm, ⟨44, _⟩ => ⟨S16x2048x1024, .f32⟩
  | .hbm, ⟨45, _⟩ => ⟨S16x2048x1024, .bf16⟩
  | .hbm, ⟨46, _⟩ => ⟨S16x1024x2048, .bf16⟩
  | .hbm, ⟨47, _⟩ => ⟨S16x8x1024x256, .bf16⟩
  | .hbm, ⟨48, _⟩ => ⟨S16x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1152, .bf16⟩
  | .local _ .vmem, ⟨8, _⟩ => ⟨S2048x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x2x1024x256, .bf16⟩
  | .local _ .vmem, ⟨16, _⟩ => ⟨S1x2x1024x256, .bf16⟩
  | .local _ .vmem, ⟨17, _⟩ => ⟨S1x512x128, .f32⟩
  | .local _ .vmem, ⟨18, _⟩ => ⟨S1x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S16x2048x1024 : Shape := ⟨3, ![16, 2048, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x3088 : Shape := ⟨3, ![1, 1024, 3088]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1024x3088 : Shape := ⟨2, ![1024, 3088]⟩
abbrev S16x2048x3088 : Shape := ⟨3, ![16, 2048, 3088]⟩
abbrev S16x2048x16 : Shape := ⟨3, ![16, 2048, 16]⟩
abbrev S16x1024x2048 : Shape := ⟨3, ![16, 1024, 2048]⟩
abbrev S16x8x256x1024 : Shape := ⟨4, ![16, 8, 256, 1024]⟩
abbrev S16x8x1024x256 : Shape := ⟨4, ![16, 8, 1024, 256]⟩
abbrev S16x2048x80 : Shape := ⟨3, ![16, 2048, 80]⟩
abbrev S16x2048x128 : Shape := ⟨3, ![16, 2048, 128]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x3x1024, .f32⟩
  | .hbm, ⟨2, _⟩ => ⟨S2x3x1024, .f32⟩
  | .hbm, ⟨3, _⟩ => ⟨S2x1024x5632, .f32⟩
  | .hbm, ⟨4, _⟩ => ⟨S2x2816x1024, .f32⟩
  | .hbm, ⟨5, _⟩ => ⟨S1x1024x3088, .f32⟩
  | .hbm, ⟨6, _⟩ => ⟨S_, .f32⟩
  | .hbm, ⟨7, _⟩ => ⟨S16x2048x1024, .f32⟩
  | .hbm, ⟨8, _⟩ => ⟨S16x2048x1024, .f32⟩
  | .hbm, ⟨9, _⟩ => ⟨S1x1024x5632, .f32⟩
  | .hbm, ⟨10, _⟩ => ⟨S1024x5632, .f32⟩
  | .hbm, ⟨11, _⟩ => ⟨S1x2816x1024, .f32⟩
  | .hbm, ⟨12, _⟩ => ⟨S2816x1024, .f32⟩
  | .hbm, ⟨13, _⟩ => ⟨S16x2048x5632, .f32⟩
  | .hbm, ⟨14, _⟩ => ⟨S16x2048x2816, .f32⟩
  | .hbm, ⟨15, _⟩ => ⟨S16x2048x2816, .f32⟩
  | .hbm, ⟨16, _⟩ => ⟨S16x2048x2816, .f32⟩
  | .hbm, ⟨17, _⟩ => ⟨S16x2048x2816, .f32⟩
  | .hbm, ⟨18, _⟩ => ⟨S_, .f32⟩
  | .hbm, ⟨19, _⟩ => ⟨S16x2048x2816, .f32⟩
  | .hbm, ⟨20, _⟩ => ⟨S16x2048x2816, .f32⟩
  | .hbm, ⟨21, _⟩ => ⟨S_, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S16x2048x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | .hbm, ⟨64, _⟩ => ⟨S1024x3088, .f32⟩
  | .hbm, ⟨65, _⟩ => ⟨S16x2048x3088, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x16, .f32⟩
  | .hbm, ⟨70, _⟩ => ⟨S_, .f32⟩
  | .hbm, ⟨71, _⟩ => ⟨S16x2048x1024, .f32⟩
  | .hbm, ⟨72, _⟩ => ⟨S16x2048x1024, .f32⟩
  | .hbm, ⟨73, _⟩ => ⟨S16x1024x2048, .f32⟩
  | .hbm, ⟨74, _⟩ => ⟨S16x8x256x1024, .f32⟩
  | .hbm, ⟨75, _⟩ => ⟨S16x8x1024x256, .f32⟩
  | .hbm, ⟨76, _⟩ => ⟨S_, .f32⟩
  | .hbm, ⟨77, _⟩ => ⟨S16x2048x80, .f32⟩
  | .hbm, ⟨78, _⟩ => ⟨S16x2048x128, .f32⟩
  | .hbm, ⟨79, _⟩ => ⟨S16x2048x1024, .bf16⟩
  | .hbm, ⟨80, _⟩ => ⟨S16x1024x2048, .bf16⟩
  | .hbm, ⟨81, _⟩ => ⟨S16x8x1024x256, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Proof.Frame.lean ====
module

public import proofs.«01_k».proof.Proof.Gen.Kernel.Frame.Runs
public import Idealize.ShloMosaic.Lib.Claim

/-! The stick-breaking kernel over any float values: its body runs at every grid point, and the whole run leaves the
argument as it was. What the body computes is not named here. -/

set_option maxRecDepth 16384

@[expose] public section

noncomputable section

namespace Cert.SbFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2136000 in
/-- The body, from the inputs' blocks and anything in the output's block and the scratch buffers, leaves the inputs as
    they were and something in the others. -/
theorem body_runs (c : Dev nD) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
    (x0 : Vec F S1x512x512 .bf16) (x1 : Vec F S1x2048x512 .bf16) (x2 : Vec F S1x8x512x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp Idealize.ShloMosaic.frame (wpE (defs₀ (F := F)) Variants.none c none) E (cc0_sb_attention i arg3 harg3 arg4 harg4 arg5 harg5 arg6 harg6 arg7 harg7 arg8 harg8 arg9 harg9 arg10 harg10 arg11 harg11) K := by
    intro E K
    simp only [cc0_sb_attention_eq_skeleton]; unfold cc0_sb_attention_skel
    simp only [k0_part77_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The output window: what the body leaves in it is not named here. -/
def unread : Fin 4 → Bool := fun w => w.val == 3

/-- The proof data of the pipeline: the inputs stay at their blocks, of the output nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are those that the region finds. -/
theorem A_eq (c : Dev nD) (w : Fin cfg0.W) : (dats m 0 c).A w = V m c (Pipeline.arrRef spec0 w) := by
  dsimp only [dats]

/-- What the body leaves in the inputs: their blocks. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- What the body finds in the inputs: their blocks. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What a point's body is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply ((body_runs c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

/-- The body table's row at a point. -/
theorem row_eq (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ unread := fun t => by
  rw [bigSep_W0, bigSep_W0, row_eq]
  exact triple_restated (sound_body m c t) rfl .rfl fun _ => .rfl

set_option backward.isDefEq.respectTransparency.types false in
/-- Every run ends with the inputs as they were and every semaphore at zero. -/
theorem run_main_quiescent : θ_run defs (onTc (τ := τ) (main (F := F))) (s₀ m ρ) (fun r => (Pipeline.RDat.FramePost (cfgs 0) (fun c => (dats m 0 c).toRForget unread) (V m)) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget unread) (V m)) :=
  (θ_run defs _ _).mono (fun _ h => h.1) (run_main_quiescent m ρ)

/-- The argument ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) (run_main m ρ)

/-- The kernel leaves its argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.SbFrame

end
-- ==== Proof.Blocks.lean ====
module

public import proofs.«01_k».proof.Proof.Gen.KernelIdeal.Skeleton
public import Idealize.ShloMosaic.Lib.Pointwise
public import Idealize.ShloMosaic.Lib.VecWindow

@[expose] public section

set_option maxRecDepth 16384

noncomputable section

namespace Cert.Sb

open Cert.KernelIdeal Cert.KernelIdeal.Gen Idealize.ShloMosaic Idealize.ShloMosaic.TcCoe

/-- The named constant log2(e), as the kernel reads it. -/
def lg2e : EReal := Named.named (F := Ideal) Cert.KernelIdeal.κ "log2e" (φ := .f32) 1069066811#32

/-- What the kernel takes for the logarithm, base 2, of the sigmoid of a score given in base 2. -/
def lsig (z : EReal) : EReal := min z 0 - Ideal.log (1 + Ideal.exp2 (0 - max z (-z))) * lg2e

/-- The signed comparison of two small numbers is theirs. -/
theorem ofBool_slt {a b : ℕ} (ha : a < 2 ^ 31) (hb : b < 2 ^ 31) :
    IntOp.cmpi CmpIPredicate.slt (BitVec.ofNat 32 a) (BitVec.ofNat 32 b) = 1#1 ↔ a < b := by
  have e : (BitVec.ofNat 32 a).slt (BitVec.ofNat 32 b) = decide (a < b) := by
    rw [BitVec.slt_eq_decide]
    simp only [BitVec.toInt, BitVec.toNat_ofNat]
    have h1 : a % 2 ^ 32 = a := by omega
    have h2 : b % 2 ^ 32 = b := by omega
    rw [h1, h2]
    congr 1
    apply propext
    split <;> split <;> omega
  show BitVec.ofBool ((BitVec.ofNat 32 a).slt (BitVec.ofNat 32 b)) = 1#1 ↔ a < b
  rw [e]
  by_cases h : a < b <;> simp [h]

/-- … and so is the one the other way round. -/
theorem ofBool_sge {a b : ℕ} (ha : a < 2 ^ 31) (hb : b < 2 ^ 31) :
    IntOp.cmpi CmpIPredicate.sge (BitVec.ofNat 32 a) (BitVec.ofNat 32 b) = 1#1 ↔ b ≤ a := by
  have e : (BitVec.ofNat 32 b).sle (BitVec.ofNat 32 a) = decide (b ≤ a) := by
    rw [BitVec.sle_eq_decide]
    simp only [BitVec.toInt, BitVec.toNat_ofNat]
    have h1 : a % 2 ^ 32 = a := by omega
    have h2 : b % 2 ^ 32 = b := by omega
    rw [h1, h2]
    congr 1
    apply propext
    split <;> split <;> omega
  show BitVec.ofBool ((BitVec.ofNat 32 b).sle (BitVec.ofNat 32 a)) = 1#1 ↔ b ≤ a
  rw [e]
  by_cases h : b ≤ a <;> simp [h]

theorem scores_apply (w : FVec Ideal S128x512 .bf16) (K : Vec Ideal S1x256x128 .bf16) (r : Fin 256) (t : Fin 512) :
    k0_pay3 (F := Ideal) w K (ix3 (0 : Fin 1) r t) = ∑ k : Fin 128, K (ix3 (0 : Fin 1) r k) * w (ix2 k t) := by
  pointwise [k0_pay3]

theorem scoresLate_apply (w : FVec Ideal S128x512 .bf16) (K : Vec Ideal S1x256x128 .bf16) (r : Fin 256) (t : Fin 256) :
    k0_pay218 (F := Ideal) w K (ix3 (0 : Fin 1) r t) = ∑ k : Fin 128, K (ix3 (0 : Fin 1) r k) * w (ix2 k ⟨256 + t.val, by omega⟩) := by
  pointwise [k0_pay218]

theorem acc_apply (a : Vec Ideal S1x64x512 .f32) (v : Vec Ideal S1x1x64x256 .bf16) (w : Vec Ideal S1x256x512 .bf16) (d : Fin 64) (t : Fin 512) :
    k0_pay12 (F := Ideal) a v w (ix3 (0 : Fin 1) d t)
      = a (ix3 (0 : Fin 1) d t) + ∑ r : Fin 256, v (ix4 (0 : Fin 1) (0 : Fin 1) d r) * w (ix3 (0 : Fin 1) r t) := by
  pointwise [k0_pay12]

theorem accLate_apply (a : Vec Ideal S1x64x256 .f32) (v : Vec Ideal S1x1x64x256 .bf16) (w : Vec Ideal S1x256x256 .bf16) (d : Fin 64) (t : Fin 256) :
    k0_pay293 (F := Ideal) a v w (ix3 (0 : Fin 1) d t)
      = a (ix3 (0 : Fin 1) d t) + ∑ r : Fin 256, v (ix4 (0 : Fin 1) (0 : Fin 1) d r) * w (ix3 (0 : Fin 1) r t) := by
  pointwise [k0_pay293]

theorem incl_apply (u : FVec Ideal S256x256 .bf16) (nz : Vec Ideal S1x256x512 .f32) (r : Fin 256) (t : Fin 512) :
    k0_pay24 (F := Ideal) u nz (ix2 r t) = ∑ x : Fin 256, u (ix2 r x) * lsig (nz (ix3 (0 : Fin 1) x t)) := by
  pointwise [k0_pay24]
  rfl

theorem inclMask_apply (mk : IVec S256x512 1) (u : FVec Ideal S256x256 .bf16) (nz : Vec Ideal S1x256x512 .f32) (r : Fin 256) (t : Fin 512) :
    k0_pay305 (F := Ideal) mk u nz (ix2 r t) = ∑ x : Fin 256, u (ix2 r x) * (if mk (ix2 x t) = 1#1 then lsig (nz (ix3 (0 : Fin 1) x t)) else 0) := by
  pointwise [k0_pay305]
  refine Finset.sum_congr rfl fun x _ => ?_
  show (if mk (ix2 x t) = 1#1 then u (ix2 r x) * _ else 0) = _
  split
  · rfl
  · rw [mul_zero]

theorem inclLate_apply (mk : IVec S256x256 1) (u : FVec Ideal S256x256 .bf16) (nz : Vec Ideal S1x256x256 .f32) (r : Fin 256) (t : Fin 256) :
    k0_pay246 (F := Ideal) mk u nz (ix2 r t) = ∑ x : Fin 256, u (ix2 r x) * (if mk (ix2 x t) = 1#1 then lsig (nz (ix3 (0 : Fin 1) x t)) else 0) := by
  pointwise [k0_pay246]
  refine Finset.sum_congr rfl fun x _ => ?_
  show (if mk (ix2 x t) = 1#1 then u (ix2 r x) * _ else 0) = _
  split
  · rfl
  · rw [mul_zero]

theorem weight_apply (c : FVec Ideal S1x512 .f32) (g : FVec Ideal S256x512 .f32) (nz : Vec Ideal S1x256x512 .f32) (r : Fin 256) (t : Fin 512) :
    k0_pay38 (F := Ideal) c g nz (ix3 (0 : Fin 1) r t) = Ideal.exp2 (g (ix2 r t) + c (ix2 (0 : Fin 1) t) - nz (ix3 (0 : Fin 1) r t)) := by
  pointwise [k0_pay38]
  rfl

theorem weightMask_apply (mk : IVec S256x512 1) (c : FVec Ideal S1x512 .f32) (g : FVec Ideal S256x512 .f32) (nz : Vec Ideal S1x256x512 .f32) (r : Fin 256) (t : Fin 512) :
    k0_pay320 (F := Ideal) mk c g nz (ix3 (0 : Fin 1) r t)
      = if mk (ix2 r t) = 1#1 then Ideal.exp2 (g (ix2 r t) + c (ix2 (0 : Fin 1) t) - nz (ix3 (0 : Fin 1) r t)) else 0 := by
  pointwise [k0_pay320]
  rfl

theorem weightLate_apply (mk : IVec S256x256 1) (c : FVec Ideal S1x512 .f32) (g : FVec Ideal S256x256 .f32) (nz : Vec Ideal S1x256x256 .f32) (r : Fin 256) (t : Fin 256) :
    k0_pay259 (F := Ideal) mk c g nz (ix2 r t)
      = if mk (ix2 r t) = 1#1 then Ideal.exp2 (g (ix2 r t) + c (ix2 (0 : Fin 1) ⟨256 + t.val, by omega⟩) - nz (ix3 (0 : Fin 1) r t)) else 0 := by
  pointwise [k0_pay259]
  rfl

theorem carry_apply (c : FVec Ideal S1x512 .f32) (g : FVec Ideal S256x512 .f32) (t : Fin 512) :
    k0_pay48 (F := Ideal) c g (ix2 (0 : Fin 1) t) = c (ix2 (0 : Fin 1) t) + g (ix2 (0 : Fin 256) t) := by
  pointwise [k0_pay48]

theorem mask_apply (r : Fin 256) (t : Fin 512) : k0_pay213 (ix2 r t) = 1#1 ↔ r.val < t.val := by
  pointwise [k0_pay213]
  have hr := r.isLt
  have ht := t.isLt
  have e := ofBool_slt (a := r.val) (b := t.val) (by omega) (by omega)
  exact e

theorem maskLate_apply (r : Fin 256) (t : Fin 256) : k0_pay214 (ix2 r t) = 1#1 ↔ r.val < t.val := by
  pointwise [k0_pay214]
  exact mask_apply r ⟨t.val, by omega⟩

theorem suffix_apply (r x : Fin 256) : k0_pay215 (F := Ideal) (ix2 r x) = if r.val ≤ x.val then 1 else 0 := by
  pointwise [k0_pay215]
  have hr := r.isLt
  have hx := x.isLt
  show (if IntOp.cmpi CmpIPredicate.sge (BitVec.ofNat 32 x.val) (BitVec.ofNat 32 r.val) = 1#1 then (1 : EReal) else 0) = _
  simp only [ofBool_sge (a := x.val) (b := r.val) (by omega) (by omega)]

theorem zero_apply (h : Fin 8) (d : Fin 64) (t : Fin 512) : k0_pay216 (F := Ideal) (ix3 h d t) = 0 := by
  pointwise [k0_pay216]

theorem sel64 (k : ℕ) (hk : k < 2048) (a b : EReal) : Scalar.select (IntOp.cmpi CmpIPredicate.slt (BitVec.ofNat 32 k) 64#32) a b = if k < 64 then a else b := by
  show (if IntOp.cmpi CmpIPredicate.slt (BitVec.ofNat 32 k) (BitVec.ofNat 32 64) = 1#1 then a else b) = _
  simp only [ofBool_slt (a := k) (b := 64) (by omega) (by omega)]

/-- The query operand of a head: of the pair's 128 features its own 64, scaled; the other head's are zero. -/
def wq (x : Vec Ideal S1x512x512 .bf16) (h : Fin 8) (k : Fin 128) (t : Fin 512) : EReal :=
  if (k.val < 64 ↔ h.val % 2 = 0) then x (ix3 (0 : Fin 1) ⟨128 * (h.val / 2) + k.val, by omega⟩ t) * Named.named (F := Ideal) Cert.KernelIdeal.κ "minus_scale" (φ := .f32) 3191384635#32 else 0

theorem w0_apply (x : Vec Ideal S1x512x512 .bf16) (k : Fin 128) (t : Fin 512) : k0_pay199 (F := Ideal) x (ix2 k t) = wq x 0 k t := by
  pointwise [k0_pay195, k0_pay196, k0_pay197, k0_pay198, k0_pay199]
  have hk := k.isLt
  rw [sel64 _ (by omega)]
  unfold wq
  by_cases h : k.val < 64
  · rw [if_pos h]; rw [if_pos (by simp [h])]
    congr 3 <;> first | rfl | (apply Fin.ext; simp)
  · rw [if_neg h, if_neg (by simp [h])]

theorem w1_apply (x : Vec Ideal S1x512x512 .bf16) (k : Fin 128) (t : Fin 512) : k0_pay200 (F := Ideal) x (ix2 k t) = wq x 1 k t := by
  pointwise [k0_pay195, k0_pay196, k0_pay197, k0_pay198, k0_pay200]
  have hk := k.isLt
  rw [sel64 _ (by omega)]
  unfold wq
  by_cases h : k.val < 64
  · rw [if_pos h]; rw [if_neg (by simp [h])]
  · rw [if_neg h, if_pos (by simp [h])]
    congr 3 <;> first | rfl | (apply Fin.ext; simp)

theorem w2_apply (x : Vec Ideal S1x512x512 .bf16) (k : Fin 128) (t : Fin 512) : k0_pay203 (F := Ideal) x (ix2 k t) = wq x 2 k t := by
  pointwise [k0_pay195, k0_pay196, k0_pay201, k0_pay202, k0_pay203]
  have hk := k.isLt
  rw [sel64 _ (by omega)]
  unfold wq
  by_cases h : k.val < 64
  · rw [if_pos h]; rw [if_pos (by simp [h])]
    congr 3 <;> first | rfl | (apply Fin.ext; simp)
  · rw [if_neg h, if_neg (by simp [h])]

theorem w3_apply (x : Vec Ideal S1x512x512 .bf16) (k : Fin 128) (t : Fin 512) : k0_pay204 (F := Ideal) x (ix2 k t) = wq x 3 k t := by
  pointwise [k0_pay195, k0_pay196, k0_pay201, k0_pay202, k0_pay204]
  have hk := k.isLt
  rw [sel64 _ (by omega)]
  unfold wq
  by_cases h : k.val < 64
  · rw [if_pos h]; rw [if_neg (by simp [h])]
  · rw [if_neg h, if_pos (by simp [h])]
    congr 3 <;> first | rfl | (apply Fin.ext; simp)

theorem w4_apply (x : Vec Ideal S1x512x512 .bf16) (k : Fin 128) (t : Fin 512) : k0_pay207 (F := Ideal) x (ix2 k t) = wq x 4 k t := by
  pointwise [k0_pay195, k0_pay196, k0_pay205, k0_pay206, k0_pay207]
  have hk := k.isLt
  rw [sel64 _ (by omega)]
  unfold wq
  by_cases h : k.val < 64
  · rw [if_pos h]; rw [if_pos (by simp [h])]
    congr 3 <;> first | rfl | (apply Fin.ext; simp)
  · rw [if_neg h, if_neg (by simp [h])]

theorem w5_apply (x : Vec Ideal S1x512x512 .bf16) (k : Fin 128) (t : Fin 512) : k0_pay208 (F := Ideal) x (ix2 k t) = wq x 5 k t := by
  pointwise [k0_pay195, k0_pay196, k0_pay205, k0_pay206, k0_pay208]
  have hk := k.isLt
  rw [sel64 _ (by omega)]
  unfold wq
  by_cases h : k.val < 64
  · rw [if_pos h]; rw [if_neg (by simp [h])]
  · rw [if_neg h, if_pos (by simp [h])]
    congr 3 <;> first | rfl | (apply Fin.ext; simp)

theorem w6_apply (x : Vec Ideal S1x512x512 .bf16) (k : Fin 128) (t : Fin 512) : k0_pay211 (F := Ideal) x (ix2 k t) = wq x 6 k t := by
  pointwise [k0_pay195, k0_pay196, k0_pay209, k0_pay210, k0_pay211]
  have hk := k.isLt
  rw [sel64 _ (by omega)]
  unfold wq
  by_cases h : k.val < 64
  · rw [if_pos h]; rw [if_pos (by simp [h])]
    congr 3 <;> first | rfl | (apply Fin.ext; simp)
  · rw [if_neg h, if_neg (by simp [h])]

theorem w7_apply (x : Vec Ideal S1x512x512 .bf16) (k : Fin 128) (t : Fin 512) : k0_pay212 (F := Ideal) x (ix2 k t) = wq x 7 k t := by
  pointwise [k0_pay195, k0_pay196, k0_pay209, k0_pay210, k0_pay212]
  have hk := k.isLt
  rw [sel64 _ (by omega)]
  unfold wq
  by_cases h : k.val < 64
  · rw [if_pos h]; rw [if_neg (by simp [h])]
  · rw [if_neg h, if_pos (by simp [h])]
    congr 3 <;> first | rfl | (apply Fin.ext; simp)

end Cert.Sb

end
-- ==== Proof.Cols.lean ====
module

public import proofs.«01_k».proof.Proof.Blocks

/-! Stick-breaking attention of one query, column by column: the sums over the keys from a position on, and how a block
of 256 keys extends them. -/

@[expose] public section

noncomputable section

namespace Cert.Sb

open Idealize.ShloMosaic

variable (T E : ℕ) (z v : ℕ → EReal)

/-- What a key keeps of the stick, as a logarithm base 2; keys from the query on keep all. -/
def lk (s : ℕ) : EReal := if s < T then lsig (z s) else 0
/-- What the keys from `s` on, before the end `E`, keep. -/
def suf (s : ℕ) : EReal := ∑ s' ∈ Finset.Ico s E, lk T z s'
/-- The weight of a key. -/
def wt (s : ℕ) : EReal := if s < T then Ideal.exp2 (suf T E z s - z s) else 0
/-- The values from `s0` on, weighed. -/
def outc (s0 : ℕ) : EReal := ∑ s ∈ Finset.Ico s0 E, v s * wt T E z s

theorem sum_block (f : ℕ → EReal) (m : ℕ) : ∑ x : Fin 256, f (256 * m + x.val) = ∑ s ∈ Finset.Ico (256 * m) (256 * (m + 1)), f s := by
  rw [Finset.sum_Ico_eq_sum_range, show 256 * (m + 1) - 256 * m = 256 by omega, Finset.sum_range]

theorem sum_block_from (f : ℕ → EReal) (m r : ℕ) (hr : r < 256) :
    ∑ x : Fin 256, (if r ≤ x.val then (1 : EReal) else 0) * f (256 * m + x.val) = ∑ s ∈ Finset.Ico (256 * m + r) (256 * (m + 1)), f s := by
  have e : ∀ x : Fin 256, (if r ≤ x.val then (1 : EReal) else 0) * f (256 * m + x.val)
      = (fun s => if 256 * m + r ≤ s then f s else 0) (256 * m + x.val) := fun x => by
    by_cases h : r ≤ x.val
    · simp [h]
    · simp [h]
  rw [Finset.sum_congr rfl fun x _ => e x, sum_block (fun s => if 256 * m + r ≤ s then f s else 0), ← Finset.sum_filter]
  congr 1
  ext s
  simp only [Finset.mem_filter, Finset.mem_Ico]
  omega

theorem suf_block (m r : ℕ) (hr : r < 256) (hE : 256 * (m + 1) ≤ E) :
    (∑ x : Fin 256, (if r ≤ x.val then (1 : EReal) else 0) * lk T z (256 * m + x.val)) + suf T E z (256 * (m + 1)) = suf T E z (256 * m + r) := by
  rw [sum_block_from _ m r hr]
  exact Finset.sum_Ico_consecutive _ (by omega) hE

theorem suf_block0 (m : ℕ) (hE : 256 * (m + 1) ≤ E) :
    suf T E z (256 * (m + 1)) + (∑ x : Fin 256, (if 0 ≤ x.val then (1 : EReal) else 0) * lk T z (256 * m + x.val)) = suf T E z (256 * m) := by
  rw [add_comm]; exact suf_block T E z m 0 (by omega) hE

theorem outc_block (m : ℕ) (hE : 256 * (m + 1) ≤ E) :
    outc T E z v (256 * (m + 1)) + ∑ r : Fin 256, v (256 * m + r.val) * wt T E z (256 * m + r.val) = outc T E z v (256 * m) := by
  rw [sum_block (fun s => v s * wt T E z s) m, add_comm]
  exact Finset.sum_Ico_consecutive _ (by omega) hE

/-- Past the query nothing is kept and nothing weighs. -/
theorem suf_late (s : ℕ) (h : T ≤ s) : suf T E z s = 0 := by
  refine Finset.sum_eq_zero fun s' hs => if_neg ?_
  have := (Finset.mem_Ico.mp hs).1; omega
theorem outc_late (s : ℕ) (h : T ≤ s) : outc T E z v s = 0 := by
  refine Finset.sum_eq_zero fun s' hs => ?_
  have := (Finset.mem_Ico.mp hs).1
  rw [wt, if_neg (by omega), mul_zero]
theorem suf_end : suf T E z E = 0 := by simp [suf]
theorem outc_end : outc T E z v E = 0 := by simp [outc]

end Cert.Sb

end
-- ==== Proof.Body.lean ====
module

public import proofs.«01_k».proof.Proof.Gen.KernelIdeal.Frame.Runs

/-! The stick-breaking kernel's body, run once at any grid point: what it leaves in the output's block, as the
list of the stores' pieces, a function of what the scratch buffers held before. -/

set_option maxRecDepth 16384

@[expose] public section

noncomputable section

namespace Cert.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The pieces that the body stores into the output's block, last first, together with the run that leaves them. -/
def body (c : Dev nD) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
    (x0 : Vec F S1x512x512 .bf16) (x1 : Vec F S1x2048x512 .bf16) (x2 : Vec F S1x8x512x256 .bf16) :
    { L : BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S1x512x512 .bf16) //
      ∀ (E : Set ℕ) (K : PUnit → sProp 𝕄) (s6 : BufTy.Contents (Elt F) arg6.view.ty) (s7 : BufTy.Contents (Elt F) arg7.view.ty) (s8 : BufTy.Contents (Elt F) arg8.view.ty) (s9 : BufTy.Contents (Elt F) arg9.view.ty) (s10 : BufTy.Contents (Elt F) arg10.view.ty) (s11 : BufTy.Contents (Elt F) arg11.view.ty),
        iprop(owns (c : Thread nD τ) arg3 fullShare x0 ∗ owns (c : Thread nD τ) arg4 fullShare x1 ∗ owns (c : Thread nD τ) arg5 fullShare x2 ∗ (arg6.view.loc (c : Thread nD τ) ↦[arg6.view.set]{fullShare} s6) ∗ (arg7.view.loc (c : Thread nD τ) ↦[arg7.view.set]{fullShare} s7) ∗ (arg8.view.loc (c : Thread nD τ) ↦[arg8.view.set]{fullShare} s8) ∗ (arg9.view.loc (c : Thread nD τ) ↦[arg9.view.set]{fullShare} s9) ∗ (arg10.view.loc (c : Thread nD τ) ↦[arg10.view.set]{fullShare} s10) ∗ (arg11.view.loc (c : Thread nD τ) ↦[arg11.view.set]{fullShare} s11)
            ∗ (iprop(owns (c : Thread nD τ) arg3 fullShare x0 ∗ owns (c : Thread nD τ) arg4 fullShare x1 ∗ owns (c : Thread nD τ) arg5 fullShare x2 ∗ (arg6.view.loc (c : Thread nD τ) ↦[arg6.view.set]{fullShare} arg6.view.writes (Elt F) s6 (L s7 s8 s9 s10 s11)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_sb_attention i arg3 harg3 arg4 harg4 arg5 harg5 arg6 harg6 arg7 harg7 arg8 harg8 arg9 harg9 arg10 harg10 arg11 harg11) K } := by
  refine ⟨?_, fun E K s6 s7 s8 s9 s10 s11 => ?run⟩
  case run =>
    simp only [cc0_sb_attention_eq_skeleton]; unfold cc0_sb_attention_skel
    simp only [k0_part77_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, H3, HS0, HS1, HS2, HS3, HS4, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Sb

end
-- ==== Proof.Win.lean ====
module

public import Idealize.ShloMosaic.Lib.WritesUnit
public import Idealize.ShloMosaic.Lib.VecWindow

/-! Reading back, window by window, a buffer into which windows have been stored. -/

@[expose] public section

noncomputable section

namespace Cert.Sb

open Idealize.ShloMosaic

variable {sig : RefSig} {κ : Kind} {sp : Space} {s : Shape} {e : EltTy} {Val : EltTy → Type} {n : ℕ}

/-- A window of a buffer, at its offsets. -/
abbrev rect (off : Fin n → Fin s.rank → ℕ) (size : Fin s.rank → ℕ) (inb : ∀ h a, off h a + size a ≤ s.size a) (h : Fin n) : Rect s :=
  Rect.unit (off h) size (inb h)

/-- The stores, one for each of the named windows, the last of them first. -/
abbrev pieces (off : Fin n → Fin s.rank → ℕ) (size : Fin s.rank → ℕ) (inb : ∀ h a, off h a + size a ≤ s.size a)
    (w : (h : Fin n) → (rect off size inb h).shape.Idx → Val e) : List (Fin n) → List (View.Piece Val s e)
  | [] => []
  | h :: l => ⟨rect off size inb h, w h⟩ :: pieces off size inb w l

/-- A window just stored is read back. -/
theorem readAt_hit (v : View sig κ sp s e) (f : v.ty.Contents Val) (off : Fin s.rank → ℕ) (size : Fin s.rank → ℕ)
    (inb : ∀ a, off a + size a ≤ s.size a) (w : (Rect.unit off size inb).shape.Idx → Val e) (L : List (View.Piece Val s e)) :
    v.readAt Val (Rect.unit off size inb).toLoadRect (v.writes Val f ((⟨Rect.unit off size inb, w⟩ : View.Piece Val s e) :: L)) = w := by
  funext x
  rw [View.readAt_apply]
  refine View.read_writes_cons_unit_of_mem v f inb w L _ x rfl fun a => ?_
  show off a + 1 * (x a).val = off a + (x a).val
  rw [one_mul]

/-- A window which the last store does not meet is read as the earlier stores left it. -/
theorem readAt_miss (v : View sig κ sp s e) (f : v.ty.Contents Val) (off off' size size' : Fin s.rank → ℕ)
    (inb : ∀ a, off a + size a ≤ s.size a) (inb' : ∀ a, off' a + size' a ≤ s.size a)
    (w : (Rect.unit off' size' inb').shape.Idx → Val e) (L : List (View.Piece Val s e)) (a : Fin s.rank)
    (ha : off a + size a ≤ off' a ∨ off' a + size' a ≤ off a) :
    v.readAt Val (Rect.unit off size inb).toLoadRect (v.writes Val f ((⟨Rect.unit off' size' inb', w⟩ : View.Piece Val s e) :: L))
      = v.readAt Val (Rect.unit off size inb).toLoadRect (v.writes Val f L) := by
  funext x
  rw [View.readAt_apply, View.readAt_apply]
  refine View.read_writes_cons_unit_of_not_mem v f inb' w L _ rfl a ?_
  have hx : (x a).val < size a := (x a).isLt
  have e : ((Rect.unit off size inb).toLoadRect.idx x a).val = off a + (x a).val := by
    show off a + 1 * (x a).val = _
    rw [one_mul]
  rw [e]
  omega

/-- Of windows which lie apart, each is read back as it was stored. -/
theorem readAt_pieces (off : Fin n → Fin s.rank → ℕ) (size : Fin s.rank → ℕ) (inb : ∀ h a, off h a + size a ≤ s.size a)
    (dj : ∀ h h', h ≠ h' → ∃ a, off h a + size a ≤ off h' a ∨ off h' a + size a ≤ off h a)
    (w : (h : Fin n) → (rect off size inb h).shape.Idx → Val e) (v : View sig κ sp s e) (f : v.ty.Contents Val) (L : List (View.Piece Val s e)) (h : Fin n) :
    ∀ l : List (Fin n), h ∈ l →
      v.readAt Val (rect off size inb h).toLoadRect (v.writes Val f (pieces off size inb w l ++ L)) = w h
  | h' :: l, hm => by
    by_cases e : h = h'
    · subst e
      exact readAt_hit v f (off h) size (inb h) (w h) _
    · obtain ⟨a, ha⟩ := dj h h' e
      exact (readAt_miss v f (off h) (off h') size size (inb h) (inb h') (w h') _ a ha).trans
        (readAt_pieces off size inb dj w v f L h l ((List.mem_cons.mp hm).resolve_left e))

theorem readAt_pieces_miss (off : Fin n → Fin s.rank → ℕ) (size : Fin s.rank → ℕ) (inb : ∀ h a, off h a + size a ≤ s.size a)
    (dj : ∀ h h', h ≠ h' → ∃ a, off h a + size a ≤ off h' a ∨ off h' a + size a ≤ off h a)
    (w : (h : Fin n) → (rect off size inb h).shape.Idx → Val e) (v : View sig κ sp s e) (f : v.ty.Contents Val) (L : List (View.Piece Val s e)) (h : Fin n) :
    ∀ l : List (Fin n), h ∉ l →
      v.readAt Val (rect off size inb h).toLoadRect (v.writes Val f (pieces off size inb w l ++ L)) = v.readAt Val (rect off size inb h).toLoadRect (v.writes Val f L)
  | [], _ => rfl
  | h' :: l, hm => by
    obtain ⟨a, ha⟩ := dj h h' fun e => hm (e ▸ List.mem_cons_self)
    exact (readAt_miss v f (off h) (off h') size size (inb h) (inb h') (w h') _ a ha).trans
      (readAt_pieces_miss off size inb dj w v f L h l fun e => hm (List.mem_cons_of_mem _ e))

/-- Stores each of which is made of what its own window held: last first, over what was stored before. -/
def chain [∀ e, Nonempty (Val e)] (v : View sig κ sp s e) (off : Fin n → Fin s.rank → ℕ) (size : Fin s.rank → ℕ) (inb : ∀ h a, off h a + size a ≤ s.size a)
    (g : (h : Fin n) → ((rect off size inb h).shape.Idx → Val e) → (rect off size inb h).shape.Idx → Val e) (L : List (View.Piece Val s e)) :
    List (Fin n) → List (View.Piece Val s e)
  | [] => L
  | h :: l => ⟨rect off size inb h, g h (v.readCov (chain v off size inb g L l) (rect off size inb h).toLoadRect)⟩ :: chain v off size inb g L l

/-- Where the windows lie apart each sees what was there before any of them was stored. -/
theorem chain_eq [∀ e, Nonempty (Val e)] (v : View sig κ sp s e) (off : Fin n → Fin s.rank → ℕ) (size : Fin s.rank → ℕ) (inb : ∀ h a, off h a + size a ≤ s.size a)
    (dj : ∀ h h', h ≠ h' → ∃ a, off h a + size a ≤ off h' a ∨ off h' a + size a ≤ off h a)
    (g : (h : Fin n) → ((rect off size inb h).shape.Idx → Val e) → (rect off size inb h).shape.Idx → Val e) (L : List (View.Piece Val s e)) :
    ∀ l : List (Fin n), l.Nodup →
      chain v off size inb g L l = pieces off size inb (fun h => g h (v.readCov L (rect off size inb h).toLoadRect)) l ++ L
  | [], _ => rfl
  | h :: l, hn => by
    have ih := chain_eq v off size inb dj g L l (List.nodup_cons.mp hn).2
    show (⟨rect off size inb h, g h (v.readCov (chain v off size inb g L l) (rect off size inb h).toLoadRect)⟩ : View.Piece Val s e) :: chain v off size inb g L l = _
    rw [ih]
    have e2 : v.readCov (pieces off size inb (fun h => g h (v.readCov L (rect off size inb h).toLoadRect)) l ++ L) (rect off size inb h).toLoadRect
        = v.readCov L (rect off size inb h).toLoadRect :=
      readAt_pieces_miss off size inb dj _ v v.junk L h l (List.nodup_cons.mp hn).1
    rw [e2]
    rfl

/-- The eight heads, the last first. -/
abbrev heads : List (Fin 8) := [7, 6, 5, 4, 3, 2, 1, 0]

theorem mem_heads (h : Fin 8) : h ∈ heads := by
  revert h; decide

theorem nodup_heads : heads.Nodup := by decide

end Cert.Sb

end
-- ==== Proof.Trip.lean ====
module

public import proofs.«01_k».proof.Proof.Gen.KernelIdeal.Loops
public import proofs.«01_k».proof.Proof.Win

/-! One trip of the kernel's loop, over all eight heads at once. -/

@[expose] public section

set_option maxRecDepth 16384

noncomputable section

namespace Cert.Sb

open Cert.KernelIdeal Cert.KernelIdeal.Gen Idealize.ShloMosaic Idealize.ShloMosaic.TcCoe

variable {F : FTy → Type} [FloatOps F] [Named F]

/-- Where a head's block lies in the buffers of scores and of weights, and in the accumulator. -/
abbrev offH (h : Fin 8) : Fin 3 → ℕ := ![h.val, 0, 0]

theorem inbS (h : Fin 8) : ∀ a, offH h a + S1x256x512.size a ≤ S8x256x512.size a := by
  have := h.isLt
  intro a; fin_cases a
  · show h.val + 1 ≤ 8; omega
  · exact Nat.le_of_eq rfl
  · exact Nat.le_of_eq rfl
theorem inbA (h : Fin 8) : ∀ a, offH h a + S1x64x512.size a ≤ S8x64x512.size a := by
  have := h.isLt
  intro a; fin_cases a
  · show h.val + 1 ≤ 8; omega
  · exact Nat.le_of_eq rfl
  · exact Nat.le_of_eq rfl

theorem apart (h h' : Fin 8) (hne : h ≠ h') : ∃ a, offH h a + S1x256x512.size a ≤ offH h' a ∨ offH h' a + S1x256x512.size a ≤ offH h a := by
  refine ⟨0, ?_⟩
  show h.val + 1 ≤ h'.val ∨ h'.val + 1 ≤ h.val
  have : h.val ≠ h'.val := fun e => hne (Fin.ext e)
  omega
theorem apartA (h h' : Fin 8) (hne : h ≠ h') : ∃ a, offH h a + S1x64x512.size a ≤ offH h' a ∨ offH h' a + S1x64x512.size a ≤ offH h a :=
  by
  refine ⟨0, ?_⟩
  show h.val + 1 ≤ h'.val ∨ h'.val + 1 ≤ h.val
  have : h.val ≠ h'.val := fun e => hne (Fin.ext e)
  omega

/-- A head's block of the scores (or weights), and of the accumulator. -/
abbrev rS (h : Fin 8) : LoadRect S8x256x512 := (rect (s := S8x256x512) offH S1x256x512.size inbS h).toLoadRect
abbrev rA (h : Fin 8) : LoadRect S8x64x512 := (rect (s := S8x64x512) offH S1x64x512.size inbA h).toLoadRect
/-- The stores of all heads' blocks. -/
abbrev pS {e : EltTy} (w : Fin 8 → Vec F S1x256x512 e) : List (View.Piece (Elt F) S8x256x512 e) := pieces offH S1x256x512.size inbS w heads
abbrev pA (w : Fin 8 → Vec F S1x64x512 .f32) : List (View.Piece (Elt F) S8x64x512 .f32) := pieces offH S1x64x512.size inbA w heads

/-- The carries of all heads as the loop holds them. -/
abbrev tup (C : Fin 8 → FVec F S1x512 .f32) : FVec F S1x512 .f32 × FVec F S1x512 .f32 × FVec F S1x512 .f32 × FVec F S1x512 .f32 × FVec F S1x512 .f32 × FVec F S1x512 .f32 × FVec F S1x512 .f32 × FVec F S1x512 .f32 :=
  (C 0, C 1, C 2, C 3, C 4, C 5, C 6, C 7)

/-- Of the keys' 512 features the 128 of the head's pair, and of the values the head's 64. -/
abbrev pairOf (h : Fin 8) : ℕ := 128 * (h.val / 2)

theorem readS {e : EltTy} {sig : RefSig} {κ : Kind} {sp : Space} (v : View sig κ sp S8x256x512 e) (f : v.ty.Contents (Elt F)) (w : Fin 8 → Vec F S1x256x512 e) (L : List (View.Piece (Elt F) S8x256x512 e)) (h : Fin 8) :
    v.readAt (Elt F) (rS h) (v.writes (Elt F) f (pS w ++ L)) = w h :=
  readAt_pieces (s := S8x256x512) offH S1x256x512.size inbS apart w v f L h heads (mem_heads h)
theorem readA {sig : RefSig} {κ : Kind} {sp : Space} (v : View sig κ sp S8x64x512 .f32) (f : v.ty.Contents (Elt F)) (w : Fin 8 → Vec F S1x64x512 .f32) (L : List (View.Piece (Elt F) S8x64x512 .f32)) (h : Fin 8) :
    v.readAt (Elt F) (rA h) (v.writes (Elt F) f (pA w ++ L)) = w h :=
  readAt_pieces (s := S8x64x512) offH S1x64x512.size inbA apartA w v f L h heads (mem_heads h)
theorem covS {e : EltTy} {sig : RefSig} {κ : Kind} {sp : Space} (v : View sig κ sp S8x256x512 e) (w : Fin 8 → Vec F S1x256x512 e) (h : Fin 8) :
    v.readCov (Val := Elt F) (pS w) (rS h) = w h := readS v _ w [] h
theorem covA {sig : RefSig} {κ : Kind} {sp : Space} (v : View sig κ sp S8x64x512 .f32) (w : Fin 8 → Vec F S1x64x512 .f32) (L : List (View.Piece (Elt F) S8x64x512 .f32)) (h : Fin 8) :
    v.readCov (Val := Elt F) (pA w ++ L) (rA h) = w h := readA v _ w L h

theorem covA' {sig : RefSig} {κ : Kind} {sp : Space} (v : View sig κ sp S8x64x512 .f32) (w : Fin 8 → Vec F S1x64x512 .f32) (h : Fin 8) :
    v.readCov (Val := Elt F) (pA w) (rA h) = w h := readA v _ w [] h

section

variable (i : grid0.Coords) (k : Fin (k0_t1_loop i).trips)

variable (arg4 : Memref sig .tc .vmem S1x2048x512 .bf16) (arg5 : Memref sig .tc .vmem S1x8x512x256 .bf16)

/-- The keys and the values a trip reads for its first block. -/
def keys2 (X4 : BufTy.Contents (Elt F) arg4.view.ty) : Fin 8 → Vec F S1x256x128 .bf16 := ![arg4.view.readAt (Elt F) (Rect.unit (s := S1x2048x512) (k0_off17 i k 2#32) S1x256x128.size (k0_off17_inb i k 0)).toLoadRect X4,
  arg4.view.readAt (Elt F) (Rect.unit (s := S1x2048x512) (k0_off17 i k 2#32) S1x256x128.size (k0_off17_inb i k 0)).toLoadRect X4,
  arg4.view.readAt (Elt F) (Rect.unit (s := S1x2048x512) (k0_off18 i k 2#32) S1x256x128.size (k0_off18_inb i k 0)).toLoadRect X4,
  arg4.view.readAt (Elt F) (Rect.unit (s := S1x2048x512) (k0_off18 i k 2#32) S1x256x128.size (k0_off18_inb i k 0)).toLoadRect X4,
  arg4.view.readAt (Elt F) (Rect.unit (s := S1x2048x512) (k0_off19 i k 2#32) S1x256x128.size (k0_off19_inb i k 0)).toLoadRect X4,
  arg4.view.readAt (Elt F) (Rect.unit (s := S1x2048x512) (k0_off19 i k 2#32) S1x256x128.size (k0_off19_inb i k 0)).toLoadRect X4,
  arg4.view.readAt (Elt F) (Rect.unit (s := S1x2048x512) (k0_off20 i k 2#32) S1x256x128.size (k0_off20_inb i k 0)).toLoadRect X4,
  arg4.view.readAt (Elt F) (Rect.unit (s := S1x2048x512) (k0_off20 i k 2#32) S1x256x128.size (k0_off20_inb i k 0)).toLoadRect X4]
def vals2 (X5 : BufTy.Contents (Elt F) arg5.view.ty) : Fin 8 → Vec F S1x1x64x256 .bf16 := ![arg5.view.readAt (Elt F) (Rect.unit (s := S1x8x512x256) (k0_off21 i k 2#32) S1x1x64x256.size (k0_off21_inb i k 0)).toLoadRect X5,
  arg5.view.readAt (Elt F) (Rect.unit (s := S1x8x512x256) (k0_off22 i k 2#32) S1x1x64x256.size (k0_off22_inb i k 0)).toLoadRect X5,
  arg5.view.readAt (Elt F) (Rect.unit (s := S1x8x512x256) (k0_off23 i k 2#32) S1x1x64x256.size (k0_off23_inb i k 0)).toLoadRect X5,
  arg5.view.readAt (Elt F) (Rect.unit (s := S1x8x512x256) (k0_off24 i k 2#32) S1x1x64x256.size (k0_off24_inb i k 0)).toLoadRect X5,
  arg5.view.readAt (Elt F) (Rect.unit (s := S1x8x512x256) (k0_off25 i k 2#32) S1x1x64x256.size (k0_off25_inb i k 0)).toLoadRect X5,
  arg5.view.readAt (Elt F) (Rect.unit (s := S1x8x512x256) (k0_off26 i k 2#32) S1x1x64x256.size (k0_off26_inb i k 0)).toLoadRect X5,
  arg5.view.readAt (Elt F) (Rect.unit (s := S1x8x512x256) (k0_off27 i k 2#32) S1x1x64x256.size (k0_off27_inb i k 0)).toLoadRect X5,
  arg5.view.readAt (Elt F) (Rect.unit (s := S1x8x512x256) (k0_off28 i k 2#32) S1x1x64x256.size (k0_off28_inb i k 0)).toLoadRect X5]
/-- The keys and the values a trip reads for its second block. -/
def keys3 (X4 : BufTy.Contents (Elt F) arg4.view.ty) : Fin 8 → Vec F S1x256x128 .bf16 := ![arg4.view.readAt (Elt F) (Rect.unit (s := S1x2048x512) (k0_off17 i k 3#32) S1x256x128.size (k0_off17_inb i k 1)).toLoadRect X4,
  arg4.view.readAt (Elt F) (Rect.unit (s := S1x2048x512) (k0_off17 i k 3#32) S1x256x128.size (k0_off17_inb i k 1)).toLoadRect X4,
  arg4.view.readAt (Elt F) (Rect.unit (s := S1x2048x512) (k0_off18 i k 3#32) S1x256x128.size (k0_off18_inb i k 1)).toLoadRect X4,
  arg4.view.readAt (Elt F) (Rect.unit (s := S1x2048x512) (k0_off18 i k 3#32) S1x256x128.size (k0_off18_inb i k 1)).toLoadRect X4,
  arg4.view.readAt (Elt F) (Rect.unit (s := S1x2048x512) (k0_off19 i k 3#32) S1x256x128.size (k0_off19_inb i k 1)).toLoadRect X4,
  arg4.view.readAt (Elt F) (Rect.unit (s := S1x2048x512) (k0_off19 i k 3#32) S1x256x128.size (k0_off19_inb i k 1)).toLoadRect X4,
  arg4.view.readAt (Elt F) (Rect.unit (s := S1x2048x512) (k0_off20 i k 3#32) S1x256x128.size (k0_off20_inb i k 1)).toLoadRect X4,
  arg4.view.readAt (Elt F) (Rect.unit (s := S1x2048x512) (k0_off20 i k 3#32) S1x256x128.size (k0_off20_inb i k 1)).toLoadRect X4]
def vals3 (X5 : BufTy.Contents (Elt F) arg5.view.ty) : Fin 8 → Vec F S1x1x64x256 .bf16 := ![arg5.view.readAt (Elt F) (Rect.unit (s := S1x8x512x256) (k0_off21 i k 3#32) S1x1x64x256.size (k0_off21_inb i k 1)).toLoadRect X5,
  arg5.view.readAt (Elt F) (Rect.unit (s := S1x8x512x256) (k0_off22 i k 3#32) S1x1x64x256.size (k0_off22_inb i k 1)).toLoadRect X5,
  arg5.view.readAt (Elt F) (Rect.unit (s := S1x8x512x256) (k0_off23 i k 3#32) S1x1x64x256.size (k0_off23_inb i k 1)).toLoadRect X5,
  arg5.view.readAt (Elt F) (Rect.unit (s := S1x8x512x256) (k0_off24 i k 3#32) S1x1x64x256.size (k0_off24_inb i k 1)).toLoadRect X5,
  arg5.view.readAt (Elt F) (Rect.unit (s := S1x8x512x256) (k0_off25 i k 3#32) S1x1x64x256.size (k0_off25_inb i k 1)).toLoadRect X5,
  arg5.view.readAt (Elt F) (Rect.unit (s := S1x8x512x256) (k0_off26 i k 3#32) S1x1x64x256.size (k0_off26_inb i k 1)).toLoadRect X5,
  arg5.view.readAt (Elt F) (Rect.unit (s := S1x8x512x256) (k0_off27 i k 3#32) S1x1x64x256.size (k0_off27_inb i k 1)).toLoadRect X5,
  arg5.view.readAt (Elt F) (Rect.unit (s := S1x8x512x256) (k0_off28 i k 3#32) S1x1x64x256.size (k0_off28_inb i k 1)).toLoadRect X5]

variable (u : FVec F S256x256 .bf16) (W : Fin 8 → FVec F S128x512 .bf16)

/-- The inclusive sums, the weights and the carry of one block, of its scores. -/
abbrev inc (s : Vec F S1x256x512 .f32) : FVec F S256x512 .f32 := k0_pay24 u s
abbrev wgt (c : FVec F S1x512 .f32) (s : Vec F S1x256x512 .f32) : FVec F S1x256x512 .bf16 := k0_pay38 c (inc u s) s
abbrev car (c : FVec F S1x512 .f32) (s : Vec F S1x256x512 .f32) : FVec F S1x512 .f32 := k0_pay48 c (inc u s)

end

section

variable (𝒱 : Variants) (c : Dev nD) (bd : Option 𝒱.V) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
  (arg2 : BitVec 32) (W : Fin 8 → FVec F S128x512 .bf16) (u : FVec F S256x256 .bf16) (v27 : IVec S256x512 1) (v37 : BitVec 32) (v478 : FVec F S1x512 .f32) (v480 : FVec F S1x512 .f32) (v482 : FVec F S1x512 .f32) (v484 : FVec F S1x512 .f32) (v486 : FVec F S1x512 .f32) (v488 : FVec F S1x512 .f32) (v490 : FVec F S1x512 .f32) (v492 : FVec F S1x512 .f32) (v682 : FVec F S256x512 .f32) (v700 : FVec F S256x512 .f32) (v718 : FVec F S256x512 .f32) (v736 : FVec F S256x512 .f32) (v754 : FVec F S256x512 .f32) (v772 : FVec F S256x512 .f32) (v790 : FVec F S256x512 .f32) (v808 : FVec F S256x512 .f32) (v894 : FVec F S256x512 .f32)
  (X4 : BufTy.Contents (Elt F) arg4.view.ty) (X5 : BufTy.Contents (Elt F) arg5.view.ty) (k : Fin (k0_t1_loop i).trips)
  (C : Fin 8 → FVec F S1x512 .f32) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

theorem hw8 : Gen.trip_k0_t1.sl.HW_arg8_8 i arg4 (W 0) (W 1) (W 2) (W 3) (W 4) (W 5) (W 6) (W 7) X4 k = pS fun h => (k0_pay3 (W h) (keys2 i k arg4 X4 h)) := rfl
theorem hw9 : Gen.trip_k0_t1.sl.HW_arg9_8 arg7 u (tup C) f7 = pS fun h => wgt u (C h) (arg7.view.readAt (Elt F) (rS h) f7) := rfl
theorem hw11_8 : Gen.trip_k0_t1.sl.HW_arg11_8 i arg5 arg10 arg11 X5 k f10 f11 = pA fun h => k0_pay12 (arg11.view.readAt (Elt F) (rA h) f11) (vals2 i k arg5 X5 h) (arg10.view.readAt (Elt F) (rS h) f10) := rfl

theorem trip_R : tripR_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11
    = tup fun h => car u (car u (C h) (arg7.view.readAt (Elt F) (rS h) f7)) (k0_pay3 (W h) (keys2 i k arg4 X4 h)) := by
  have e : tripR_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11
      = tup fun h => car u (car u (C h) (arg7.view.readAt (Elt F) (rS h) f7)) (arg8.view.readCov (Val := Elt F) (Gen.trip_k0_t1.sl.HW_arg8_8 i arg4 (W 0) (W 1) (W 2) (W 3) (W 4) (W 5) (W 6) (W 7) X4 k) (rS h)) := by
    delta tripR_k0_t1 trip_k0_t1
    rfl
  exact e.trans (congrArg tup (funext fun h => congrArg (car u _) ((congrArg (fun L => arg8.view.readCov (Val := Elt F) L (rS h)) (hw8 ..)).trans (covS _ _ h))))

theorem trip_7 : (tripL_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11).1
    = pS fun h => k0_pay3 (W h) (keys3 i k arg4 X4 h) := by
  delta tripL_k0_t1 trip_k0_t1
  rfl

theorem trip_10 : (tripL_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11).2.2.2.1
    = pS fun h => wgt u (car u (C h) (arg7.view.readAt (Elt F) (rS h) f7)) (k0_pay3 (W h) (keys2 i k arg4 X4 h)) := by
  have e : (tripL_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11).2.2.2.1
      = pS fun h => wgt u (car u (C h) (arg7.view.readAt (Elt F) (rS h) f7)) (arg8.view.readCov (Val := Elt F) (Gen.trip_k0_t1.sl.HW_arg8_8 i arg4 (W 0) (W 1) (W 2) (W 3) (W 4) (W 5) (W 6) (W 7) X4 k) (rS h)) := by
    delta tripL_k0_t1 trip_k0_t1
    rfl
  exact e.trans (congrArg pS (funext fun h => congrArg (wgt u _) ((congrArg (fun L => arg8.view.readCov (Val := Elt F) L (rS h)) (hw8 ..)).trans (covS _ _ h))))

theorem hw11_9 : Gen.trip_k0_t1.sl.HW_arg11_9 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [0] := by
  rfl
theorem hw11_10 : Gen.trip_k0_t1.sl.HW_arg11_10 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [1, 0] := by
  exact congrArg (fun L => (⟨rect (s := S8x64x512) offH S1x64x512.size inbA 1, (fun h a => k0_pay12 (F := F) a (vals3 i k arg5 X5 h) (arg9.view.readCov (Val := Elt F) (Gen.trip_k0_t1.sl.HW_arg9_8 arg7 u (tup C) f7) (rS h))) 1 (arg11.view.readCov (Val := Elt F) L (rA 1))⟩ : View.Piece (Elt F) S8x64x512 .f32) :: L) (hw11_9 ..)
theorem hw11_11 : Gen.trip_k0_t1.sl.HW_arg11_11 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [2, 1, 0] := by
  exact congrArg (fun L => (⟨rect (s := S8x64x512) offH S1x64x512.size inbA 2, (fun h a => k0_pay12 (F := F) a (vals3 i k arg5 X5 h) (arg9.view.readCov (Val := Elt F) (Gen.trip_k0_t1.sl.HW_arg9_8 arg7 u (tup C) f7) (rS h))) 2 (arg11.view.readCov (Val := Elt F) L (rA 2))⟩ : View.Piece (Elt F) S8x64x512 .f32) :: L) (hw11_10 ..)
theorem hw11_12 : Gen.trip_k0_t1.sl.HW_arg11_12 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [3, 2, 1, 0] := by
  exact congrArg (fun L => (⟨rect (s := S8x64x512) offH S1x64x512.size inbA 3, (fun h a => k0_pay12 (F := F) a (vals3 i k arg5 X5 h) (arg9.view.readCov (Val := Elt F) (Gen.trip_k0_t1.sl.HW_arg9_8 arg7 u (tup C) f7) (rS h))) 3 (arg11.view.readCov (Val := Elt F) L (rA 3))⟩ : View.Piece (Elt F) S8x64x512 .f32) :: L) (hw11_11 ..)
theorem hw11_13 : Gen.trip_k0_t1.sl.HW_arg11_13 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [4, 3, 2, 1, 0] := by
  exact congrArg (fun L => (⟨rect (s := S8x64x512) offH S1x64x512.size inbA 4, (fun h a => k0_pay12 (F := F) a (vals3 i k arg5 X5 h) (arg9.view.readCov (Val := Elt F) (Gen.trip_k0_t1.sl.HW_arg9_8 arg7 u (tup C) f7) (rS h))) 4 (arg11.view.readCov (Val := Elt F) L (rA 4))⟩ : View.Piece (Elt F) S8x64x512 .f32) :: L) (hw11_12 ..)
theorem hw11_14 : Gen.trip_k0_t1.sl.HW_arg11_14 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [5, 4, 3, 2, 1, 0] := by
  exact congrArg (fun L => (⟨rect (s := S8x64x512) offH S1x64x512.size inbA 5, (fun h a => k0_pay12 (F := F) a (vals3 i k arg5 X5 h) (arg9.view.readCov (Val := Elt F) (Gen.trip_k0_t1.sl.HW_arg9_8 arg7 u (tup C) f7) (rS h))) 5 (arg11.view.readCov (Val := Elt F) L (rA 5))⟩ : View.Piece (Elt F) S8x64x512 .f32) :: L) (hw11_13 ..)
theorem hw11_15 : Gen.trip_k0_t1.sl.HW_arg11_15 i arg5 arg7 arg9 arg10 arg11 u X5 k (tup C) f7 f10 f11 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [6, 5, 4, 3, 2, 1, 0] := by
  exact congrArg (fun L => (⟨rect (s := S8x64x512) offH S1x64x512.size inbA 6, (fun h a => k0_pay12 (F := F) a (vals3 i k arg5 X5 h) (arg9.view.readCov (Val := Elt F) (Gen.trip_k0_t1.sl.HW_arg9_8 arg7 u (tup C) f7) (rS h))) 6 (arg11.view.readCov (Val := Elt F) L (rA 6))⟩ : View.Piece (Elt F) S8x64x512 .f32) :: L) (hw11_14 ..)
theorem hw11_16 : (tripL_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11).2.2.2.2 = chain arg11.view (s := S8x64x512) offH S1x64x512.size inbA (fun h a => k0_pay12 (F := F) a (vals3 i k arg5 X5 h) (arg9.view.readCov (Val := Elt F) (Gen.trip_k0_t1.sl.HW_arg9_8 arg7 u (tup C) f7) (rS h))) (Gen.trip_k0_t1.sl.HW_arg11_8 i arg5 arg10 arg11 X5 k f10 f11) [7, 6, 5, 4, 3, 2, 1, 0] := by
  delta tripL_k0_t1 trip_k0_t1
  exact congrArg (fun L => (⟨rect (s := S8x64x512) offH S1x64x512.size inbA 7, (fun h a => k0_pay12 (F := F) a (vals3 i k arg5 X5 h) (arg9.view.readCov (Val := Elt F) (Gen.trip_k0_t1.sl.HW_arg9_8 arg7 u (tup C) f7) (rS h))) 7 (arg11.view.readCov (Val := Elt F) L (rA 7))⟩ : View.Piece (Elt F) S8x64x512 .f32) :: L) (hw11_15 ..)

theorem trip_11 : (tripL_k0_t1 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 u v37 v478 v480 v482 v484 v486 v488 v490 v492 v682 v700 v718 v736 v754 v772 v790 v808 v894 X4 X5 k (tup C) f7 f8 f9 f10 f11).2.2.2.2
    = (pA fun h => k0_pay12 (k0_pay12 (arg11.view.readAt (Elt F) (rA h) f11) (vals2 i k arg5 X5 h) (arg10.view.readAt (Elt F) (rS h) f10)) (vals3 i k arg5 X5 h) (wgt u (C h) (arg7.view.readAt (Elt F) (rS h) f7)))
      ++ pA fun h => k0_pay12 (arg11.view.readAt (Elt F) (rA h) f11) (vals2 i k arg5 X5 h) (arg10.view.readAt (Elt F) (rS h) f10) := by
  rw [hw11_16, chain_eq arg11.view (s := S8x64x512) offH S1x64x512.size inbA apartA _ _ heads nodup_heads, hw11_8, hw9]
  exact congrArg (fun w => pA w ++ pA _) (funext fun h => congr (congrArg (fun a => k0_pay12 a (vals3 i k arg5 X5 h)) (covA' _ _ h)) (covS _ _ h))

end
end Cert.Sb

end
-- ==== Proof.Pro.lean ====
module

public import proofs.«01_k».proof.Proof.Body
public import proofs.«01_k».proof.Proof.Trip

/-! The body's stores before and after its loop, over all eight heads at once. -/

@[expose] public section

set_option maxRecDepth 16384
set_option maxHeartbeats 1000000

noncomputable section

namespace Cert.Sb

open Cert.KernelIdeal Cert.KernelIdeal.Gen Idealize.ShloMosaic Idealize.ShloMosaic.TcCoe

variable {F : FTy → Type} [FloatOps F] [Named F]

/-- Where the later half of a head's block lies. -/
abbrev offL (h : Fin 8) : Fin 3 → ℕ := ![h.val, 0, 256]

theorem inbLS (h : Fin 8) : ∀ a, offL h a + S1x256x256.size a ≤ S8x256x512.size a := by
  have := h.isLt
  intro a; fin_cases a
  · show h.val + 1 ≤ 8; omega
  · exact Nat.le_of_eq rfl
  · exact Nat.le_of_eq rfl
theorem inbLA (h : Fin 8) : ∀ a, offL h a + S1x64x256.size a ≤ S8x64x512.size a := by
  have := h.isLt
  intro a; fin_cases a
  · show h.val + 1 ≤ 8; omega
  · exact Nat.le_of_eq rfl
  · exact Nat.le_of_eq rfl
theorem apartL (h h' : Fin 8) (hne : h ≠ h') : ∃ a, offL h a + S1x256x256.size a ≤ offL h' a ∨ offL h' a + S1x256x256.size a ≤ offL h a := by
  refine ⟨0, ?_⟩
  show h.val + 1 ≤ h'.val ∨ h'.val + 1 ≤ h.val
  have : h.val ≠ h'.val := fun e => hne (Fin.ext e)
  omega
theorem apartLA (h h' : Fin 8) (hne : h ≠ h') : ∃ a, offL h a + S1x64x256.size a ≤ offL h' a ∨ offL h' a + S1x64x256.size a ≤ offL h a := by
  refine ⟨0, ?_⟩
  show h.val + 1 ≤ h'.val ∨ h'.val + 1 ≤ h.val
  have : h.val ≠ h'.val := fun e => hne (Fin.ext e)
  omega

abbrev rL (h : Fin 8) : LoadRect S8x256x512 := (rect (s := S8x256x512) offL S1x256x256.size inbLS h).toLoadRect
abbrev rLA (h : Fin 8) : LoadRect S8x64x512 := (rect (s := S8x64x512) offL S1x64x256.size inbLA h).toLoadRect
abbrev pL {e : EltTy} (w : Fin 8 → Vec F S1x256x256 e) : List (View.Piece (Elt F) S8x256x512 e) := pieces offL S1x256x256.size inbLS w heads

theorem covL {e : EltTy} {sig : RefSig} {κ : Kind} {sp : Space} (v : View sig κ sp S8x256x512 e) (w : Fin 8 → Vec F S1x256x256 e) (h : Fin 8) :
    v.readCov (Val := Elt F) (pL w) (rL h) = w h :=
  readAt_pieces (s := S8x256x512) offL S1x256x256.size inbLS apartL w v v.junk [] h heads (mem_heads h)

/-- Where a head's output lies, and where its values of the first block do. -/
abbrev offO (h : Fin 8) : Fin 3 → ℕ := ![0, 64 * h.val, 0]
theorem inbO (h : Fin 8) : ∀ a, offO h a + S1x64x512.size a ≤ S1x512x512.size a := by
  have := h.isLt
  intro a; fin_cases a
  · exact Nat.le_of_eq rfl
  · show 64 * h.val + 64 ≤ 512; omega
  · exact Nat.le_of_eq rfl
abbrev pO (w : Fin 8 → Vec F S1x64x512 .bf16) : List (View.Piece (Elt F) S1x512x512 .bf16) := pieces offO S1x64x512.size inbO w heads
abbrev offV0 (h : Fin 8) : Fin 4 → ℕ := ![0, 0, 64 * h.val, 0]
theorem inbV0 (h : Fin 8) : ∀ a, offV0 h a + S1x1x64x256.size a ≤ S1x8x512x256.size a := by
  have := h.isLt
  intro a; fin_cases a
  · exact Nat.le_of_eq rfl
  · show 0 + 1 ≤ 8; omega
  · show 64 * h.val + 64 ≤ 512; omega
  · exact Nat.le_of_eq rfl

/-- What the loop's carry starts from in the later half of the columns, with zero in the earlier half. -/
abbrev carL (g : FVec F S256x256 .f32) : FVec F S1x512 .f32 := k0_pay275 (broadcast S1x512 (Scalar.ofBits .f32 0x00000000#32)) g
/-- The weights of the last block, of the later columns alone. -/
abbrev wgtL (g : FVec F S256x256 .f32) (s : Vec F S1x256x256 .f32) : FVec F S1x256x256 .bf16 :=
  shapeCast S1x256x256 (k0_pay259 k0_pay214 (broadcast S1x512 (Scalar.ofBits .f32 0x00000000#32)) g s) shapeCasts_S256x256_S1x256x256

section

variable (c : Dev nD) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
  (x0 : Vec F S1x512x512 .bf16) (x1 : Vec F S1x2048x512 .bf16) (x2 : Vec F S1x8x512x256 .bf16) (s9 : BufTy.Contents (Elt F) arg9.view.ty)

/-- The queries of each head. -/
def qs (x0 : Vec F S1x512x512 .bf16) : Fin 8 → FVec F S128x512 .bf16 := ![k0_pay199 x0, k0_pay200 x0, k0_pay203 x0, k0_pay204 x0, k0_pay207 x0, k0_pay208 x0, k0_pay211 x0, k0_pay212 x0]
/-- The keys and values read before and after the loop. -/
def keysL (i : grid0.Coords) (arg4 : Memref sig .tc .vmem S1x2048x512 .bf16) (X4 : BufTy.Contents (Elt F) arg4.view.ty) : Fin 8 → Vec F S1x256x128 .bf16 := ![arg4.view.readAt (Elt F) (Rect.unit (s := S1x2048x512) (k0_off1 i) S1x256x128.size (k0_off1_inb i)).toLoadRect X4,
  arg4.view.readAt (Elt F) (Rect.unit (s := S1x2048x512) (k0_off1 i) S1x256x128.size (k0_off1_inb i)).toLoadRect X4,
  arg4.view.readAt (Elt F) (Rect.unit (s := S1x2048x512) (k0_off2 i) S1x256x128.size (k0_off2_inb i)).toLoadRect X4,
  arg4.view.readAt (Elt F) (Rect.unit (s := S1x2048x512) (k0_off2 i) S1x256x128.size (k0_off2_inb i)).toLoadRect X4,
  arg4.view.readAt (Elt F) (Rect.unit (s := S1x2048x512) (k0_off3 i) S1x256x128.size (k0_off3_inb i)).toLoadRect X4,
  arg4.view.readAt (Elt F) (Rect.unit (s := S1x2048x512) (k0_off3 i) S1x256x128.size (k0_off3_inb i)).toLoadRect X4,
  arg4.view.readAt (Elt F) (Rect.unit (s := S1x2048x512) (k0_off4 i) S1x256x128.size (k0_off4_inb i)).toLoadRect X4,
  arg4.view.readAt (Elt F) (Rect.unit (s := S1x2048x512) (k0_off4 i) S1x256x128.size (k0_off4_inb i)).toLoadRect X4]
def keysD (i : grid0.Coords) (arg4 : Memref sig .tc .vmem S1x2048x512 .bf16) (X4 : BufTy.Contents (Elt F) arg4.view.ty) : Fin 8 → Vec F S1x256x128 .bf16 := ![arg4.view.readAt (Elt F) (Rect.unit (s := S1x2048x512) (k0_off5 i 0#32) S1x256x128.size (k0_off5_inb i 0)).toLoadRect X4,
  arg4.view.readAt (Elt F) (Rect.unit (s := S1x2048x512) (k0_off5 i 0#32) S1x256x128.size (k0_off5_inb i 0)).toLoadRect X4,
  arg4.view.readAt (Elt F) (Rect.unit (s := S1x2048x512) (k0_off6 i 0#32) S1x256x128.size (k0_off6_inb i 0)).toLoadRect X4,
  arg4.view.readAt (Elt F) (Rect.unit (s := S1x2048x512) (k0_off6 i 0#32) S1x256x128.size (k0_off6_inb i 0)).toLoadRect X4,
  arg4.view.readAt (Elt F) (Rect.unit (s := S1x2048x512) (k0_off7 i 0#32) S1x256x128.size (k0_off7_inb i 0)).toLoadRect X4,
  arg4.view.readAt (Elt F) (Rect.unit (s := S1x2048x512) (k0_off7 i 0#32) S1x256x128.size (k0_off7_inb i 0)).toLoadRect X4,
  arg4.view.readAt (Elt F) (Rect.unit (s := S1x2048x512) (k0_off8 i 0#32) S1x256x128.size (k0_off8_inb i 0)).toLoadRect X4,
  arg4.view.readAt (Elt F) (Rect.unit (s := S1x2048x512) (k0_off8 i 0#32) S1x256x128.size (k0_off8_inb i 0)).toLoadRect X4]
def keysN (i : grid0.Coords) (arg4 : Memref sig .tc .vmem S1x2048x512 .bf16) (X4 : BufTy.Contents (Elt F) arg4.view.ty) : Fin 8 → Vec F S1x256x128 .bf16 := ![arg4.view.readAt (Elt F) (Rect.unit (s := S1x2048x512) (k0_off5 i 1#32) S1x256x128.size (k0_off5_inb i 1)).toLoadRect X4,
  arg4.view.readAt (Elt F) (Rect.unit (s := S1x2048x512) (k0_off5 i 1#32) S1x256x128.size (k0_off5_inb i 1)).toLoadRect X4,
  arg4.view.readAt (Elt F) (Rect.unit (s := S1x2048x512) (k0_off6 i 1#32) S1x256x128.size (k0_off6_inb i 1)).toLoadRect X4,
  arg4.view.readAt (Elt F) (Rect.unit (s := S1x2048x512) (k0_off6 i 1#32) S1x256x128.size (k0_off6_inb i 1)).toLoadRect X4,
  arg4.view.readAt (Elt F) (Rect.unit (s := S1x2048x512) (k0_off7 i 1#32) S1x256x128.size (k0_off7_inb i 1)).toLoadRect X4,
  arg4.view.readAt (Elt F) (Rect.unit (s := S1x2048x512) (k0_off7 i 1#32) S1x256x128.size (k0_off7_inb i 1)).toLoadRect X4,
  arg4.view.readAt (Elt F) (Rect.unit (s := S1x2048x512) (k0_off8 i 1#32) S1x256x128.size (k0_off8_inb i 1)).toLoadRect X4,
  arg4.view.readAt (Elt F) (Rect.unit (s := S1x2048x512) (k0_off8 i 1#32) S1x256x128.size (k0_off8_inb i 1)).toLoadRect X4]
def valsL (i : grid0.Coords) (arg5 : Memref sig .tc .vmem S1x8x512x256 .bf16) (X5 : BufTy.Contents (Elt F) arg5.view.ty) : Fin 8 → Vec F S1x1x64x256 .bf16 := ![arg5.view.readAt (Elt F) (Rect.unit (s := S1x8x512x256) (k0_off9 i) S1x1x64x256.size (k0_off9_inb i)).toLoadRect X5,
  arg5.view.readAt (Elt F) (Rect.unit (s := S1x8x512x256) (k0_off10 i) S1x1x64x256.size (k0_off10_inb i)).toLoadRect X5,
  arg5.view.readAt (Elt F) (Rect.unit (s := S1x8x512x256) (k0_off11 i) S1x1x64x256.size (k0_off11_inb i)).toLoadRect X5,
  arg5.view.readAt (Elt F) (Rect.unit (s := S1x8x512x256) (k0_off12 i) S1x1x64x256.size (k0_off12_inb i)).toLoadRect X5,
  arg5.view.readAt (Elt F) (Rect.unit (s := S1x8x512x256) (k0_off13 i) S1x1x64x256.size (k0_off13_inb i)).toLoadRect X5,
  arg5.view.readAt (Elt F) (Rect.unit (s := S1x8x512x256) (k0_off14 i) S1x1x64x256.size (k0_off14_inb i)).toLoadRect X5,
  arg5.view.readAt (Elt F) (Rect.unit (s := S1x8x512x256) (k0_off15 i) S1x1x64x256.size (k0_off15_inb i)).toLoadRect X5,
  arg5.view.readAt (Elt F) (Rect.unit (s := S1x8x512x256) (k0_off16 i) S1x1x64x256.size (k0_off16_inb i)).toLoadRect X5]
def vals0 (arg5 : Memref sig .tc .vmem S1x8x512x256 .bf16) (X5 : BufTy.Contents (Elt F) arg5.view.ty) : Fin 8 → Vec F S1x1x64x256 .bf16 := fun h => arg5.view.readAt (Elt F) (rect (s := S1x8x512x256) offV0 S1x1x64x256.size inbV0 h).toLoadRect X5

theorem hs0_8 : body.sl.HS0_8 c i arg3 harg3 arg4 harg4 x0 x1 = pL fun h => (k0_pay218 (qs (arg3.view.readAt (Elt F) (Rect.unit (s := S1x512x512) ![0, 0, 0] S1x512x512.size inb_S1x512x512_S1x512x512_0_0_0).toLoadRect (harg3.unread x0)) h) (keysL i arg4 (harg4.unread x1) h)) := rfl
theorem hs0_16 : body.sl.HS0_16 c i arg3 harg3 arg4 harg4 x0 x1 = (pS fun h => (k0_pay3 (qs (arg3.view.readAt (Elt F) (Rect.unit (s := S1x512x512) ![0, 0, 0] S1x512x512.size inb_S1x512x512_S1x512x512_0_0_0).toLoadRect (harg3.unread x0)) h) (keysN i arg4 (harg4.unread x1) h))) ++ body.sl.HS0_8 c i arg3 harg3 arg4 harg4 x0 x1 := rfl
theorem hs1_8 : body.sl.HS1_8 c i arg3 harg3 arg4 harg4 x0 x1 = pS fun h => (k0_pay3 (qs (arg3.view.readAt (Elt F) (Rect.unit (s := S1x512x512) ![0, 0, 0] S1x512x512.size inb_S1x512x512_S1x512x512_0_0_0).toLoadRect (harg3.unread x0)) h) (keysD i arg4 (harg4.unread x1) h)) := rfl
theorem rc0 (h : Fin 8) : (arg7.view.readCov (Val := Elt F) (body.sl.HS0_8 c i arg3 harg3 arg4 harg4 x0 x1) (rL h)) = (k0_pay218 (qs (arg3.view.readAt (Elt F) (Rect.unit (s := S1x512x512) ![0, 0, 0] S1x512x512.size inb_S1x512x512_S1x512x512_0_0_0).toLoadRect (harg3.unread x0)) h) (keysL i arg4 (harg4.unread x1) h)) := by
  rw [hs0_8]; exact covL _ _ h
theorem rc1 (h : Fin 8) : (arg8.view.readCov (Val := Elt F) (body.sl.HS1_8 c i arg3 harg3 arg4 harg4 x0 x1) (rS h)) = (k0_pay3 (qs (arg3.view.readAt (Elt F) (Rect.unit (s := S1x512x512) ![0, 0, 0] S1x512x512.size inb_S1x512x512_S1x512x512_0_0_0).toLoadRect (harg3.unread x0)) h) (keysD i arg4 (harg4.unread x1) h)) := by
  rw [hs1_8]; exact covS _ _ h
theorem hs2_8 : body.sl.HS2_8 c i arg3 harg3 arg4 harg4 arg7 x0 x1 = pL fun h => (wgtL (k0_pay246 k0_pay214 k0_pay215 (k0_pay218 (qs (arg3.view.readAt (Elt F) (Rect.unit (s := S1x512x512) ![0, 0, 0] S1x512x512.size inb_S1x512x512_S1x512x512_0_0_0).toLoadRect (harg3.unread x0)) h) (keysL i arg4 (harg4.unread x1) h))) (k0_pay218 (qs (arg3.view.readAt (Elt F) (Rect.unit (s := S1x512x512) ![0, 0, 0] S1x512x512.size inb_S1x512x512_S1x512x512_0_0_0).toLoadRect (harg3.unread x0)) h) (keysL i arg4 (harg4.unread x1) h))) := by
  have e : body.sl.HS2_8 c i arg3 harg3 arg4 harg4 arg7 x0 x1 = pL fun h => (wgtL (k0_pay246 k0_pay214 k0_pay215 (arg7.view.readCov (Val := Elt F) (body.sl.HS0_8 c i arg3 harg3 arg4 harg4 x0 x1) (rL h))) (arg7.view.readCov (Val := Elt F) (body.sl.HS0_8 c i arg3 harg3 arg4 harg4 x0 x1) (rL h))) := rfl
  rw [e]; exact congrArg pL (funext fun h => by rw [rc0])
theorem rc2 (h : Fin 8) : (arg9.view.readCov (Val := Elt F) (body.sl.HS2_8 c i arg3 harg3 arg4 harg4 arg7 x0 x1) (rL h)) = (wgtL (k0_pay246 k0_pay214 k0_pay215 (k0_pay218 (qs (arg3.view.readAt (Elt F) (Rect.unit (s := S1x512x512) ![0, 0, 0] S1x512x512.size inb_S1x512x512_S1x512x512_0_0_0).toLoadRect (harg3.unread x0)) h) (keysL i arg4 (harg4.unread x1) h))) (k0_pay218 (qs (arg3.view.readAt (Elt F) (Rect.unit (s := S1x512x512) ![0, 0, 0] S1x512x512.size inb_S1x512x512_S1x512x512_0_0_0).toLoadRect (harg3.unread x0)) h) (keysL i arg4 (harg4.unread x1) h))) := by
  rw [hs2_8]; exact covL _ _ h
theorem hs3_8 : body.sl.HS3_8 c i arg3 harg3 arg4 harg4 arg7 arg8 x0 x1 = pS fun h => (k0_pay320 k0_pay213 (carL (k0_pay246 k0_pay214 k0_pay215 (k0_pay218 (qs (arg3.view.readAt (Elt F) (Rect.unit (s := S1x512x512) ![0, 0, 0] S1x512x512.size inb_S1x512x512_S1x512x512_0_0_0).toLoadRect (harg3.unread x0)) h) (keysL i arg4 (harg4.unread x1) h)))) (k0_pay305 k0_pay213 k0_pay215 (k0_pay3 (qs (arg3.view.readAt (Elt F) (Rect.unit (s := S1x512x512) ![0, 0, 0] S1x512x512.size inb_S1x512x512_S1x512x512_0_0_0).toLoadRect (harg3.unread x0)) h) (keysD i arg4 (harg4.unread x1) h))) (k0_pay3 (qs (arg3.view.readAt (Elt F) (Rect.unit (s := S1x512x512) ![0, 0, 0] S1x512x512.size inb_S1x512x512_S1x512x512_0_0_0).toLoadRect (harg3.unread x0)) h) (keysD i arg4 (harg4.unread x1) h))) := by
  have e : body.sl.HS3_8 c i arg3 harg3 arg4 harg4 arg7 arg8 x0 x1 = pS fun h => (k0_pay320 k0_pay213 (carL (k0_pay246 k0_pay214 k0_pay215 (arg7.view.readCov (Val := Elt F) (body.sl.HS0_8 c i arg3 harg3 arg4 harg4 x0 x1) (rL h)))) (k0_pay305 k0_pay213 k0_pay215 (arg8.view.readCov (Val := Elt F) (body.sl.HS1_8 c i arg3 harg3 arg4 harg4 x0 x1) (rS h))) (arg8.view.readCov (Val := Elt F) (body.sl.HS1_8 c i arg3 harg3 arg4 harg4 x0 x1) (rS h))) := rfl
  rw [e]; exact congrArg pS (funext fun h => by rw [rc0, rc1])
theorem init_eq : (k0_pay331 (body.sl.v478 c i arg3 harg3 arg4 harg4 arg7 x0 x1) (body.sl.r_22 c i arg3 harg3 arg4 harg4 arg8 x0 x1), k0_pay332 (body.sl.v480 c i arg3 harg3 arg4 harg4 arg7 x0 x1) (body.sl.r_23 c i arg3 harg3 arg4 harg4 arg8 x0 x1), k0_pay333 (body.sl.v482 c i arg3 harg3 arg4 harg4 arg7 x0 x1) (body.sl.r_25 c i arg3 harg3 arg4 harg4 arg8 x0 x1), k0_pay334 (body.sl.v484 c i arg3 harg3 arg4 harg4 arg7 x0 x1) (body.sl.r_26 c i arg3 harg3 arg4 harg4 arg8 x0 x1), k0_pay335 (body.sl.v486 c i arg3 harg3 arg4 harg4 arg7 x0 x1) (body.sl.r_29 c i arg3 harg3 arg4 harg4 arg8 x0 x1), k0_pay336 (body.sl.v488 c i arg3 harg3 arg4 harg4 arg7 x0 x1) (body.sl.r_30 c i arg3 harg3 arg4 harg4 arg8 x0 x1), k0_pay337 (body.sl.v490 c i arg3 harg3 arg4 harg4 arg7 x0 x1) (body.sl.r_33 c i arg3 harg3 arg4 harg4 arg8 x0 x1), k0_pay338 (body.sl.v492 c i arg3 harg3 arg4 harg4 arg7 x0 x1) (body.sl.r_34 c i arg3 harg3 arg4 harg4 arg8 x0 x1))
    = tup fun h => (k0_pay48 (carL (k0_pay246 k0_pay214 k0_pay215 (k0_pay218 (qs (arg3.view.readAt (Elt F) (Rect.unit (s := S1x512x512) ![0, 0, 0] S1x512x512.size inb_S1x512x512_S1x512x512_0_0_0).toLoadRect (harg3.unread x0)) h) (keysL i arg4 (harg4.unread x1) h)))) (k0_pay305 k0_pay213 k0_pay215 (k0_pay3 (qs (arg3.view.readAt (Elt F) (Rect.unit (s := S1x512x512) ![0, 0, 0] S1x512x512.size inb_S1x512x512_S1x512x512_0_0_0).toLoadRect (harg3.unread x0)) h) (keysD i arg4 (harg4.unread x1) h)))) := by
  have e : (k0_pay331 (body.sl.v478 c i arg3 harg3 arg4 harg4 arg7 x0 x1) (body.sl.r_22 c i arg3 harg3 arg4 harg4 arg8 x0 x1), k0_pay332 (body.sl.v480 c i arg3 harg3 arg4 harg4 arg7 x0 x1) (body.sl.r_23 c i arg3 harg3 arg4 harg4 arg8 x0 x1), k0_pay333 (body.sl.v482 c i arg3 harg3 arg4 harg4 arg7 x0 x1) (body.sl.r_25 c i arg3 harg3 arg4 harg4 arg8 x0 x1), k0_pay334 (body.sl.v484 c i arg3 harg3 arg4 harg4 arg7 x0 x1) (body.sl.r_26 c i arg3 harg3 arg4 harg4 arg8 x0 x1), k0_pay335 (body.sl.v486 c i arg3 harg3 arg4 harg4 arg7 x0 x1) (body.sl.r_29 c i arg3 harg3 arg4 harg4 arg8 x0 x1), k0_pay336 (body.sl.v488 c i arg3 harg3 arg4 harg4 arg7 x0 x1) (body.sl.r_30 c i arg3 harg3 arg4 harg4 arg8 x0 x1), k0_pay337 (body.sl.v490 c i arg3 harg3 arg4 harg4 arg7 x0 x1) (body.sl.r_33 c i arg3 harg3 arg4 harg4 arg8 x0 x1), k0_pay338 (body.sl.v492 c i arg3 harg3 arg4 harg4 arg7 x0 x1) (body.sl.r_34 c i arg3 harg3 arg4 harg4 arg8 x0 x1))
      = tup fun h => (k0_pay48 (carL (k0_pay246 k0_pay214 k0_pay215 (arg7.view.readCov (Val := Elt F) (body.sl.HS0_8 c i arg3 harg3 arg4 harg4 x0 x1) (rL h)))) (k0_pay305 k0_pay213 k0_pay215 (arg8.view.readCov (Val := Elt F) (body.sl.HS1_8 c i arg3 harg3 arg4 harg4 x0 x1) (rS h)))) := rfl
  rw [e]; exact congrArg tup (funext fun h => by rw [rc0, rc1])
theorem hs4_2 : body.sl.HS4_2 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [0] := by
  rfl
theorem hs4_3 : body.sl.HS4_3 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [1, 0] := by
  exact congrArg (fun L => (⟨rect (s := S8x64x512) offL S1x64x256.size inbLA 1, (fun h a => k0_pay293 (F := F) a (valsL i arg5 (harg5.unread x2) h) (arg9.view.readCov (Val := Elt F) (body.sl.HS2_8 c i arg3 harg3 arg4 harg4 arg7 x0 x1) (rL h))) 1 (arg11.view.readCov (Val := Elt F) L (rLA 1))⟩ : View.Piece (Elt F) S8x64x512 .f32) :: L) (hs4_2 ..)
theorem hs4_4 : body.sl.HS4_4 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [2, 1, 0] := by
  exact congrArg (fun L => (⟨rect (s := S8x64x512) offL S1x64x256.size inbLA 2, (fun h a => k0_pay293 (F := F) a (valsL i arg5 (harg5.unread x2) h) (arg9.view.readCov (Val := Elt F) (body.sl.HS2_8 c i arg3 harg3 arg4 harg4 arg7 x0 x1) (rL h))) 2 (arg11.view.readCov (Val := Elt F) L (rLA 2))⟩ : View.Piece (Elt F) S8x64x512 .f32) :: L) (hs4_3 ..)
theorem hs4_5 : body.sl.HS4_5 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [3, 2, 1, 0] := by
  exact congrArg (fun L => (⟨rect (s := S8x64x512) offL S1x64x256.size inbLA 3, (fun h a => k0_pay293 (F := F) a (valsL i arg5 (harg5.unread x2) h) (arg9.view.readCov (Val := Elt F) (body.sl.HS2_8 c i arg3 harg3 arg4 harg4 arg7 x0 x1) (rL h))) 3 (arg11.view.readCov (Val := Elt F) L (rLA 3))⟩ : View.Piece (Elt F) S8x64x512 .f32) :: L) (hs4_4 ..)
theorem hs4_6 : body.sl.HS4_6 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [4, 3, 2, 1, 0] := by
  exact congrArg (fun L => (⟨rect (s := S8x64x512) offL S1x64x256.size inbLA 4, (fun h a => k0_pay293 (F := F) a (valsL i arg5 (harg5.unread x2) h) (arg9.view.readCov (Val := Elt F) (body.sl.HS2_8 c i arg3 harg3 arg4 harg4 arg7 x0 x1) (rL h))) 4 (arg11.view.readCov (Val := Elt F) L (rLA 4))⟩ : View.Piece (Elt F) S8x64x512 .f32) :: L) (hs4_5 ..)
theorem hs4_7 : body.sl.HS4_7 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [5, 4, 3, 2, 1, 0] := by
  exact congrArg (fun L => (⟨rect (s := S8x64x512) offL S1x64x256.size inbLA 5, (fun h a => k0_pay293 (F := F) a (valsL i arg5 (harg5.unread x2) h) (arg9.view.readCov (Val := Elt F) (body.sl.HS2_8 c i arg3 harg3 arg4 harg4 arg7 x0 x1) (rL h))) 5 (arg11.view.readCov (Val := Elt F) L (rLA 5))⟩ : View.Piece (Elt F) S8x64x512 .f32) :: L) (hs4_6 ..)
theorem hs4_8 : body.sl.HS4_8 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [6, 5, 4, 3, 2, 1, 0] := by
  exact congrArg (fun L => (⟨rect (s := S8x64x512) offL S1x64x256.size inbLA 6, (fun h a => k0_pay293 (F := F) a (valsL i arg5 (harg5.unread x2) h) (arg9.view.readCov (Val := Elt F) (body.sl.HS2_8 c i arg3 harg3 arg4 harg4 arg7 x0 x1) (rL h))) 6 (arg11.view.readCov (Val := Elt F) L (rLA 6))⟩ : View.Piece (Elt F) S8x64x512 .f32) :: L) (hs4_7 ..)
theorem hs4_9 : body.sl.HS4_9 c i arg3 harg3 arg4 harg4 arg5 harg5 arg7 arg9 arg11 x0 x1 x2 = chain arg11.view (s := S8x64x512) offL S1x64x256.size inbLA (fun h a => k0_pay293 (F := F) a (valsL i arg5 (harg5.unread x2) h) (arg9.view.readCov (Val := Elt F) (body.sl.HS2_8 c i arg3 harg3 arg4 harg4 arg7 x0 x1) (rL h))) (body.sl.HS4_1) [7, 6, 5, 4, 3, 2, 1, 0] := by
  exact congrArg (fun L => (⟨rect (s := S8x64x512) offL S1x64x256.size inbLA 7, (fun h a => k0_pay293 (F := F) a (valsL i arg5 (harg5.unread x2) h) (arg9.view.readCov (Val := Elt F) (body.sl.HS2_8 c i arg3 harg3 arg4 harg4 arg7 x0 x1) (rL h))) 7 (arg11.view.readCov (Val := Elt F) L (rLA 7))⟩ : View.Piece (Elt F) S8x64x512 .f32) :: L) (hs4_8 ..)

/-- The accumulators after the last block. -/
theorem hs4 : body.sl.HS4_9 c i arg3 harg3 arg4 harg4 arg5 harg5 arg7 arg9 arg11 x0 x1 x2 = (pieces (s := S8x64x512) offL S1x64x256.size inbLA (fun h => k0_pay293 (F := F) (arg11.view.readCov (Val := Elt F) (body.sl.HS4_1) (rLA h)) (valsL i arg5 (harg5.unread x2) h) (wgtL (k0_pay246 k0_pay214 k0_pay215 (k0_pay218 (qs (arg3.view.readAt (Elt F) (Rect.unit (s := S1x512x512) ![0, 0, 0] S1x512x512.size inb_S1x512x512_S1x512x512_0_0_0).toLoadRect (harg3.unread x0)) h) (keysL i arg4 (harg4.unread x1) h))) (k0_pay218 (qs (arg3.view.readAt (Elt F) (Rect.unit (s := S1x512x512) ![0, 0, 0] S1x512x512.size inb_S1x512x512_S1x512x512_0_0_0).toLoadRect (harg3.unread x0)) h) (keysL i arg4 (harg4.unread x1) h)))) heads) ++ body.sl.HS4_1 := by
  rw [hs4_9, chain_eq arg11.view (s := S8x64x512) offL S1x64x256.size inbLA apartLA _ _ heads nodup_heads]
  exact congrArg (fun w => pieces (s := S8x64x512) offL S1x64x256.size inbLA w heads ++ body.sl.HS4_1) (funext fun h => congrArg (fun w => k0_pay293 (F := F) _ (valsL i arg5 (harg5.unread x2) h) w) (rc2 ..))

end

end Cert.Sb

end
-- ==== Proof.Reads.lean ====
module

public import proofs.«01_k».proof.Proof.Cols
public import Idealize.ShloMosaic.Lib.WholeRead
public import proofs.«01_k».proof.Proof.Pro

/-! What the kernel's loads of keys, values and queries are: entries of the three blocks it is given. -/

@[expose] public section

set_option maxRecDepth 16384

noncomputable section

namespace Cert.Sb

open Cert.KernelIdeal Cert.KernelIdeal.Gen Idealize.ShloMosaic Idealize.ShloMosaic.TcCoe

/-- A key's feature, and a value's, at natural numbers. -/
def kAt (K : Vec Ideal S1x2048x512 .bf16) (s f : ℕ) : EReal := if h : s < 2048 ∧ f < 512 then K (ix3 (0 : Fin 1) ⟨s, h.1⟩ ⟨f, h.2⟩) else 0
def vAt (V : Vec Ideal S1x8x512x256 .bf16) (f s : ℕ) : EReal := if h : s < 2048 ∧ f < 512 then V (ix4 (0 : Fin 1) ⟨s / 256, by omega⟩ ⟨f, h.2⟩ ⟨s % 256, by omega⟩) else 0

theorem key_at (m : Memref sig .tc .vmem S1x2048x512 .bf16) (hm : m.IsWhole) (X : Vec Ideal S1x2048x512 .bf16) (off : Fin 3 → ℕ)
    (inb : ∀ a, off a + S1x256x128.size a ≤ S1x2048x512.size a) (a b : ℕ) (h1 : off 1 = a) (h2 : off 2 = b) (r : Fin 256) (c : Fin 128) :
    m.view.readAt (Elt Ideal) (Rect.unit (s := S1x2048x512) off S1x256x128.size inb).toLoadRect (hm.unread X) (ix3 (0 : Fin 1) r c) = kAt X (a + r.val) (b + c.val) := by
  subst h1 h2
  have i0 : off 0 + 1 ≤ 1 := inb 0
  have i1 : off 1 + 256 ≤ 2048 := inb 1
  have i2 : off 2 + 128 ≤ 512 := inb 2
  have hr := r.isLt
  have hc := c.isLt
  rw [kAt, dif_pos ⟨by omega, by omega⟩]
  refine (hm.readAt_unread X _ _).trans (congrArg X (funext fun x => Fin.ext ?_))
  fin_cases x
  · show off 0 + 1 * 0 = 0; omega
  · show off 1 + 1 * r.val = off 1 + r.val; omega
  · show off 2 + 1 * c.val = off 2 + c.val; omega

theorem val_at (m : Memref sig .tc .vmem S1x8x512x256 .bf16) (hm : m.IsWhole) (X : Vec Ideal S1x8x512x256 .bf16) (off : Fin 4 → ℕ)
    (inb : ∀ a, off a + S1x1x64x256.size a ≤ S1x8x512x256.size a) (n b : ℕ) (h1 : off 1 = n) (h2 : off 2 = b) (h3 : off 3 = 0) (d : Fin 64) (r : Fin 256) :
    m.view.readAt (Elt Ideal) (Rect.unit (s := S1x8x512x256) off S1x1x64x256.size inb).toLoadRect (hm.unread X) (ix4 (0 : Fin 1) (0 : Fin 1) d r) = vAt X (b + d.val) (256 * n + r.val) := by
  subst h1 h2
  have i0 : off 0 + 1 ≤ 1 := inb 0
  have i1 : off 1 + 1 ≤ 8 := inb 1
  have i2 : off 2 + 64 ≤ 512 := inb 2
  have hr := r.isLt
  have hd := d.isLt
  rw [vAt, dif_pos ⟨by omega, by omega⟩]
  refine (hm.readAt_unread X _ _).trans (congrArg X (funext fun x => Fin.ext ?_))
  fin_cases x
  · show off 0 + 1 * 0 = 0; omega
  · show off 1 + 1 * 0 = (256 * off 1 + r.val) / 256; omega
  · show off 2 + 1 * d.val = off 2 + d.val; omega
  · show off 3 + 1 * r.val = (256 * off 1 + r.val) % 256; omega

/-- The query block an iteration works at. -/
abbrev qb (i : grid0.Coords) : ℕ := (i 2).val
theorem qb_lt (i : grid0.Coords) : qb i < 4 := (i 2).isLt

theorem trips_eq (i : grid0.Coords) : (k0_t1_loop i).trips = qb i := by
  have e : ∀ q : Fin 4, (⟨0#32, Scalar.addi 0#32 (Scalar.muli (Scalar.divsi (Scalar.subi (BitVec.ofNat 32 q.val) 0#32) 1#32) 1#32), 1#32⟩ : Scf.Loop 32).trips = q.val := by decide +kernel
  exact e (i 2)

/-- The offsets' numbers, by cases on the query block and the trip. -/
theorem row_late (q : Fin 4) : (Scalar.muli (Scalar.addi (Scalar.muli 2#32 (BitVec.ofNat 32 q.val)) 1#32) 256#32).toNat = 256 * (2 * q.val + 1) := by
  revert q; decide +kernel
theorem row_diag (q : Fin 4) : (Scalar.muli (Scalar.maxsi (Scalar.subi (Scalar.subi (Scalar.addi (Scalar.muli 2#32 (BitVec.ofNat 32 q.val)) 1#32) 0#32) 1#32) 0#32) 256#32).toNat = 256 * (2 * q.val) := by
  revert q; decide +kernel
theorem row_next (q : Fin 4) : (Scalar.muli (Scalar.maxsi (Scalar.subi (Scalar.subi (Scalar.addi (Scalar.muli 2#32 (BitVec.ofNat 32 q.val)) 1#32) 1#32) 1#32) 0#32) 256#32).toNat = 256 * (2 * q.val - 1) := by
  revert q; decide +kernel
theorem blk_late (q : Fin 4) : (Scalar.addi (Scalar.subi (Scalar.addi (Scalar.muli 2#32 (BitVec.ofNat 32 q.val)) 1#32) 1#32) 1#32).toNat = 2 * q.val + 1 := by
  revert q; decide +kernel
theorem row_trip2 (q k : Fin 4) (h : k.val < q.val) : (Scalar.muli (Scalar.maxsi (Scalar.subi (Scalar.subi (Scalar.addi (Scalar.muli 2#32 (BitVec.ofNat 32 q.val)) 1#32) (Scalar.addi (Scalar.muli 2#32 (Scf.iv 0#32 1#32 k.val)) 2#32)) 1#32) 0#32) 256#32).toNat = 256 * (2 * (q.val - k.val) - 2) := by
  revert q k; decide +kernel
theorem blk_trip2 (q k : Fin 4) (h : k.val < q.val) : (Scalar.addi (Scalar.subi (Scalar.addi (Scalar.muli 2#32 (BitVec.ofNat 32 q.val)) 1#32) (Scalar.addi (Scalar.muli 2#32 (Scf.iv 0#32 1#32 k.val)) 2#32)) 1#32).toNat = 2 * (q.val - k.val) := by
  revert q k; decide +kernel
theorem row_trip3 (q k : Fin 4) (h : k.val < q.val) : (Scalar.muli (Scalar.maxsi (Scalar.subi (Scalar.subi (Scalar.addi (Scalar.muli 2#32 (BitVec.ofNat 32 q.val)) 1#32) (Scalar.addi (Scalar.muli 2#32 (Scf.iv 0#32 1#32 k.val)) 3#32)) 1#32) 0#32) 256#32).toNat = 256 * (2 * (q.val - k.val) - 3) := by
  revert q k; decide +kernel
theorem blk_trip3 (q k : Fin 4) (h : k.val < q.val) : (Scalar.addi (Scalar.subi (Scalar.addi (Scalar.muli 2#32 (BitVec.ofNat 32 q.val)) 1#32) (Scalar.addi (Scalar.muli 2#32 (Scf.iv 0#32 1#32 k.val)) 3#32)) 1#32).toNat = 2 * (q.val - k.val) - 1 := by
  revert q k; decide +kernel
theorem trip_lt (i : grid0.Coords) (k : Fin (k0_t1_loop i).trips) : k.val < qb i := lt_of_lt_of_eq k.isLt (trips_eq i)
/-- A trip as a number below four. -/
def kf (i : grid0.Coords) (k : Fin (k0_t1_loop i).trips) : Fin 4 := ⟨k.val, lt_trans (trip_lt i k) (qb_lt i)⟩
theorem rowT2 (i : grid0.Coords) (k : Fin (k0_t1_loop i).trips) : (Scalar.muli (Scalar.maxsi (Scalar.subi (Scalar.subi (Scalar.addi (Scalar.muli 2#32 (BitVec.ofNat 32 (i 2).val)) 1#32) (Scalar.addi (Scalar.muli 2#32 (Scf.iv 0#32 1#32 k.val)) 2#32)) 1#32) 0#32) 256#32).toNat = 256 * (2 * (qb i - k.val) - 2) :=
  row_trip2 (i 2) (kf i k) (trip_lt i k)
theorem blkT2 (i : grid0.Coords) (k : Fin (k0_t1_loop i).trips) : (Scalar.addi (Scalar.subi (Scalar.addi (Scalar.muli 2#32 (BitVec.ofNat 32 (i 2).val)) 1#32) (Scalar.addi (Scalar.muli 2#32 (Scf.iv 0#32 1#32 k.val)) 2#32)) 1#32).toNat = 2 * (qb i - k.val) :=
  blk_trip2 (i 2) (kf i k) (trip_lt i k)
theorem rowT3 (i : grid0.Coords) (k : Fin (k0_t1_loop i).trips) : (Scalar.muli (Scalar.maxsi (Scalar.subi (Scalar.subi (Scalar.addi (Scalar.muli 2#32 (BitVec.ofNat 32 (i 2).val)) 1#32) (Scalar.addi (Scalar.muli 2#32 (Scf.iv 0#32 1#32 k.val)) 3#32)) 1#32) 0#32) 256#32).toNat = 256 * (2 * (qb i - k.val) - 3) :=
  row_trip3 (i 2) (kf i k) (trip_lt i k)
theorem blkT3 (i : grid0.Coords) (k : Fin (k0_t1_loop i).trips) : (Scalar.addi (Scalar.subi (Scalar.addi (Scalar.muli 2#32 (BitVec.ofNat 32 (i 2).val)) 1#32) (Scalar.addi (Scalar.muli 2#32 (Scf.iv 0#32 1#32 k.val)) 3#32)) 1#32).toNat = 2 * (qb i - k.val) - 1 :=
  blk_trip3 (i 2) (kf i k) (trip_lt i k)

theorem keysL_apply (i : grid0.Coords) (arg4 : Memref sig .tc .vmem S1x2048x512 .bf16) (harg4 : arg4.IsWhole) (X : Vec Ideal S1x2048x512 .bf16) (h : Fin 8) (r : Fin 256) (c : Fin 128) :
    keysL (F := Ideal) i arg4 (harg4.unread X) h (ix3 (0 : Fin 1) r c) = kAt X (256 * (2 * qb i + 1) + r.val) (128 * (h.val / 2) + c.val) := by
  match h with
  | ⟨0, _⟩ => exact key_at arg4 harg4 X (k0_off1 i) (k0_off1_inb i) (256 * (2 * qb i + 1)) (128 * (0 / 2)) (row_late (i 2)) rfl r c
  | ⟨1, _⟩ => exact key_at arg4 harg4 X (k0_off1 i) (k0_off1_inb i) (256 * (2 * qb i + 1)) (128 * (1 / 2)) (row_late (i 2)) rfl r c
  | ⟨2, _⟩ => exact key_at arg4 harg4 X (k0_off2 i) (k0_off2_inb i) (256 * (2 * qb i + 1)) (128 * (2 / 2)) (row_late (i 2)) rfl r c
  | ⟨3, _⟩ => exact key_at arg4 harg4 X (k0_off2 i) (k0_off2_inb i) (256 * (2 * qb i + 1)) (128 * (3 / 2)) (row_late (i 2)) rfl r c
  | ⟨4, _⟩ => exact key_at arg4 harg4 X (k0_off3 i) (k0_off3_inb i) (256 * (2 * qb i + 1)) (128 * (4 / 2)) (row_late (i 2)) rfl r c
  | ⟨5, _⟩ => exact key_at arg4 harg4 X (k0_off3 i) (k0_off3_inb i) (256 * (2 * qb i + 1)) (128 * (5 / 2)) (row_late (i 2)) rfl r c
  | ⟨6, _⟩ => exact key_at arg4 harg4 X (k0_off4 i) (k0_off4_inb i) (256 * (2 * qb i + 1)) (128 * (6 / 2)) (row_late (i 2)) rfl r c
  | ⟨7, _⟩ => exact key_at arg4 harg4 X (k0_off4 i) (k0_off4_inb i) (256 * (2 * qb i + 1)) (128 * (7 / 2)) (row_late (i 2)) rfl r c
theorem keysD_apply (i : grid0.Coords) (arg4 : Memref sig .tc .vmem S1x2048x512 .bf16) (harg4 : arg4.IsWhole) (X : Vec Ideal S1x2048x512 .bf16) (h : Fin 8) (r : Fin 256) (c : Fin 128) :
    keysD (F := Ideal) i arg4 (harg4.unread X) h (ix3 (0 : Fin 1) r c) = kAt X (256 * (2 * qb i) + r.val) (128 * (h.val / 2) + c.val) := by
  match h with
  | ⟨0, _⟩ => exact key_at arg4 harg4 X (k0_off5 i 0#32) (k0_off5_inb i 0) (256 * (2 * qb i)) (128 * (0 / 2)) (row_diag (i 2)) rfl r c
  | ⟨1, _⟩ => exact key_at arg4 harg4 X (k0_off5 i 0#32) (k0_off5_inb i 0) (256 * (2 * qb i)) (128 * (1 / 2)) (row_diag (i 2)) rfl r c
  | ⟨2, _⟩ => exact key_at arg4 harg4 X (k0_off6 i 0#32) (k0_off6_inb i 0) (256 * (2 * qb i)) (128 * (2 / 2)) (row_diag (i 2)) rfl r c
  | ⟨3, _⟩ => exact key_at arg4 harg4 X (k0_off6 i 0#32) (k0_off6_inb i 0) (256 * (2 * qb i)) (128 * (3 / 2)) (row_diag (i 2)) rfl r c
  | ⟨4, _⟩ => exact key_at arg4 harg4 X (k0_off7 i 0#32) (k0_off7_inb i 0) (256 * (2 * qb i)) (128 * (4 / 2)) (row_diag (i 2)) rfl r c
  | ⟨5, _⟩ => exact key_at arg4 harg4 X (k0_off7 i 0#32) (k0_off7_inb i 0) (256 * (2 * qb i)) (128 * (5 / 2)) (row_diag (i 2)) rfl r c
  | ⟨6, _⟩ => exact key_at arg4 harg4 X (k0_off8 i 0#32) (k0_off8_inb i 0) (256 * (2 * qb i)) (128 * (6 / 2)) (row_diag (i 2)) rfl r c
  | ⟨7, _⟩ => exact key_at arg4 harg4 X (k0_off8 i 0#32) (k0_off8_inb i 0) (256 * (2 * qb i)) (128 * (7 / 2)) (row_diag (i 2)) rfl r c
theorem keysN_apply (i : grid0.Coords) (arg4 : Memref sig .tc .vmem S1x2048x512 .bf16) (harg4 : arg4.IsWhole) (X : Vec Ideal S1x2048x512 .bf16) (h : Fin 8) (r : Fin 256) (c : Fin 128) :
    keysN (F := Ideal) i arg4 (harg4.unread X) h (ix3 (0 : Fin 1) r c) = kAt X (256 * (2 * qb i - 1) + r.val) (128 * (h.val / 2) + c.val) := by
  match h with
  | ⟨0, _⟩ => exact key_at arg4 harg4 X (k0_off5 i 1#32) (k0_off5_inb i 1) (256 * (2 * qb i - 1)) (128 * (0 / 2)) (row_next (i 2)) rfl r c
  | ⟨1, _⟩ => exact key_at arg4 harg4 X (k0_off5 i 1#32) (k0_off5_inb i 1) (256 * (2 * qb i - 1)) (128 * (1 / 2)) (row_next (i 2)) rfl r c
  | ⟨2, _⟩ => exact key_at arg4 harg4 X (k0_off6 i 1#32) (k0_off6_inb i 1) (256 * (2 * qb i - 1)) (128 * (2 / 2)) (row_next (i 2)) rfl r c
  | ⟨3, _⟩ => exact key_at arg4 harg4 X (k0_off6 i 1#32) (k0_off6_inb i 1) (256 * (2 * qb i - 1)) (128 * (3 / 2)) (row_next (i 2)) rfl r c
  | ⟨4, _⟩ => exact key_at arg4 harg4 X (k0_off7 i 1#32) (k0_off7_inb i 1) (256 * (2 * qb i - 1)) (128 * (4 / 2)) (row_next (i 2)) rfl r c
  | ⟨5, _⟩ => exact key_at arg4 harg4 X (k0_off7 i 1#32) (k0_off7_inb i 1) (256 * (2 * qb i - 1)) (128 * (5 / 2)) (row_next (i 2)) rfl r c
  | ⟨6, _⟩ => exact key_at arg4 harg4 X (k0_off8 i 1#32) (k0_off8_inb i 1) (256 * (2 * qb i - 1)) (128 * (6 / 2)) (row_next (i 2)) rfl r c
  | ⟨7, _⟩ => exact key_at arg4 harg4 X (k0_off8 i 1#32) (k0_off8_inb i 1) (256 * (2 * qb i - 1)) (128 * (7 / 2)) (row_next (i 2)) rfl r c
theorem keys2_apply (i : grid0.Coords) (k : Fin (k0_t1_loop i).trips) (arg4 : Memref sig .tc .vmem S1x2048x512 .bf16) (harg4 : arg4.IsWhole) (X : Vec Ideal S1x2048x512 .bf16) (h : Fin 8) (r : Fin 256) (c : Fin 128) :
    keys2 (F := Ideal) i k arg4 (harg4.unread X) h (ix3 (0 : Fin 1) r c) = kAt X (256 * (2 * (qb i - k.val) - 2) + r.val) (128 * (h.val / 2) + c.val) := by
  match h with
  | ⟨0, _⟩ => exact key_at arg4 harg4 X (k0_off17 i k 2#32) (k0_off17_inb i k 0) (256 * (2 * (qb i - k.val) - 2)) (128 * (0 / 2)) (rowT2 i k) rfl r c
  | ⟨1, _⟩ => exact key_at arg4 harg4 X (k0_off17 i k 2#32) (k0_off17_inb i k 0) (256 * (2 * (qb i - k.val) - 2)) (128 * (1 / 2)) (rowT2 i k) rfl r c
  | ⟨2, _⟩ => exact key_at arg4 harg4 X (k0_off18 i k 2#32) (k0_off18_inb i k 0) (256 * (2 * (qb i - k.val) - 2)) (128 * (2 / 2)) (rowT2 i k) rfl r c
  | ⟨3, _⟩ => exact key_at arg4 harg4 X (k0_off18 i k 2#32) (k0_off18_inb i k 0) (256 * (2 * (qb i - k.val) - 2)) (128 * (3 / 2)) (rowT2 i k) rfl r c
  | ⟨4, _⟩ => exact key_at arg4 harg4 X (k0_off19 i k 2#32) (k0_off19_inb i k 0) (256 * (2 * (qb i - k.val) - 2)) (128 * (4 / 2)) (rowT2 i k) rfl r c
  | ⟨5, _⟩ => exact key_at arg4 harg4 X (k0_off19 i k 2#32) (k0_off19_inb i k 0) (256 * (2 * (qb i - k.val) - 2)) (128 * (5 / 2)) (rowT2 i k) rfl r c
  | ⟨6, _⟩ => exact key_at arg4 harg4 X (k0_off20 i k 2#32) (k0_off20_inb i k 0) (256 * (2 * (qb i - k.val) - 2)) (128 * (6 / 2)) (rowT2 i k) rfl r c
  | ⟨7, _⟩ => exact key_at arg4 harg4 X (k0_off20 i k 2#32) (k0_off20_inb i k 0) (256 * (2 * (qb i - k.val) - 2)) (128 * (7 / 2)) (rowT2 i k) rfl r c
theorem keys3_apply (i : grid0.Coords) (k : Fin (k0_t1_loop i).trips) (arg4 : Memref sig .tc .vmem S1x2048x512 .bf16) (harg4 : arg4.IsWhole) (X : Vec Ideal S1x2048x512 .bf16) (h : Fin 8) (r : Fin 256) (c : Fin 128) :
    keys3 (F := Ideal) i k arg4 (harg4.unread X) h (ix3 (0 : Fin 1) r c) = kAt X (256 * (2 * (qb i - k.val) - 3) + r.val) (128 * (h.val / 2) + c.val) := by
  match h with
  | ⟨0, _⟩ => exact key_at arg4 harg4 X (k0_off17 i k 3#32) (k0_off17_inb i k 1) (256 * (2 * (qb i - k.val) - 3)) (128 * (0 / 2)) (rowT3 i k) rfl r c
  | ⟨1, _⟩ => exact key_at arg4 harg4 X (k0_off17 i k 3#32) (k0_off17_inb i k 1) (256 * (2 * (qb i - k.val) - 3)) (128 * (1 / 2)) (rowT3 i k) rfl r c
  | ⟨2, _⟩ => exact key_at arg4 harg4 X (k0_off18 i k 3#32) (k0_off18_inb i k 1) (256 * (2 * (qb i - k.val) - 3)) (128 * (2 / 2)) (rowT3 i k) rfl r c
  | ⟨3, _⟩ => exact key_at arg4 harg4 X (k0_off18 i k 3#32) (k0_off18_inb i k 1) (256 * (2 * (qb i - k.val) - 3)) (128 * (3 / 2)) (rowT3 i k) rfl r c
  | ⟨4, _⟩ => exact key_at arg4 harg4 X (k0_off19 i k 3#32) (k0_off19_inb i k 1) (256 * (2 * (qb i - k.val) - 3)) (128 * (4 / 2)) (rowT3 i k) rfl r c
  | ⟨5, _⟩ => exact key_at arg4 harg4 X (k0_off19 i k 3#32) (k0_off19_inb i k 1) (256 * (2 * (qb i - k.val) - 3)) (128 * (5 / 2)) (rowT3 i k) rfl r c
  | ⟨6, _⟩ => exact key_at arg4 harg4 X (k0_off20 i k 3#32) (k0_off20_inb i k 1) (256 * (2 * (qb i - k.val) - 3)) (128 * (6 / 2)) (rowT3 i k) rfl r c
  | ⟨7, _⟩ => exact key_at arg4 harg4 X (k0_off20 i k 3#32) (k0_off20_inb i k 1) (256 * (2 * (qb i - k.val) - 3)) (128 * (7 / 2)) (rowT3 i k) rfl r c
theorem valsL_apply (i : grid0.Coords) (arg5 : Memref sig .tc .vmem S1x8x512x256 .bf16) (harg5 : arg5.IsWhole) (X : Vec Ideal S1x8x512x256 .bf16) (h : Fin 8) (d : Fin 64) (r : Fin 256) :
    valsL (F := Ideal) i arg5 (harg5.unread X) h (ix4 (0 : Fin 1) (0 : Fin 1) d r) = vAt X (64 * h.val + d.val) (256 * (2 * qb i + 1) + r.val) := by
  match h with
  | ⟨0, _⟩ => exact val_at arg5 harg5 X (k0_off9 i) (k0_off9_inb i) (2 * qb i + 1) (64 * 0) (blk_late (i 2)) rfl rfl d r
  | ⟨1, _⟩ => exact val_at arg5 harg5 X (k0_off10 i) (k0_off10_inb i) (2 * qb i + 1) (64 * 1) (blk_late (i 2)) rfl rfl d r
  | ⟨2, _⟩ => exact val_at arg5 harg5 X (k0_off11 i) (k0_off11_inb i) (2 * qb i + 1) (64 * 2) (blk_late (i 2)) rfl rfl d r
  | ⟨3, _⟩ => exact val_at arg5 harg5 X (k0_off12 i) (k0_off12_inb i) (2 * qb i + 1) (64 * 3) (blk_late (i 2)) rfl rfl d r
  | ⟨4, _⟩ => exact val_at arg5 harg5 X (k0_off13 i) (k0_off13_inb i) (2 * qb i + 1) (64 * 4) (blk_late (i 2)) rfl rfl d r
  | ⟨5, _⟩ => exact val_at arg5 harg5 X (k0_off14 i) (k0_off14_inb i) (2 * qb i + 1) (64 * 5) (blk_late (i 2)) rfl rfl d r
  | ⟨6, _⟩ => exact val_at arg5 harg5 X (k0_off15 i) (k0_off15_inb i) (2 * qb i + 1) (64 * 6) (blk_late (i 2)) rfl rfl d r
  | ⟨7, _⟩ => exact val_at arg5 harg5 X (k0_off16 i) (k0_off16_inb i) (2 * qb i + 1) (64 * 7) (blk_late (i 2)) rfl rfl d r
theorem vals0_apply (arg5 : Memref sig .tc .vmem S1x8x512x256 .bf16) (harg5 : arg5.IsWhole) (X : Vec Ideal S1x8x512x256 .bf16) (h : Fin 8) (d : Fin 64) (r : Fin 256) :
    vals0 (F := Ideal)  arg5 (harg5.unread X) h (ix4 (0 : Fin 1) (0 : Fin 1) d r) = vAt X (64 * h.val + d.val) (256 * (0) + r.val) := by
  exact val_at arg5 harg5 X _ _ _ _ (rfl) rfl rfl d r
theorem vals2_apply (i : grid0.Coords) (k : Fin (k0_t1_loop i).trips) (arg5 : Memref sig .tc .vmem S1x8x512x256 .bf16) (harg5 : arg5.IsWhole) (X : Vec Ideal S1x8x512x256 .bf16) (h : Fin 8) (d : Fin 64) (r : Fin 256) :
    vals2 (F := Ideal) i k arg5 (harg5.unread X) h (ix4 (0 : Fin 1) (0 : Fin 1) d r) = vAt X (64 * h.val + d.val) (256 * (2 * (qb i - k.val)) + r.val) := by
  match h with
  | ⟨0, _⟩ => exact val_at arg5 harg5 X (k0_off21 i k 2#32) (k0_off21_inb i k 0) (2 * (qb i - k.val)) (64 * 0) (blkT2 i k) rfl rfl d r
  | ⟨1, _⟩ => exact val_at arg5 harg5 X (k0_off22 i k 2#32) (k0_off22_inb i k 0) (2 * (qb i - k.val)) (64 * 1) (blkT2 i k) rfl rfl d r
  | ⟨2, _⟩ => exact val_at arg5 harg5 X (k0_off23 i k 2#32) (k0_off23_inb i k 0) (2 * (qb i - k.val)) (64 * 2) (blkT2 i k) rfl rfl d r
  | ⟨3, _⟩ => exact val_at arg5 harg5 X (k0_off24 i k 2#32) (k0_off24_inb i k 0) (2 * (qb i - k.val)) (64 * 3) (blkT2 i k) rfl rfl d r
  | ⟨4, _⟩ => exact val_at arg5 harg5 X (k0_off25 i k 2#32) (k0_off25_inb i k 0) (2 * (qb i - k.val)) (64 * 4) (blkT2 i k) rfl rfl d r
  | ⟨5, _⟩ => exact val_at arg5 harg5 X (k0_off26 i k 2#32) (k0_off26_inb i k 0) (2 * (qb i - k.val)) (64 * 5) (blkT2 i k) rfl rfl d r
  | ⟨6, _⟩ => exact val_at arg5 harg5 X (k0_off27 i k 2#32) (k0_off27_inb i k 0) (2 * (qb i - k.val)) (64 * 6) (blkT2 i k) rfl rfl d r
  | ⟨7, _⟩ => exact val_at arg5 harg5 X (k0_off28 i k 2#32) (k0_off28_inb i k 0) (2 * (qb i - k.val)) (64 * 7) (blkT2 i k) rfl rfl d r
theorem vals3_apply (i : grid0.Coords) (k : Fin (k0_t1_loop i).trips) (arg5 : Memref sig .tc .vmem S1x8x512x256 .bf16) (harg5 : arg5.IsWhole) (X : Vec Ideal S1x8x512x256 .bf16) (h : Fin 8) (d : Fin 64) (r : Fin 256) :
    vals3 (F := Ideal) i k arg5 (harg5.unread X) h (ix4 (0 : Fin 1) (0 : Fin 1) d r) = vAt X (64 * h.val + d.val) (256 * (2 * (qb i - k.val) - 1) + r.val) := by
  match h with
  | ⟨0, _⟩ => exact val_at arg5 harg5 X (k0_off21 i k 3#32) (k0_off21_inb i k 1) (2 * (qb i - k.val) - 1) (64 * 0) (blkT3 i k) rfl rfl d r
  | ⟨1, _⟩ => exact val_at arg5 harg5 X (k0_off22 i k 3#32) (k0_off22_inb i k 1) (2 * (qb i - k.val) - 1) (64 * 1) (blkT3 i k) rfl rfl d r
  | ⟨2, _⟩ => exact val_at arg5 harg5 X (k0_off23 i k 3#32) (k0_off23_inb i k 1) (2 * (qb i - k.val) - 1) (64 * 2) (blkT3 i k) rfl rfl d r
  | ⟨3, _⟩ => exact val_at arg5 harg5 X (k0_off24 i k 3#32) (k0_off24_inb i k 1) (2 * (qb i - k.val) - 1) (64 * 3) (blkT3 i k) rfl rfl d r
  | ⟨4, _⟩ => exact val_at arg5 harg5 X (k0_off25 i k 3#32) (k0_off25_inb i k 1) (2 * (qb i - k.val) - 1) (64 * 4) (blkT3 i k) rfl rfl d r
  | ⟨5, _⟩ => exact val_at arg5 harg5 X (k0_off26 i k 3#32) (k0_off26_inb i k 1) (2 * (qb i - k.val) - 1) (64 * 5) (blkT3 i k) rfl rfl d r
  | ⟨6, _⟩ => exact val_at arg5 harg5 X (k0_off27 i k 3#32) (k0_off27_inb i k 1) (2 * (qb i - k.val) - 1) (64 * 6) (blkT3 i k) rfl rfl d r
  | ⟨7, _⟩ => exact val_at arg5 harg5 X (k0_off28 i k 3#32) (k0_off28_inb i k 1) (2 * (qb i - k.val) - 1) (64 * 7) (blkT3 i k) rfl rfl d r

theorem qs_apply (x : Vec Ideal S1x512x512 .bf16) (h : Fin 8) (k : Fin 128) (t : Fin 512) : qs (F := Ideal) x h (ix2 k t) = wq x h k t := by
  fin_cases h
  · exact w0_apply x k t
  · exact w1_apply x k t
  · exact w2_apply x k t
  · exact w3_apply x k t
  · exact w4_apply x k t
  · exact w5_apply x k t
  · exact w6_apply x k t
  · exact w7_apply x k t

end Cert.Sb

end
-- ==== Proof.Steps.lean ====
module

public import proofs.«01_k».proof.Proof.Reads

/-! One block of keys of one head: what the kernel computes of it, as sums over the keys. -/

@[expose] public section

set_option maxRecDepth 16384

noncomputable section

namespace Cert.Sb

open Cert.KernelIdeal Cert.KernelIdeal.Gen Idealize.ShloMosaic Idealize.ShloMosaic.TcCoe

section

variable (T E m : ℕ) (z v : ℕ → EReal) (t : Fin 512) (S : Vec Ideal S1x256x512 .f32) (c : FVec Ideal S1x512 .f32)

/-- A block all of whose keys lie before the query. -/
theorem inc_full (hT : 256 * (m + 1) ≤ T) (hS : ∀ x : Fin 256, S (ix3 (0 : Fin 1) x t) = z (256 * m + x.val)) (r : Fin 256) :
    inc (F := Ideal) k0_pay215 S (ix2 r t) = ∑ x : Fin 256, (if r.val ≤ x.val then (1 : EReal) else 0) * lk T z (256 * m + x.val) := by
  refine (incl_apply _ _ _ _).trans (Finset.sum_congr rfl fun x _ => ?_)
  have := x.isLt
  have e : lk T z (256 * m + x.val) = lsig (z (256 * m + x.val)) := if_pos (by omega)
  rw [suffix_apply, hS, e]

theorem wgt_full (hT : 256 * (m + 1) ≤ T) (hE : 256 * (m + 1) ≤ E) (hS : ∀ x : Fin 256, S (ix3 (0 : Fin 1) x t) = z (256 * m + x.val))
    (hc : c (ix2 (0 : Fin 1) t) = suf T E z (256 * (m + 1))) (r : Fin 256) :
    wgt (F := Ideal) k0_pay215 c S (ix3 (0 : Fin 1) r t) = wt T E z (256 * m + r.val) := by
  have hr := r.isLt
  refine (weight_apply _ _ _ _ _).trans ?_
  rw [inc_full T m z t S hT hS, hc, hS, suf_block T E z m r.val hr hE, wt, if_pos (by omega)]

theorem car_full (hT : 256 * (m + 1) ≤ T) (hE : 256 * (m + 1) ≤ E) (hS : ∀ x : Fin 256, S (ix3 (0 : Fin 1) x t) = z (256 * m + x.val))
    (hc : c (ix2 (0 : Fin 1) t) = suf T E z (256 * (m + 1))) :
    car (F := Ideal) k0_pay215 c S (ix2 (0 : Fin 1) t) = suf T E z (256 * m) := by
  refine (carry_apply _ _ _).trans ?_
  rw [inc_full T m z t S hT hS, hc]
  exact suf_block0 T E z m hE

/-- The block at the query's own place: the keys before it count. -/
theorem inc_diag (hT : T = 256 * m + t.val) (hS : ∀ x : Fin 256, S (ix3 (0 : Fin 1) x t) = z (256 * m + x.val)) (r : Fin 256) :
    k0_pay305 (F := Ideal) k0_pay213 k0_pay215 S (ix2 r t) = ∑ x : Fin 256, (if r.val ≤ x.val then (1 : EReal) else 0) * lk T z (256 * m + x.val) := by
  refine (inclMask_apply _ _ _ _ _).trans (Finset.sum_congr rfl fun x _ => ?_)
  have e : (256 * m + x.val < T) ↔ x.val < t.val := by omega
  simp only [suffix_apply, hS, lk, e, mask_apply]

theorem wgt_diag (hT : T = 256 * m + t.val) (hE : 256 * (m + 1) ≤ E) (hS : ∀ x : Fin 256, S (ix3 (0 : Fin 1) x t) = z (256 * m + x.val))
    (hc : c (ix2 (0 : Fin 1) t) = suf T E z (256 * (m + 1))) (r : Fin 256) :
    k0_pay320 (F := Ideal) k0_pay213 c (k0_pay305 k0_pay213 k0_pay215 S) S (ix3 (0 : Fin 1) r t) = wt T E z (256 * m + r.val) := by
  have hr := r.isLt
  refine (weightMask_apply _ _ _ _ _ _).trans ?_
  have e : (256 * m + r.val < T) ↔ r.val < t.val := by omega
  rw [inc_diag T m z t S hT hS, hc, hS, suf_block T E z m r.val hr hE, wt]
  simp only [e, mask_apply]

theorem car_diag (hT : T = 256 * m + t.val) (hE : 256 * (m + 1) ≤ E) (hS : ∀ x : Fin 256, S (ix3 (0 : Fin 1) x t) = z (256 * m + x.val))
    (hc : c (ix2 (0 : Fin 1) t) = suf T E z (256 * (m + 1))) :
    k0_pay48 (F := Ideal) c (k0_pay305 k0_pay213 k0_pay215 S) (ix2 (0 : Fin 1) t) = suf T E z (256 * m) := by
  refine (carry_apply _ _ _).trans ?_
  rw [inc_diag T m z t S hT hS, hc]
  exact suf_block0 T E z m hE

/-- A block's weighed values, added to what lies past it. -/
theorem acc_block (hE : 256 * (m + 1) ≤ E) (a : Vec Ideal S1x64x512 .f32) (V : Vec Ideal S1x1x64x256 .bf16) (w : Vec Ideal S1x256x512 .bf16) (d : Fin 64)
    (ha : a (ix3 (0 : Fin 1) d t) = outc T E z v (256 * (m + 1))) (hV : ∀ r : Fin 256, V (ix4 (0 : Fin 1) (0 : Fin 1) d r) = v (256 * m + r.val))
    (hw : ∀ r : Fin 256, w (ix3 (0 : Fin 1) r t) = wt T E z (256 * m + r.val)) :
    k0_pay12 (F := Ideal) a V w (ix3 (0 : Fin 1) d t) = outc T E z v (256 * m) := by
  refine (acc_apply _ _ _ _ _).trans ?_
  rw [ha, ← outc_block T E z v m hE]
  exact congrArg _ (Finset.sum_congr rfl fun r _ => by rw [hV, hw])

end

section

/-! The last block: its keys count for the later half of the queries alone. -/

variable (T E m : ℕ) (z v : ℕ → EReal) (t : Fin 256) (S : Vec Ideal S1x256x256 .f32)

theorem inc_late (hT : T = 256 * m + t.val) (hS : ∀ x : Fin 256, S (ix3 (0 : Fin 1) x t) = z (256 * m + x.val)) (r : Fin 256) :
    k0_pay246 (F := Ideal) k0_pay214 k0_pay215 S (ix2 r t) = ∑ x : Fin 256, (if r.val ≤ x.val then (1 : EReal) else 0) * lk T z (256 * m + x.val) := by
  refine (inclLate_apply _ _ _ _ _).trans (Finset.sum_congr rfl fun x _ => ?_)
  have e : (256 * m + x.val < T) ↔ x.val < t.val := by omega
  simp only [suffix_apply, hS, lk, e, maskLate_apply]

theorem cast_late (g : FVec Ideal S256x256 .bf16) (hn) (r t : Fin 256) : (shapeCast S1x256x256 g hn) (ix3 (0 : Fin 1) r t) = g (ix2 r t) := by
  pointwise []

theorem zero_row (t : Fin 512) : (broadcast S1x512 (Scalar.ofBits (F := Ideal) .f32 0x00000000#32) : FVec Ideal S1x512 .f32) (ix2 (0 : Fin 1) t) = 0 := by
  pointwise []

theorem car_late (g : FVec Ideal S256x256 .f32) (t : Fin 256) : carL (F := Ideal) g (ix2 (0 : Fin 1) ⟨256 + t.val, by omega⟩) = g (ix2 (0 : Fin 256) t) := by
  pointwise [carL, k0_pay275]

theorem car_early (g : FVec Ideal S256x256 .f32) (t : Fin 256) : carL (F := Ideal) g (ix2 (0 : Fin 1) ⟨t.val, by omega⟩) = 0 := by
  pointwise [carL, k0_pay275]

theorem wgt_late (hT : T = 256 * m + t.val) (hE : 256 * (m + 1) = E) (hS : ∀ x : Fin 256, S (ix3 (0 : Fin 1) x t) = z (256 * m + x.val)) (r : Fin 256) :
    wgtL (F := Ideal) (k0_pay246 k0_pay214 k0_pay215 S) S (ix3 (0 : Fin 1) r t) = wt T E z (256 * m + r.val) := by
  have hr := r.isLt
  refine (cast_late _ _ _ _).trans ((weightLate_apply _ _ _ _ _ _).trans ?_)
  have e : (256 * m + r.val < T) ↔ r.val < t.val := by omega
  have s := suf_block T E z m r.val hr (le_of_eq hE)
  rw [hE, suf_end] at s
  rw [inc_late T m z t S hT hS, zero_row, hS, s, wt]
  simp only [e, maskLate_apply]

end

end Cert.Sb

end
-- ==== Proof.Loop.lean ====
module

public import proofs.«01_k».proof.Proof.Steps
public import proofs.«01_k».proof.Proof.Trip

/-! The kernel's loop over the pairs of key blocks before the query's own, from the last to the first. -/

@[expose] public section

set_option maxRecDepth 16384

noncomputable section

namespace Cert.Sb

open Cert.KernelIdeal Cert.KernelIdeal.Gen Idealize.ShloMosaic Idealize.ShloMosaic.TcCoe

section

variable (x0 : Vec Ideal S1x512x512 .bf16) (x1 : Vec Ideal S1x2048x512 .bf16) (x2 : Vec Ideal S1x8x512x256 .bf16)

/-- The scores of one head's query against the keys, and one of its values' features. -/
def zc (h : Fin 8) (t : Fin 512) (s : ℕ) : EReal := ∑ k : Fin 128, kAt x1 s (128 * (h.val / 2) + k.val) * wq x0 h k t
def vc (h : Fin 8) (d : Fin 64) (s : ℕ) : EReal := vAt x2 (64 * h.val + d.val) s

theorem scores_of (W : FVec Ideal S128x512 .bf16) (h : Fin 8) (hW : ∀ k t, W (ix2 k t) = wq x0 h k t) (K : Vec Ideal S1x256x128 .bf16) (m : ℕ)
    (hK : ∀ r c, K (ix3 (0 : Fin 1) r c) = kAt x1 (256 * m + r.val) (128 * (h.val / 2) + c.val)) (t : Fin 512) (r : Fin 256) :
    k0_pay3 (F := Ideal) W K (ix3 (0 : Fin 1) r t) = zc x0 x1 h t (256 * m + r.val) :=
  (scores_apply _ _ _ _).trans (Finset.sum_congr rfl fun k _ => by rw [hK, hW])

variable (i : grid0.Coords) (arg7 : Memref sig .tc .vmem S8x256x512 .f32) (arg10 : Memref sig .tc .vmem S8x256x512 .bf16) (arg11 : Memref sig .tc .vmem S8x64x512 .f32)

/-- The query's position, and where the keys end. -/
abbrev Tq (t : Fin 512) : ℕ := 512 * qb i + t.val
abbrev Eq : ℕ := 512 * (qb i + 1)

/-- Before a trip: the block `n` is weighed, the scores of the one before it are computed, all later ones are summed. -/
structure Inv (n : ℕ) (C : Fin 8 → FVec Ideal S1x512 .f32) (f7 : BufTy.Contents (Elt Ideal) arg7.view.ty) (f10 : BufTy.Contents (Elt Ideal) arg10.view.ty)
    (f11 : BufTy.Contents (Elt Ideal) arg11.view.ty) : Prop where
  scores : 1 ≤ n → ∀ h r t, arg7.view.readAt (Elt Ideal) (rS h) f7 (ix3 (0 : Fin 1) r t) = zc x0 x1 h t (256 * (n - 1) + r.val)
  weights : ∀ h r t, arg10.view.readAt (Elt Ideal) (rS h) f10 (ix3 (0 : Fin 1) r t) = wt (Tq i t) (Eq i) (zc x0 x1 h t) (256 * n + r.val)
  sums : ∀ h d t, arg11.view.readAt (Elt Ideal) (rA h) f11 (ix3 (0 : Fin 1) d t) = outc (Tq i t) (Eq i) (zc x0 x1 h t) (vc x2 h d) (256 * (n + 1))
  carry : ∀ h t, C h (ix2 (0 : Fin 1) t) = suf (Tq i t) (Eq i) (zc x0 x1 h t) (256 * n)

end

section

variable (𝒱 : Variants) (c : Dev nD) (bd : Option 𝒱.V) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
variable (arg2 : BitVec 32) (W : Fin 8 → FVec Ideal S128x512 .bf16) (v27 : IVec S256x512 1) (v37 : BitVec 32) (v478 : FVec Ideal S1x512 .f32) (v480 : FVec Ideal S1x512 .f32) (v482 : FVec Ideal S1x512 .f32) (v484 : FVec Ideal S1x512 .f32) (v486 : FVec Ideal S1x512 .f32) (v488 : FVec Ideal S1x512 .f32) (v490 : FVec Ideal S1x512 .f32) (v492 : FVec Ideal S1x512 .f32) (v682 : FVec Ideal S256x512 .f32) (v700 : FVec Ideal S256x512 .f32) (v718 : FVec Ideal S256x512 .f32) (v736 : FVec Ideal S256x512 .f32) (v754 : FVec Ideal S256x512 .f32) (v772 : FVec Ideal S256x512 .f32) (v790 : FVec Ideal S256x512 .f32) (v808 : FVec Ideal S256x512 .f32) (v894 : FVec Ideal S256x512 .f32)
variable (x0 : Vec Ideal S1x512x512 .bf16) (x1 : Vec Ideal S1x2048x512 .bf16) (x2 : Vec Ideal S1x8x512x256 .bf16)

include harg4 harg5 in
theorem inv_step (hW : ∀ h k t, W h (ix2 k t) = wq x0 h k t) (k : Fin (k0_t1_loop i).trips) (C : Fin 8 → FVec Ideal S1x512 .f32)
    (f7 : BufTy.Contents (Elt Ideal) arg7.view.ty) (f10 : BufTy.Contents (Elt Ideal) arg10.view.ty) (f11 : BufTy.Contents (Elt Ideal) arg11.view.ty)
    (H : Inv x0 x1 x2 i arg7 arg10 arg11 (2 * (qb i - k.val)) C f7 f10 f11) :
    Inv x0 x1 x2 i arg7 arg10 arg11 (2 * (qb i - (k.val + 1)))
      (fun h => car k0_pay215 (car k0_pay215 (C h) (arg7.view.readAt (Elt Ideal) (rS h) f7)) (k0_pay3 (W h) (keys2 i k arg4 (harg4.unread x1) h)))
      (arg7.view.writes (Elt Ideal) f7 (pS fun h => k0_pay3 (W h) (keys3 i k arg4 (harg4.unread x1) h)))
      (arg10.view.writes (Elt Ideal) f10 (pS fun h => wgt k0_pay215 (car k0_pay215 (C h) (arg7.view.readAt (Elt Ideal) (rS h) f7)) (k0_pay3 (W h) (keys2 i k arg4 (harg4.unread x1) h))))
      (arg11.view.writes (Elt Ideal) f11 ((pA fun h => k0_pay12 (k0_pay12 (arg11.view.readAt (Elt Ideal) (rA h) f11) (vals2 i k arg5 (harg5.unread x2) h) (arg10.view.readAt (Elt Ideal) (rS h) f10)) (vals3 i k arg5 (harg5.unread x2) h) (wgt k0_pay215 (C h) (arg7.view.readAt (Elt Ideal) (rS h) f7)))
      ++ pA fun h => k0_pay12 (arg11.view.readAt (Elt Ideal) (rA h) f11) (vals2 i k arg5 (harg5.unread x2) h) (arg10.view.readAt (Elt Ideal) (rS h) f10))) := by
  have hk := trip_lt i k
  obtain ⟨n, hn⟩ : ∃ n, qb i - k.val = n + 1 := ⟨qb i - k.val - 1, by omega⟩
  have hn' : qb i - (k.val + 1) = n := by omega
  have hq : n + 1 ≤ qb i := by omega
  rw [hn']
  rw [hn] at H
  have e2 : 2 * (n + 1) - 1 = 2 * n + 1 := by omega
  have hs7 : ∀ h t (r : Fin 256), arg7.view.readAt (Elt Ideal) (rS h) f7 (ix3 (0 : Fin 1) r t) = zc x0 x1 h t (256 * (2 * n + 1) + r.val) := fun h t r => by
    have := H.scores (by omega) h r t
    rwa [e2] at this
  have hc0 : ∀ h t, C h (ix2 (0 : Fin 1) t) = suf (Tq i t) (Eq i) (zc x0 x1 h t) (256 * (2 * n + 1 + 1)) := H.carry
  have hT : ∀ t m, m ≤ 2 * n + 1 → 256 * (m + 1) ≤ Tq i t := fun t m hm => by show _ ≤ 512 * qb i + t.val; omega
  have hE : ∀ m, m ≤ 2 * n + 2 → 256 * (m + 1) ≤ Eq i := fun m hm => by show _ ≤ 512 * (qb i + 1); omega
  have hc1 : ∀ h t, car (F := Ideal) k0_pay215 (C h) (arg7.view.readAt (Elt Ideal) (rS h) f7) (ix2 (0 : Fin 1) t) = suf (Tq i t) (Eq i) (zc x0 x1 h t) (256 * (2 * n + 1)) := fun h t =>
    car_full _ _ (2 * n + 1) _ t _ _ (hT t _ (by omega)) (hE _ (by omega)) (hs7 h t) (hc0 h t)
  have hs8 : ∀ h t r, k0_pay3 (F := Ideal) (W h) (keys2 i k arg4 (harg4.unread x1) h) (ix3 (0 : Fin 1) r t) = zc x0 x1 h t (256 * (2 * n) + r.val) := fun h t r =>
    scores_of x0 x1 _ h (hW h) _ (2 * n) (fun r c => by rw [keys2_apply, hn, show 2 * (n + 1) - 2 = 2 * n by omega]) t r
  refine ⟨fun h1 h r t => ?_, fun h r t => ?_, fun h d t => ?_, fun h t => ?_⟩
  · refine (congrFun (readS (F := Ideal) arg7.view f7 (fun h => k0_pay3 (W h) (keys3 i k arg4 (harg4.unread x1) h)) [] h) _).trans ?_
    exact scores_of x0 x1 _ h (hW h) _ (2 * n - 1) (fun r c => by rw [keys3_apply, hn, show 2 * (n + 1) - 3 = 2 * n - 1 by omega]) t r
  · refine (congrFun (readS (F := Ideal) arg10.view f10 (fun h => wgt k0_pay215 (car k0_pay215 (C h) (arg7.view.readAt (Elt Ideal) (rS h) f7)) (k0_pay3 (W h) (keys2 i k arg4 (harg4.unread x1) h))) [] h) _).trans ?_
    exact wgt_full _ _ (2 * n) _ t _ _ (hT t _ (by omega)) (hE _ (by omega)) (hs8 h t) (hc1 h t) r
  · rw [readA]
    refine acc_block _ _ (2 * n + 1) _ _ t (hE _ (by omega)) _ _ _ d ?_ (fun r => ?_) (fun r => ?_)
    · refine acc_block _ _ (2 * (n + 1)) _ _ t (hE _ (by omega)) _ _ _ d (H.sums h d t) (fun r => ?_) (fun r => H.weights h r t)
      rw [vals2_apply, hn]; rfl
    · rw [vals3_apply, hn, e2]; rfl
    · exact wgt_full _ _ (2 * n + 1) _ t _ _ (hT t _ (by omega)) (hE _ (by omega)) (hs7 h t) (hc0 h t) r
  · exact car_full _ _ (2 * n) _ t _ _ (hT t _ (by omega)) (hE _ (by omega)) (hs8 h t) (hc1 h t)

variable (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (G11 : BufTy.Contents (Elt Ideal) arg11.view.ty)

theorem st_step (init : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (k : Fin (k0_t1_loop i).trips) (p) (hp : st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init k.val = p) :
    st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init (k.val + 1) = (tripR_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) k p.1 (arg7.view.writes (Elt Ideal) G7 p.2.1) (arg8.view.writes (Elt Ideal) G8 p.2.2.1) (arg9.view.writes (Elt Ideal) G9 p.2.2.2.1) (arg10.view.writes (Elt Ideal) G10 p.2.2.2.2.1) (arg11.view.writes (Elt Ideal) G11 p.2.2.2.2.2), (tripL_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) k p.1 (arg7.view.writes (Elt Ideal) G7 p.2.1) (arg8.view.writes (Elt Ideal) G8 p.2.2.1) (arg9.view.writes (Elt Ideal) G9 p.2.2.2.1) (arg10.view.writes (Elt Ideal) G10 p.2.2.2.2.1) (arg11.view.writes (Elt Ideal) G11 p.2.2.2.2.2)).1 ++ p.2.1, (tripL_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) k p.1 (arg7.view.writes (Elt Ideal) G7 p.2.1) (arg8.view.writes (Elt Ideal) G8 p.2.2.1) (arg9.view.writes (Elt Ideal) G9 p.2.2.2.1) (arg10.view.writes (Elt Ideal) G10 p.2.2.2.2.1) (arg11.view.writes (Elt Ideal) G11 p.2.2.2.2.2)).2.1 ++ p.2.2.1, (tripL_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) k p.1 (arg7.view.writes (Elt Ideal) G7 p.2.1) (arg8.view.writes (Elt Ideal) G8 p.2.2.1) (arg9.view.writes (Elt Ideal) G9 p.2.2.2.1) (arg10.view.writes (Elt Ideal) G10 p.2.2.2.2.1) (arg11.view.writes (Elt Ideal) G11 p.2.2.2.2.2)).2.2.1 ++ p.2.2.2.1, (tripL_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) k p.1 (arg7.view.writes (Elt Ideal) G7 p.2.1) (arg8.view.writes (Elt Ideal) G8 p.2.2.1) (arg9.view.writes (Elt Ideal) G9 p.2.2.2.1) (arg10.view.writes (Elt Ideal) G10 p.2.2.2.2.1) (arg11.view.writes (Elt Ideal) G11 p.2.2.2.2.2)).2.2.2.1 ++ p.2.2.2.2.1, (tripL_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) k p.1 (arg7.view.writes (Elt Ideal) G7 p.2.1) (arg8.view.writes (Elt Ideal) G8 p.2.2.1) (arg9.view.writes (Elt Ideal) G9 p.2.2.2.1) (arg10.view.writes (Elt Ideal) G10 p.2.2.2.2.1) (arg11.view.writes (Elt Ideal) G11 p.2.2.2.2.2)).2.2.2.2 ++ p.2.2.2.2.2) := by
  subst hp
  exact st_k0_t1_succ (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init k

theorem inv_loop (hW : ∀ h k t, W h (ix2 k t) = wq x0 h k t) (init : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (C0 : Fin 8 → FVec Ideal S1x512 .f32) (hinit : init = tup C0)
    (H0 : Inv x0 x1 x2 i arg7 arg10 arg11 (2 * qb i) C0 G7 G10 G11) (n : ℕ) (hn : n ≤ qb i) :
    ∃ C, (st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init n).1 = tup C ∧ Inv x0 x1 x2 i arg7 arg10 arg11 (2 * (qb i - n)) C (arg7.view.writes (Elt Ideal) G7 (st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init n).2.1)
      (arg10.view.writes (Elt Ideal) G10 (st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init n).2.2.2.2.1) (arg11.view.writes (Elt Ideal) G11 (st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init n).2.2.2.2.2) := by
  induction n with
  | zero => exact ⟨C0, hinit, H0⟩
  | succ n ih =>
    obtain ⟨C, hC, hI⟩ := ih (by omega)
    have hk : n < (k0_t1_loop i).trips := lt_of_lt_of_eq hn (trips_eq i).symm
    have hs := st_step 𝒱 c bd i arg3 harg3 arg4 harg4 arg5 harg5 arg6 harg6 arg7 harg7 arg8 harg8 arg9 harg9 arg10 harg10 arg11 harg11 arg2 W v27 v37 v478 v480 v482 v484 v486 v488 v490 v492 v682 v700 v718 v736 v754 v772 v790 v808 v894  x1 x2 G7 G8 G9 G10 G11 init ⟨n, hk⟩ _ rfl
    generalize hp : (st_k0_t1 (F := Ideal) 𝒱 c bd i arg3 harg3 arg4 harg4 arg5 harg5 arg6 harg6 arg7 harg7 arg8 harg8 arg9 harg9 arg10 harg10 arg11 harg11 arg2 (W 0) (W 1) (W 2) (W 3) (W 4) (W 5) (W 6) (W 7) v27 k0_pay215 v37 v478 v480 v482 v484 v486 v488 v490 v492 v682 v700 v718 v736 v754 v772 v790 v808 v894 (harg4.unread x1) (harg5.unread x2) G7 G8 G9 G10 G11 init n) = p at hs hC hI
    rw [hs]
    obtain ⟨p1, p7, p8, p9, p10, p11⟩ := p
    obtain rfl : p1 = tup C := hC
    refine ⟨_, trip_R 𝒱 c bd i arg3 harg3 arg4 harg4 arg5 harg5 arg6 harg6 arg7 harg7 arg8 harg8 arg9 harg9 arg10 harg10 arg11 harg11 arg2 W k0_pay215 v27 v37 v478 v480 v482 v484 v486 v488 v490 v492 v682 v700 v718 v736 v754 v772 v790 v808 v894 (harg4.unread x1) (harg5.unread x2) ⟨n, hk⟩ C _ _ _ _ _, ?_⟩
    have h7 := trip_7 𝒱 c bd i arg3 harg3 arg4 harg4 arg5 harg5 arg6 harg6 arg7 harg7 arg8 harg8 arg9 harg9 arg10 harg10 arg11 harg11 arg2 W k0_pay215 v27 v37 v478 v480 v482 v484 v486 v488 v490 v492 v682 v700 v718 v736 v754 v772 v790 v808 v894 (harg4.unread x1) (harg5.unread x2) ⟨n, hk⟩ C (arg7.view.writes (Elt Ideal) G7 p7) (arg8.view.writes (Elt Ideal) G8 p8) (arg9.view.writes (Elt Ideal) G9 p9) (arg10.view.writes (Elt Ideal) G10 p10) (arg11.view.writes (Elt Ideal) G11 p11)
    have h10 := trip_10 𝒱 c bd i arg3 harg3 arg4 harg4 arg5 harg5 arg6 harg6 arg7 harg7 arg8 harg8 arg9 harg9 arg10 harg10 arg11 harg11 arg2 W k0_pay215 v27 v37 v478 v480 v482 v484 v486 v488 v490 v492 v682 v700 v718 v736 v754 v772 v790 v808 v894 (harg4.unread x1) (harg5.unread x2) ⟨n, hk⟩ C (arg7.view.writes (Elt Ideal) G7 p7) (arg8.view.writes (Elt Ideal) G8 p8) (arg9.view.writes (Elt Ideal) G9 p9) (arg10.view.writes (Elt Ideal) G10 p10) (arg11.view.writes (Elt Ideal) G11 p11)
    have h11 := trip_11 𝒱 c bd i arg3 harg3 arg4 harg4 arg5 harg5 arg6 harg6 arg7 harg7 arg8 harg8 arg9 harg9 arg10 harg10 arg11 harg11 arg2 W k0_pay215 v27 v37 v478 v480 v482 v484 v486 v488 v490 v492 v682 v700 v718 v736 v754 v772 v790 v808 v894 (harg4.unread x1) (harg5.unread x2) ⟨n, hk⟩ C (arg7.view.writes (Elt Ideal) G7 p7) (arg8.view.writes (Elt Ideal) G8 p8) (arg9.view.writes (Elt Ideal) G9 p9) (arg10.view.writes (Elt Ideal) G10 p10) (arg11.view.writes (Elt Ideal) G11 p11)
    have key := inv_step i arg4 harg4 arg5 harg5 arg7 arg10 arg11 W x0 x1 x2 hW ⟨n, hk⟩ C _ _ _ hI
    rw [← h7, ← h10, ← h11, ← View.writes_append, ← View.writes_append, ← View.writes_append] at key
    exact key

end

end Cert.Sb

end
-- ==== Proof.Epi.lean ====
module

public import proofs.«01_k».proof.Proof.Pro

/-! The body's stores after its loop, over all eight heads at once. -/

@[expose] public section

set_option maxRecDepth 16384
set_option maxHeartbeats 1000000

noncomputable section

namespace Cert.Sb

open Cert.KernelIdeal Cert.KernelIdeal.Gen Idealize.ShloMosaic Idealize.ShloMosaic.TcCoe

variable {F : FTy → Type} [FloatOps F] [Named F]

theorem trips2 (i : grid0.Coords) : Scf.trips (k0_t2_loop i).lb (k0_t2_loop i).ub (k0_t2_loop i).st = 0 := by
  have h : ∀ q : Fin 4, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by decide
  exact h (i 2)

/-- The second loop makes no trip. -/
theorem t2_nil (𝒱 : Variants) (c : Dev nD) (bd : Option 𝒱.V) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole) (arg2 : BitVec 32) (v11 : FVec F S128x512 .bf16) (v12 : FVec F S128x512 .bf16) (v15 : FVec F S128x512 .bf16) (v16 : FVec F S128x512 .bf16) (v19 : FVec F S128x512 .bf16) (v20 : FVec F S128x512 .bf16) (v23 : FVec F S128x512 .bf16) (v24 : FVec F S128x512 .bf16) (v27 : IVec S256x512 1) (v35 : FVec F S256x256 .bf16) (v37 : BitVec 32) (v478 : FVec F S1x512 .f32) (v480 : FVec F S1x512 .f32) (v482 : FVec F S1x512 .f32) (v484 : FVec F S1x512 .f32) (v486 : FVec F S1x512 .f32) (v488 : FVec F S1x512 .f32) (v490 : FVec F S1x512 .f32) (v492 : FVec F S1x512 .f32) (v682 : FVec F S256x512 .f32) (v700 : FVec F S256x512 .f32) (v718 : FVec F S256x512 .f32) (v736 : FVec F S256x512 .f32) (v754 : FVec F S256x512 .f32) (v772 : FVec F S256x512 .f32) (v790 : FVec F S256x512 .f32) (v808 : FVec F S256x512 .f32) (v894 : FVec F S256x512 .f32) (v925 : BitVec 32) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (init : FVec F S1x512 .f32 × FVec F S1x512 .f32 × FVec F S1x512 .f32 × FVec F S1x512 .f32 × FVec F S1x512 .f32 × FVec F S1x512 .f32 × FVec F S1x512 .f32 × FVec F S1x512 .f32) :
    st_k0_t2 (F := F) 𝒱 c bd i arg3 harg3 arg4 harg4 arg5 harg5 arg6 harg6 arg7 harg7 arg8 harg8 arg9 harg9 arg10 harg10 arg11 harg11 arg2 v11 v12 v15 v16 v19 v20 v23 v24 v27 v35 v37 v478 v480 v482 v484 v486 v488 v490 v492 v682 v700 v718 v736 v754 v772 v790 v808 v894 v925 X_arg4 X_arg5 G_arg7 G_arg8 G_arg9 G_arg10 G_arg11 init (Scf.trips (k0_t2_loop i).lb (k0_t2_loop i).ub (k0_t2_loop i).st) = (init, [], [], [], [], []) := by
  rw [trips2]; rfl

section

variable (c : Dev nD) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
  (x0 : Vec F S1x512x512 .bf16) (x1 : Vec F S1x2048x512 .bf16) (x2 : Vec F S1x8x512x256 .bf16) (s9 : BufTy.Contents (Elt F) arg9.view.ty)

/-- What the loop has stored before a trip. -/
def loopSt (n : ℕ) := (st_k0_t1 Variants.none c none i arg3 harg3 arg4 harg4 arg5 harg5 arg6 harg6 arg7 harg7 arg8 harg8 arg9 harg9 arg10 harg10 arg11 harg11 (BitVec.ofNat 32 ↑(i 2)) (body.sl.r c arg3 harg3 x0) (body.sl.r_1 c arg3 harg3 x0) (body.sl.r_2 c arg3 harg3 x0) (body.sl.r_3 c arg3 harg3 x0) (body.sl.r_4 c arg3 harg3 x0) (body.sl.r_5 c arg3 harg3 x0) (body.sl.r_6 c arg3 harg3 x0) (body.sl.r_7 c arg3 harg3 x0) k0_pay213 k0_pay215 (body.sl.v37 i) (body.sl.v478 c i arg3 harg3 arg4 harg4 arg7 x0 x1) (body.sl.v480 c i arg3 harg3 arg4 harg4 arg7 x0 x1) (body.sl.v482 c i arg3 harg3 arg4 harg4 arg7 x0 x1) (body.sl.v484 c i arg3 harg3 arg4 harg4 arg7 x0 x1) (body.sl.v486 c i arg3 harg3 arg4 harg4 arg7 x0 x1) (body.sl.v488 c i arg3 harg3 arg4 harg4 arg7 x0 x1) (body.sl.v490 c i arg3 harg3 arg4 harg4 arg7 x0 x1) (body.sl.v492 c i arg3 harg3 arg4 harg4 arg7 x0 x1) (body.sl.r_22 c i arg3 harg3 arg4 harg4 arg8 x0 x1) (body.sl.r_23 c i arg3 harg3 arg4 harg4 arg8 x0 x1) (body.sl.r_25 c i arg3 harg3 arg4 harg4 arg8 x0 x1) (body.sl.r_26 c i arg3 harg3 arg4 harg4 arg8 x0 x1) (body.sl.r_29 c i arg3 harg3 arg4 harg4 arg8 x0 x1) (body.sl.r_30 c i arg3 harg3 arg4 harg4 arg8 x0 x1) (body.sl.r_33 c i arg3 harg3 arg4 harg4 arg8 x0 x1) (body.sl.r_34 c i arg3 harg3 arg4 harg4 arg8 x0 x1) (body.sl.v894 c i arg3 harg3 arg4 harg4 arg7 arg8 x0 x1) (harg4.unread x1) (harg5.unread x2) (arg7.view.writes (Elt F) arg7.view.junk (body.sl.HS0_16 c i arg3 harg3 arg4 harg4 x0 x1)) (arg8.view.writes (Elt F) arg8.view.junk (body.sl.HS1_8 c i arg3 harg3 arg4 harg4 x0 x1)) (arg9.view.writes (Elt F) s9 (body.sl.HS2_8 c i arg3 harg3 arg4 harg4 arg7 x0 x1)) (arg10.view.writes (Elt F) arg10.view.junk (body.sl.HS3_8 c i arg3 harg3 arg4 harg4 arg7 arg8 x0 x1)) (arg11.view.writes (Elt F) arg11.view.junk (body.sl.HS4_9 c i arg3 harg3 arg4 harg4 arg5 harg5 arg7 arg9 arg11 x0 x1 x2)) (k0_pay331 (body.sl.v478 c i arg3 harg3 arg4 harg4 arg7 x0 x1) (body.sl.r_22 c i arg3 harg3 arg4 harg4 arg8 x0 x1), k0_pay332 (body.sl.v480 c i arg3 harg3 arg4 harg4 arg7 x0 x1) (body.sl.r_23 c i arg3 harg3 arg4 harg4 arg8 x0 x1), k0_pay333 (body.sl.v482 c i arg3 harg3 arg4 harg4 arg7 x0 x1) (body.sl.r_25 c i arg3 harg3 arg4 harg4 arg8 x0 x1), k0_pay334 (body.sl.v484 c i arg3 harg3 arg4 harg4 arg7 x0 x1) (body.sl.r_26 c i arg3 harg3 arg4 harg4 arg8 x0 x1), k0_pay335 (body.sl.v486 c i arg3 harg3 arg4 harg4 arg7 x0 x1) (body.sl.r_29 c i arg3 harg3 arg4 harg4 arg8 x0 x1), k0_pay336 (body.sl.v488 c i arg3 harg3 arg4 harg4 arg7 x0 x1) (body.sl.r_30 c i arg3 harg3 arg4 harg4 arg8 x0 x1), k0_pay337 (body.sl.v490 c i arg3 harg3 arg4 harg4 arg7 x0 x1) (body.sl.r_33 c i arg3 harg3 arg4 harg4 arg8 x0 x1), k0_pay338 (body.sl.v492 c i arg3 harg3 arg4 harg4 arg7 x0 x1) (body.sl.r_34 c i arg3 harg3 arg4 harg4 arg8 x0 x1))  n)

theorem e_928 : body.sl.v928 c i arg3 harg3 arg4 harg4 arg5 harg5 arg6 harg6 arg7 harg7 arg8 harg8 arg9 harg9 arg10 harg10 arg11 harg11 x0 x1 x2 s9 = arg11.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) (rA 0) := by
  unfold body.sl.v928; rw [t2_nil]; rfl
theorem e_first : body.sl.HS4_1_1 c i arg3 harg3 arg4 harg4 arg5 harg5 arg6 harg6 arg7 harg7 arg8 harg8 arg9 harg9 arg10 harg10 arg11 harg11 x0 x1 x2 s9 = (⟨rect (s := S8x64x512) offH S1x64x512.size inbA 0, body.sl.v938 c i arg3 harg3 arg4 harg4 arg5 harg5 arg6 harg6 arg7 harg7 arg8 harg8 arg9 harg9 arg10 harg10 arg11 harg11 x0 x1 x2 s9⟩ : View.Piece (Elt F) S8x64x512 .f32) :: ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) := by
  unfold body.sl.HS4_1_1; rw [t2_nil]; rfl
theorem e_932 : body.sl.v932 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 0) := by
  unfold body.sl.v932; rw [t2_nil]; rfl
theorem e_943 : body.sl.v943 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 1) := by
  unfold body.sl.v943; rw [t2_nil]; rfl
theorem e_954 : body.sl.v954 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 2) := by
  unfold body.sl.v954; rw [t2_nil]; rfl
theorem e_965 : body.sl.v965 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 3) := by
  unfold body.sl.v965; rw [t2_nil]; rfl
theorem e_976 : body.sl.v976 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 4) := by
  unfold body.sl.v976; rw [t2_nil]; rfl
theorem e_987 : body.sl.v987 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 5) := by
  unfold body.sl.v987; rw [t2_nil]; rfl
theorem e_998 : body.sl.v998 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 6) := by
  unfold body.sl.v998; rw [t2_nil]; rfl
theorem e_1009 : body.sl.v1009 c i arg3 harg3 arg4 harg4 arg5 harg5 arg6 harg6 arg7 harg7 arg8 harg8 arg9 harg9 arg10 harg10 arg11 harg11 x0 x1 x2 s9 = arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS 7) := by
  unfold body.sl.v1009; rw [t2_nil]; rfl
theorem out_1 : body.sl.HS4_1_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [0] := by
  have e : body.sl.v938 c i arg3 harg3 arg4 harg4 arg5 harg5 arg6 harg6 arg7 harg7 arg8 harg8 arg9 harg9 arg10 harg10 arg11 harg11 x0 x1 x2 s9 = k0_pay12 (F := F) (body.sl.v928 c i arg3 harg3 arg4 harg4 arg5 harg5 arg6 harg6 arg7 harg7 arg8 harg8 arg9 harg9 arg10 harg10 arg11 harg11 x0 x1 x2 s9) (vals0 arg5 (harg5.unread x2) 0) (body.sl.v932 c i arg3 harg3 arg4 harg4 arg5 harg5 arg6 harg6 arg7 harg7 arg8 harg8 arg9 harg9 arg10 harg10 arg11 harg11 x0 x1 x2 s9) := rfl
  rw [e_first, e, e_928, e_932]
  rfl
theorem out_2 : body.sl.HS4_2_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [1, 0] := by
  have e : body.sl.HS4_2_1 c i arg3 harg3 arg4 harg4 arg5 harg5 arg6 harg6 arg7 harg7 arg8 harg8 arg9 harg9 arg10 harg10 arg11 harg11 x0 x1 x2 s9 = (⟨rect (s := S8x64x512) offH S1x64x512.size inbA 1, k0_pay12 (F := F) (arg11.view.readCov (Val := Elt F) (body.sl.HS4_1_1 c i arg3 harg3 arg4 harg4 arg5 harg5 arg6 harg6 arg7 harg7 arg8 harg8 arg9 harg9 arg10 harg10 arg11 harg11 x0 x1 x2 s9) (rA 1)) (vals0 arg5 (harg5.unread x2) 1) (body.sl.v943 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_1_1 c i arg3 harg3 arg4 harg4 arg5 harg5 arg6 harg6 arg7 harg7 arg8 harg8 arg9 harg9 arg10 harg10 arg11 harg11 x0 x1 x2 s9 := rfl
  rw [e, e_943, out_1]
  rfl
theorem out_3 : body.sl.HS4_3_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [2, 1, 0] := by
  have e : body.sl.HS4_3_1 c i arg3 harg3 arg4 harg4 arg5 harg5 arg6 harg6 arg7 harg7 arg8 harg8 arg9 harg9 arg10 harg10 arg11 harg11 x0 x1 x2 s9 = (⟨rect (s := S8x64x512) offH S1x64x512.size inbA 2, k0_pay12 (F := F) (arg11.view.readCov (Val := Elt F) (body.sl.HS4_2_1 c i arg3 harg3 arg4 harg4 arg5 harg5 arg6 harg6 arg7 harg7 arg8 harg8 arg9 harg9 arg10 harg10 arg11 harg11 x0 x1 x2 s9) (rA 2)) (vals0 arg5 (harg5.unread x2) 2) (body.sl.v954 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_2_1 c i arg3 harg3 arg4 harg4 arg5 harg5 arg6 harg6 arg7 harg7 arg8 harg8 arg9 harg9 arg10 harg10 arg11 harg11 x0 x1 x2 s9 := rfl
  rw [e, e_954, out_2]
  rfl
theorem out_4 : body.sl.HS4_4_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [3, 2, 1, 0] := by
  have e : body.sl.HS4_4_1 c i arg3 harg3 arg4 harg4 arg5 harg5 arg6 harg6 arg7 harg7 arg8 harg8 arg9 harg9 arg10 harg10 arg11 harg11 x0 x1 x2 s9 = (⟨rect (s := S8x64x512) offH S1x64x512.size inbA 3, k0_pay12 (F := F) (arg11.view.readCov (Val := Elt F) (body.sl.HS4_3_1 c i arg3 harg3 arg4 harg4 arg5 harg5 arg6 harg6 arg7 harg7 arg8 harg8 arg9 harg9 arg10 harg10 arg11 harg11 x0 x1 x2 s9) (rA 3)) (vals0 arg5 (harg5.unread x2) 3) (body.sl.v965 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_3_1 c i arg3 harg3 arg4 harg4 arg5 harg5 arg6 harg6 arg7 harg7 arg8 harg8 arg9 harg9 arg10 harg10 arg11 harg11 x0 x1 x2 s9 := rfl
  rw [e, e_965, out_3]
  rfl
theorem out_5 : body.sl.HS4_5_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [4, 3, 2, 1, 0] := by
  have e : body.sl.HS4_5_1 c i arg3 harg3 arg4 harg4 arg5 harg5 arg6 harg6 arg7 harg7 arg8 harg8 arg9 harg9 arg10 harg10 arg11 harg11 x0 x1 x2 s9 = (⟨rect (s := S8x64x512) offH S1x64x512.size inbA 4, k0_pay12 (F := F) (arg11.view.readCov (Val := Elt F) (body.sl.HS4_4_1 c i arg3 harg3 arg4 harg4 arg5 harg5 arg6 harg6 arg7 harg7 arg8 harg8 arg9 harg9 arg10 harg10 arg11 harg11 x0 x1 x2 s9) (rA 4)) (vals0 arg5 (harg5.unread x2) 4) (body.sl.v976 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_4_1 c i arg3 harg3 arg4 harg4 arg5 harg5 arg6 harg6 arg7 harg7 arg8 harg8 arg9 harg9 arg10 harg10 arg11 harg11 x0 x1 x2 s9 := rfl
  rw [e, e_976, out_4]
  rfl
theorem out_6 : body.sl.HS4_6_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [5, 4, 3, 2, 1, 0] := by
  have e : body.sl.HS4_6_1 c i arg3 harg3 arg4 harg4 arg5 harg5 arg6 harg6 arg7 harg7 arg8 harg8 arg9 harg9 arg10 harg10 arg11 harg11 x0 x1 x2 s9 = (⟨rect (s := S8x64x512) offH S1x64x512.size inbA 5, k0_pay12 (F := F) (arg11.view.readCov (Val := Elt F) (body.sl.HS4_5_1 c i arg3 harg3 arg4 harg4 arg5 harg5 arg6 harg6 arg7 harg7 arg8 harg8 arg9 harg9 arg10 harg10 arg11 harg11 x0 x1 x2 s9) (rA 5)) (vals0 arg5 (harg5.unread x2) 5) (body.sl.v987 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_5_1 c i arg3 harg3 arg4 harg4 arg5 harg5 arg6 harg6 arg7 harg7 arg8 harg8 arg9 harg9 arg10 harg10 arg11 harg11 x0 x1 x2 s9 := rfl
  rw [e, e_987, out_5]
  rfl
theorem out_7 : body.sl.HS4_7_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [6, 5, 4, 3, 2, 1, 0] := by
  have e : body.sl.HS4_7_1 c i arg3 harg3 arg4 harg4 arg5 harg5 arg6 harg6 arg7 harg7 arg8 harg8 arg9 harg9 arg10 harg10 arg11 harg11 x0 x1 x2 s9 = (⟨rect (s := S8x64x512) offH S1x64x512.size inbA 6, k0_pay12 (F := F) (arg11.view.readCov (Val := Elt F) (body.sl.HS4_6_1 c i arg3 harg3 arg4 harg4 arg5 harg5 arg6 harg6 arg7 harg7 arg8 harg8 arg9 harg9 arg10 harg10 arg11 harg11 x0 x1 x2 s9) (rA 6)) (vals0 arg5 (harg5.unread x2) 6) (body.sl.v998 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_6_1 c i arg3 harg3 arg4 harg4 arg5 harg5 arg6 harg6 arg7 harg7 arg8 harg8 arg9 harg9 arg10 harg10 arg11 harg11 x0 x1 x2 s9 := rfl
  rw [e, e_998, out_6]
  rfl
theorem out_8 : body.sl.HS4_8_1 c i arg3 harg3 arg4 harg4 arg5 harg5 arg6 harg6 arg7 harg7 arg8 harg8 arg9 harg9 arg10 harg10 arg11 harg11 x0 x1 x2 s9 = chain arg11.view (s := S8x64x512) offH S1x64x512.size inbA (fun h a => k0_pay12 (F := F) a (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) [7, 6, 5, 4, 3, 2, 1, 0] := by
  have e : body.sl.HS4_8_1 c i arg3 harg3 arg4 harg4 arg5 harg5 arg6 harg6 arg7 harg7 arg8 harg8 arg9 harg9 arg10 harg10 arg11 harg11 x0 x1 x2 s9 = (⟨rect (s := S8x64x512) offH S1x64x512.size inbA 7, k0_pay12 (F := F) (arg11.view.readCov (Val := Elt F) (body.sl.HS4_7_1 c i arg3 harg3 arg4 harg4 arg5 harg5 arg6 harg6 arg7 harg7 arg8 harg8 arg9 harg9 arg10 harg10 arg11 harg11 x0 x1 x2 s9) (rA 7)) (vals0 arg5 (harg5.unread x2) 7) (body.sl.v1009 c i arg3 harg3 arg4 harg4 arg5 harg5 arg6 harg6 arg7 harg7 arg8 harg8 arg9 harg9 arg10 harg10 arg11 harg11 x0 x1 x2 s9)⟩ : View.Piece (Elt F) S8x64x512 .f32) :: body.sl.HS4_7_1 c i arg3 harg3 arg4 harg4 arg5 harg5 arg6 harg6 arg7 harg7 arg8 harg8 arg9 harg9 arg10 harg10 arg11 harg11 x0 x1 x2 s9 := rfl
  rw [e, e_1009, out_7]
  rfl

/-- What the body stores in the output. -/
theorem body_eq (s7 : BufTy.Contents (Elt F) arg7.view.ty) (s8 : BufTy.Contents (Elt F) arg8.view.ty) (s10 : BufTy.Contents (Elt F) arg10.view.ty) (s11 : BufTy.Contents (Elt F) arg11.view.ty) :
    (body c i arg3 harg3 arg4 harg4 arg5 harg5 arg6 harg6 arg7 harg7 arg8 harg8 arg9 harg9 arg10 harg10 arg11 harg11 x0 x1 x2).1 s7 s8 s9 s10 s11 = pO fun h => k0_pay2 (k0_pay12 (F := F) (arg11.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) (rA h)) (vals0 arg5 (harg5.unread x2) h) (arg10.view.readCov (Val := Elt F) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h))) := by
  have e : (body c i arg3 harg3 arg4 harg4 arg5 harg5 arg6 harg6 arg7 harg7 arg8 harg8 arg9 harg9 arg10 harg10 arg11 harg11 x0 x1 x2).1 s7 s8 s9 s10 s11 = pO fun h => k0_pay2 (arg11.view.readCov (Val := Elt F) (body.sl.HS4_8_1 c i arg3 harg3 arg4 harg4 arg5 harg5 arg6 harg6 arg7 harg7 arg8 harg8 arg9 harg9 arg10 harg10 arg11 harg11 x0 x1 x2 s9) (rA h)) := rfl
  rw [e, out_8, chain_eq arg11.view (s := S8x64x512) offH S1x64x512.size inbA apartA _ _ heads nodup_heads]
  exact congrArg pO (funext fun h => congrArg k0_pay2 (covA _ _ _ h))

end

end Cert.Sb

end
-- ==== Proof.Final.lean ====
module

public import proofs.«01_k».proof.Proof.Loop
public import proofs.«01_k».proof.Proof.Epi

/-! What the kernel stores for one block of queries: the values weighed by stick-breaking. -/

@[expose] public section

set_option maxRecDepth 16384

noncomputable section

namespace Cert.Sb

open Cert.KernelIdeal Cert.KernelIdeal.Gen Idealize.ShloMosaic Idealize.ShloMosaic.TcCoe

/-- A query of the later half. -/
abbrev late (t' : Fin 256) : Fin 512 := ⟨256 + t'.val, by omega⟩

theorem out_cast (x : Vec Ideal S1x64x512 .f32) (d : Fin 64) (t : Fin 512) : k0_pay2 (F := Ideal) x (ix3 (0 : Fin 1) d t) = x (ix3 (0 : Fin 1) d t) := by
  pointwise [k0_pay2]

section

variable (v : View sig .tc .vmem S8x64x512 .f32) (f : v.ty.Contents (Elt Ideal)) (h : Fin 8) (d : Fin 64)

/-- The earlier half of a head's accumulator. -/
abbrev offEar (h : Fin 8) : Fin 3 → ℕ := ![h.val, 0, 0]
theorem inbEar (h : Fin 8) : ∀ a, offEar h a + S1x64x256.size a ≤ S8x64x512.size a := by
  have := h.isLt
  intro a; fin_cases a
  · show h.val + 1 ≤ 8; omega
  · exact Nat.le_of_eq rfl
  · show 0 + 256 ≤ 512; omega

theorem acc_late (t : Fin 256) : v.readAt (Elt Ideal) (rA h) f (ix3 (0 : Fin 1) d ⟨256 + t.val, by omega⟩) = v.readAt (Elt Ideal) (rLA h) f (ix3 (0 : Fin 1) d t) := by
  rw [View.readAt_apply, View.readAt_apply]
  refine congrArg _ (funext fun x => Fin.ext ?_)
  fin_cases x
  · rfl
  · rfl
  · show 0 + 1 * (256 + t.val) = 256 + 1 * t.val; omega

theorem acc_early (t : Fin 256) : v.readAt (Elt Ideal) (rA h) f (ix3 (0 : Fin 1) d ⟨t.val, by omega⟩)
    = v.readAt (Elt Ideal) (rect (s := S8x64x512) offEar S1x64x256.size inbEar h).toLoadRect f (ix3 (0 : Fin 1) d t) := by
  rw [View.readAt_apply, View.readAt_apply]
  refine congrArg _ (funext fun x => Fin.ext ?_)
  fin_cases x <;> rfl

theorem early_pieces (w : (h : Fin 8) → (rect (s := S8x64x512) offL S1x64x256.size inbLA h).shape.Idx → Elt Ideal .f32) (L : List (View.Piece (Elt Ideal) S8x64x512 .f32)) :
    ∀ l : List (Fin 8), v.readAt (Elt Ideal) (rect (s := S8x64x512) offEar S1x64x256.size inbEar h).toLoadRect (v.writes (Elt Ideal) f (pieces (s := S8x64x512) offL S1x64x256.size inbLA w l ++ L))
      = v.readAt (Elt Ideal) (rect (s := S8x64x512) offEar S1x64x256.size inbEar h).toLoadRect (v.writes (Elt Ideal) f L)
  | [] => rfl
  | h' :: l => (readAt_miss v f (offEar h) (offL h') S1x64x256.size S1x64x256.size (inbEar h) (inbLA h') (w h') _ (2 : Fin 3) (Or.inl (show 0 + 256 ≤ 256 by omega))).trans (early_pieces w L l)

theorem zeros_at (y : S8x64x512.Idx) : v.read (Elt Ideal) (v.writes (Elt Ideal) f (body.sl.HS4_1)) y = 0 := by
  have e := View.read_writes_cons_unit_of_mem v f inb_S8x64x512_S8x64x512_0_0_0 (body.sl.v41 (F := Ideal)) [] y y rfl (fun a => by fin_cases a <;> exact (Nat.zero_add _).symm)
  refine e.trans ?_
  have z : ∀ y, k0_pay216 (F := Ideal) y = 0 := fun y => by
    rw [← ix3_eta y]
    exact zero_apply (y 0) (y 1) (y 2)
  unfold body.sl.v41
  exact z (Shape.reshapeEquiv _ y)

end

section

variable (c : Dev nD) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
  (x0 : Vec Ideal S1x512x512 .bf16) (x1 : Vec Ideal S1x2048x512 .bf16) (x2 : Vec Ideal S1x8x512x256 .bf16) (s9 : BufTy.Contents (Elt Ideal) arg9.view.ty)

theorem query_eq : (arg3.view.readAt (Elt Ideal) (Rect.unit (s := S1x512x512) ![0, 0, 0] S1x512x512.size inb_S1x512x512_S1x512x512_0_0_0).toLoadRect (harg3.unread x0)) = x0 := by
  funext y
  refine (harg3.readAt_unread x0 _ _).trans (congrArg x0 (funext fun x => Fin.ext ?_))
  show (![0, 0, 0] : Fin 3 → ℕ) x + 1 * (y x).val = (y x).val
  fin_cases x <;> (show 0 + 1 * _ = _; omega)

theorem q_at (h : Fin 8) (k : Fin 128) (t : Fin 512) : qs (arg3.view.readAt (Elt Ideal) (Rect.unit (s := S1x512x512) ![0, 0, 0] S1x512x512.size inb_S1x512x512_S1x512x512_0_0_0).toLoadRect (harg3.unread x0)) h (ix2 k t) = wq x0 h k t := by
  rw [query_eq]; exact qs_apply x0 h k t

theorem sN_at (h : Fin 8) (t : Fin 512) (r : Fin 256) : (k0_pay3 (qs (arg3.view.readAt (Elt Ideal) (Rect.unit (s := S1x512x512) ![0, 0, 0] S1x512x512.size inb_S1x512x512_S1x512x512_0_0_0).toLoadRect (harg3.unread x0)) h) (keysN i arg4 (harg4.unread x1) h)) (ix3 (0 : Fin 1) r t) = zc x0 x1 h t (256 * (2 * qb i - 1) + r.val) :=
  scores_of x0 x1 _ h (q_at arg3 harg3 x0 h) _ (2 * qb i - 1) (fun r c => keysN_apply i arg4 harg4 x1 h r c) t r
theorem sD_at (h : Fin 8) (t : Fin 512) (r : Fin 256) : (k0_pay3 (qs (arg3.view.readAt (Elt Ideal) (Rect.unit (s := S1x512x512) ![0, 0, 0] S1x512x512.size inb_S1x512x512_S1x512x512_0_0_0).toLoadRect (harg3.unread x0)) h) (keysD i arg4 (harg4.unread x1) h)) (ix3 (0 : Fin 1) r t) = zc x0 x1 h t (256 * (2 * qb i) + r.val) :=
  scores_of x0 x1 _ h (q_at arg3 harg3 x0 h) _ (2 * qb i) (fun r c => keysD_apply i arg4 harg4 x1 h r c) t r
theorem sL_at (h : Fin 8) (t : Fin 256) (r : Fin 256) : (k0_pay218 (qs (arg3.view.readAt (Elt Ideal) (Rect.unit (s := S1x512x512) ![0, 0, 0] S1x512x512.size inb_S1x512x512_S1x512x512_0_0_0).toLoadRect (harg3.unread x0)) h) (keysL i arg4 (harg4.unread x1) h)) (ix3 (0 : Fin 1) r t) = zc x0 x1 h ⟨256 + t.val, by omega⟩ (256 * (2 * qb i + 1) + r.val) :=
  (scoresLate_apply _ _ _ _).trans (Finset.sum_congr rfl fun k _ => by rw [q_at, keysL_apply])

theorem c0_at (h : Fin 8) (t : Fin 512) : (carL (k0_pay246 k0_pay214 k0_pay215 (k0_pay218 (qs (arg3.view.readAt (Elt Ideal) (Rect.unit (s := S1x512x512) ![0, 0, 0] S1x512x512.size inb_S1x512x512_S1x512x512_0_0_0).toLoadRect (harg3.unread x0)) h) (keysL i arg4 (harg4.unread x1) h)))) (ix2 (0 : Fin 1) t) = suf (Tq i t) (Eq i) (zc x0 x1 h t) (256 * (2 * qb i + 1)) := by
  have ht := t.isLt
  by_cases hl : t.val < 256
  · rw [suf_late (Tq i t) (Eq i) _ _ (show 512 * qb i + t.val ≤ _ by omega)]
    exact car_early _ ⟨t.val, hl⟩
  · obtain ⟨t', rfl⟩ : ∃ t' : Fin 256, t = late t' := ⟨⟨t.val - 256, by omega⟩, Fin.ext (by show t.val = 256 + (t.val - 256); omega)⟩
    refine (car_late _ t').trans ((inc_late (Tq i (late t')) (2 * qb i + 1) _ t' _ (by show 512 * qb i + (256 + t'.val) = _; omega) (fun x => sL_at i arg3 harg3 arg4 harg4 x0 x1 h t' x) 0).trans ?_)
    have s := suf_block (Tq i (late t')) (Eq i) (zc x0 x1 h (late t')) (2 * qb i + 1) 0 (by omega) (by show _ ≤ 512 * (qb i + 1); omega)
    rw [show 256 * (2 * qb i + 1 + 1) = Eq i by show _ = 512 * (qb i + 1); omega, suf_end, add_zero] at s
    exact s

theorem wD_at (h : Fin 8) (t : Fin 512) (r : Fin 256) : k0_pay320 k0_pay213 (carL (k0_pay246 k0_pay214 k0_pay215 (k0_pay218 (qs (arg3.view.readAt (Elt Ideal) (Rect.unit (s := S1x512x512) ![0, 0, 0] S1x512x512.size inb_S1x512x512_S1x512x512_0_0_0).toLoadRect (harg3.unread x0)) h) (keysL i arg4 (harg4.unread x1) h)))) (k0_pay305 k0_pay213 k0_pay215 (k0_pay3 (qs (arg3.view.readAt (Elt Ideal) (Rect.unit (s := S1x512x512) ![0, 0, 0] S1x512x512.size inb_S1x512x512_S1x512x512_0_0_0).toLoadRect (harg3.unread x0)) h) (keysD i arg4 (harg4.unread x1) h))) (k0_pay3 (qs (arg3.view.readAt (Elt Ideal) (Rect.unit (s := S1x512x512) ![0, 0, 0] S1x512x512.size inb_S1x512x512_S1x512x512_0_0_0).toLoadRect (harg3.unread x0)) h) (keysD i arg4 (harg4.unread x1) h)) (ix3 (0 : Fin 1) r t) = wt (Tq i t) (Eq i) (zc x0 x1 h t) (256 * (2 * qb i) + r.val) :=
  wgt_diag (Tq i t) (Eq i) (2 * qb i) _ t _ _ (by show 512 * qb i + t.val = _; omega) (by show _ ≤ 512 * (qb i + 1); omega) (fun x => sD_at i arg3 harg3 arg4 harg4 x0 x1 h t x) (c0_at i arg3 harg3 arg4 harg4 x0 x1 h t) r
theorem c1_at (h : Fin 8) (t : Fin 512) : (k0_pay48 (carL (k0_pay246 k0_pay214 k0_pay215 (k0_pay218 (qs (arg3.view.readAt (Elt Ideal) (Rect.unit (s := S1x512x512) ![0, 0, 0] S1x512x512.size inb_S1x512x512_S1x512x512_0_0_0).toLoadRect (harg3.unread x0)) h) (keysL i arg4 (harg4.unread x1) h)))) (k0_pay305 k0_pay213 k0_pay215 (k0_pay3 (qs (arg3.view.readAt (Elt Ideal) (Rect.unit (s := S1x512x512) ![0, 0, 0] S1x512x512.size inb_S1x512x512_S1x512x512_0_0_0).toLoadRect (harg3.unread x0)) h) (keysD i arg4 (harg4.unread x1) h)))) (ix2 (0 : Fin 1) t) = suf (Tq i t) (Eq i) (zc x0 x1 h t) (256 * (2 * qb i)) :=
  car_diag (Tq i t) (Eq i) (2 * qb i) _ t _ _ (by show 512 * qb i + t.val = _; omega) (by show _ ≤ 512 * (qb i + 1); omega) (fun x => sD_at i arg3 harg3 arg4 harg4 x0 x1 h t x) (c0_at i arg3 harg3 arg4 harg4 x0 x1 h t)

theorem acc_init (h : Fin 8) (d : Fin 64) (t : Fin 512) :
    arg11.view.readAt (Elt Ideal) (rA h) (arg11.view.writes (Elt Ideal) arg11.view.junk (body.sl.HS4_9 c i arg3 harg3 arg4 harg4 arg5 harg5 arg7 arg9 arg11 x0 x1 x2)) (ix3 (0 : Fin 1) d t)
      = outc (Tq i t) (Eq i) (zc x0 x1 h t) (vc x2 h d) (256 * (2 * qb i + 1)) := by
  have ht := t.isLt
  rw [hs4]
  by_cases hl : t.val < 256
  · rw [outc_late (Tq i t) (Eq i) _ _ _ (show 512 * qb i + t.val ≤ _ by omega)]
    refine (acc_early arg11.view _ h d ⟨t.val, hl⟩).trans ?_
    rw [early_pieces, View.readAt_apply]
    exact zeros_at _ _ _
  · obtain ⟨t', rfl⟩ : ∃ t' : Fin 256, t = late t' := ⟨⟨t.val - 256, by omega⟩, Fin.ext (by show t.val = 256 + (t.val - 256); omega)⟩
    rw [acc_late, readAt_pieces (s := S8x64x512) offL S1x64x256.size inbLA apartLA _ _ _ _ h heads (mem_heads h)]
    refine (accLate_apply _ _ _ _ _).trans ?_
    have z0 : arg11.view.readCov (Val := Elt Ideal) (body.sl.HS4_1) (rLA h) (ix3 (0 : Fin 1) d t') = 0 := zeros_at arg11.view _ _
    have s := outc_block (Tq i (late t')) (Eq i) (zc x0 x1 h (late t')) (vc x2 h d) (2 * qb i + 1) (by show _ ≤ 512 * (qb i + 1); omega)
    rw [show 256 * (2 * qb i + 1 + 1) = Eq i by show _ = 512 * (qb i + 1); omega, outc_end] at s
    rw [z0, ← s]
    refine congrArg _ (Finset.sum_congr rfl fun r _ => ?_)
    rw [valsL_apply, wgt_late (Tq i (late t')) (Eq i) (2 * qb i + 1) (zc x0 x1 h (late t')) t' _ (by show 512 * qb i + (256 + t'.val) = _; omega) (by show _ = 512 * (qb i + 1); omega) (fun x => sL_at i arg3 harg3 arg4 harg4 x0 x1 h t' x) r]
    rfl

/-- Before the first trip. -/
theorem inv_init : Inv x0 x1 x2 i arg7 arg10 arg11 (2 * qb i) (fun h => (k0_pay48 (carL (k0_pay246 k0_pay214 k0_pay215 (k0_pay218 (qs (arg3.view.readAt (Elt Ideal) (Rect.unit (s := S1x512x512) ![0, 0, 0] S1x512x512.size inb_S1x512x512_S1x512x512_0_0_0).toLoadRect (harg3.unread x0)) h) (keysL i arg4 (harg4.unread x1) h)))) (k0_pay305 k0_pay213 k0_pay215 (k0_pay3 (qs (arg3.view.readAt (Elt Ideal) (Rect.unit (s := S1x512x512) ![0, 0, 0] S1x512x512.size inb_S1x512x512_S1x512x512_0_0_0).toLoadRect (harg3.unread x0)) h) (keysD i arg4 (harg4.unread x1) h)))))
    (arg7.view.writes (Elt Ideal) arg7.view.junk (body.sl.HS0_16 c i arg3 harg3 arg4 harg4 x0 x1))
    (arg10.view.writes (Elt Ideal) arg10.view.junk (body.sl.HS3_8 c i arg3 harg3 arg4 harg4 arg7 arg8 x0 x1))
    (arg11.view.writes (Elt Ideal) arg11.view.junk (body.sl.HS4_9 c i arg3 harg3 arg4 harg4 arg5 harg5 arg7 arg9 arg11 x0 x1 x2)) := by
  refine ⟨fun _ h r t => ?_, fun h r t => ?_, fun h d t => ?_, fun h t => ?_⟩
  · rw [hs0_16]
    exact (congrFun (readS arg7.view _ _ _ h) _).trans (sN_at i arg3 harg3 arg4 harg4 x0 x1 h t r)
  · rw [hs3_8]
    exact (congrFun (covS arg10.view _ h) _).trans (wD_at i arg3 harg3 arg4 harg4 x0 x1 h t r)
  · exact acc_init ..
  · exact c1_at i arg3 harg3 arg4 harg4 x0 x1 h t

/-- After the last. -/
theorem inv_end : ∃ C, Inv x0 x1 x2 i arg7 arg10 arg11 0 C (arg7.view.writes (Elt Ideal) (arg7.view.writes (Elt Ideal) arg7.view.junk (body.sl.HS0_16 c i arg3 harg3 arg4 harg4 x0 x1)) (loopSt c i arg3 harg3 arg4 harg4 arg5 harg5 arg6 harg6 arg7 harg7 arg8 harg8 arg9 harg9 arg10 harg10 arg11 harg11 x0 x1 x2 s9 (k0_t1_loop i).trips).2.1)
    (arg10.view.writes (Elt Ideal) (arg10.view.writes (Elt Ideal) arg10.view.junk (body.sl.HS3_8 c i arg3 harg3 arg4 harg4 arg7 arg8 x0 x1)) (loopSt c i arg3 harg3 arg4 harg4 arg5 harg5 arg6 harg6 arg7 harg7 arg8 harg8 arg9 harg9 arg10 harg10 arg11 harg11 x0 x1 x2 s9 (k0_t1_loop i).trips).2.2.2.2.1)
    (arg11.view.writes (Elt Ideal) (arg11.view.writes (Elt Ideal) arg11.view.junk (body.sl.HS4_9 c i arg3 harg3 arg4 harg4 arg5 harg5 arg7 arg9 arg11 x0 x1 x2)) (loopSt c i arg3 harg3 arg4 harg4 arg5 harg5 arg6 harg6 arg7 harg7 arg8 harg8 arg9 harg9 arg10 harg10 arg11 harg11 x0 x1 x2 s9 (k0_t1_loop i).trips).2.2.2.2.2) := by
  have H := inv_loop Variants.none c none i arg3 harg3 arg4 harg4 arg5 harg5 arg6 harg6 arg7 harg7 arg8 harg8 arg9 harg9 arg10 harg10 arg11 harg11 (BitVec.ofNat 32 ↑(i 2)) (qs (arg3.view.readAt (Elt Ideal) (Rect.unit (s := S1x512x512) ![0, 0, 0] S1x512x512.size inb_S1x512x512_S1x512x512_0_0_0).toLoadRect (harg3.unread x0)))
    k0_pay213 (body.sl.v37 i) (body.sl.v478 c i arg3 harg3 arg4 harg4 arg7 x0 x1) (body.sl.v480 c i arg3 harg3 arg4 harg4 arg7 x0 x1) (body.sl.v482 c i arg3 harg3 arg4 harg4 arg7 x0 x1) (body.sl.v484 c i arg3 harg3 arg4 harg4 arg7 x0 x1) (body.sl.v486 c i arg3 harg3 arg4 harg4 arg7 x0 x1) (body.sl.v488 c i arg3 harg3 arg4 harg4 arg7 x0 x1) (body.sl.v490 c i arg3 harg3 arg4 harg4 arg7 x0 x1) (body.sl.v492 c i arg3 harg3 arg4 harg4 arg7 x0 x1) (body.sl.r_22 c i arg3 harg3 arg4 harg4 arg8 x0 x1) (body.sl.r_23 c i arg3 harg3 arg4 harg4 arg8 x0 x1) (body.sl.r_25 c i arg3 harg3 arg4 harg4 arg8 x0 x1) (body.sl.r_26 c i arg3 harg3 arg4 harg4 arg8 x0 x1) (body.sl.r_29 c i arg3 harg3 arg4 harg4 arg8 x0 x1) (body.sl.r_30 c i arg3 harg3 arg4 harg4 arg8 x0 x1) (body.sl.r_33 c i arg3 harg3 arg4 harg4 arg8 x0 x1) (body.sl.r_34 c i arg3 harg3 arg4 harg4 arg8 x0 x1) (body.sl.v894 c i arg3 harg3 arg4 harg4 arg7 arg8 x0 x1) x0 x1 x2 (arg7.view.writes (Elt Ideal) arg7.view.junk (body.sl.HS0_16 c i arg3 harg3 arg4 harg4 x0 x1)) (arg8.view.writes (Elt Ideal) arg8.view.junk (body.sl.HS1_8 c i arg3 harg3 arg4 harg4 x0 x1)) (arg9.view.writes (Elt Ideal) s9 (body.sl.HS2_8 c i arg3 harg3 arg4 harg4 arg7 x0 x1)) (arg10.view.writes (Elt Ideal) arg10.view.junk (body.sl.HS3_8 c i arg3 harg3 arg4 harg4 arg7 arg8 x0 x1)) (arg11.view.writes (Elt Ideal) arg11.view.junk (body.sl.HS4_9 c i arg3 harg3 arg4 harg4 arg5 harg5 arg7 arg9 arg11 x0 x1 x2)) (q_at arg3 harg3 x0) (k0_pay331 (body.sl.v478 c i arg3 harg3 arg4 harg4 arg7 x0 x1) (body.sl.r_22 c i arg3 harg3 arg4 harg4 arg8 x0 x1), k0_pay332 (body.sl.v480 c i arg3 harg3 arg4 harg4 arg7 x0 x1) (body.sl.r_23 c i arg3 harg3 arg4 harg4 arg8 x0 x1), k0_pay333 (body.sl.v482 c i arg3 harg3 arg4 harg4 arg7 x0 x1) (body.sl.r_25 c i arg3 harg3 arg4 harg4 arg8 x0 x1), k0_pay334 (body.sl.v484 c i arg3 harg3 arg4 harg4 arg7 x0 x1) (body.sl.r_26 c i arg3 harg3 arg4 harg4 arg8 x0 x1), k0_pay335 (body.sl.v486 c i arg3 harg3 arg4 harg4 arg7 x0 x1) (body.sl.r_29 c i arg3 harg3 arg4 harg4 arg8 x0 x1), k0_pay336 (body.sl.v488 c i arg3 harg3 arg4 harg4 arg7 x0 x1) (body.sl.r_30 c i arg3 harg3 arg4 harg4 arg8 x0 x1), k0_pay337 (body.sl.v490 c i arg3 harg3 arg4 harg4 arg7 x0 x1) (body.sl.r_33 c i arg3 harg3 arg4 harg4 arg8 x0 x1), k0_pay338 (body.sl.v492 c i arg3 harg3 arg4 harg4 arg7 x0 x1) (body.sl.r_34 c i arg3 harg3 arg4 harg4 arg8 x0 x1)) _ (init_eq ..) (inv_init c i arg3 harg3 arg4 harg4 arg5 harg5 arg7 arg8 arg9 arg10 arg11 x0 x1 x2) (qb i) le_rfl
  obtain ⟨C, hC, hI⟩ := H
  rw [Nat.sub_self] at hI
  refine ⟨C, ?_⟩
  rw [trips_eq]
  exact hI

/-- The block's result: at head `h`, feature `d` and query `t` the values of all keys before the query, weighed. -/
theorem result_at (h : Fin 8) (d : Fin 64) (t : Fin 512) :
    (k0_pay2 (F := Ideal) (k0_pay12 (F := Ideal) (arg11.view.readCov (Val := Elt Ideal) ((loopSt c i arg3 harg3 arg4 harg4 arg5 harg5 arg6 harg6 arg7 harg7 arg8 harg8 arg9 harg9 arg10 harg10 arg11 harg11 x0 x1 x2 s9 (k0_t1_loop i).trips).2.2.2.2.2 ++ body.sl.HS4_9 c i arg3 harg3 arg4 harg4 arg5 harg5 arg7 arg9 arg11 x0 x1 x2) (rA h)) (vals0 arg5 (harg5.unread x2) h) (arg10.view.readCov (Val := Elt Ideal) ((loopSt c i arg3 harg3 arg4 harg4 arg5 harg5 arg6 harg6 arg7 harg7 arg8 harg8 arg9 harg9 arg10 harg10 arg11 harg11 x0 x1 x2 s9 (k0_t1_loop i).trips).2.2.2.2.1 ++ body.sl.HS3_8 c i arg3 harg3 arg4 harg4 arg7 arg8 x0 x1) (rS h)))) (ix3 (0 : Fin 1) d t)
      = outc (Tq i t) (Eq i) (zc x0 x1 h t) (vc x2 h d) 0 := by
  obtain ⟨C, hI⟩ := inv_end c i arg3 harg3 arg4 harg4 arg5 harg5 arg6 harg6 arg7 harg7 arg8 harg8 arg9 harg9 arg10 harg10 arg11 harg11 x0 x1 x2 s9
  refine (out_cast _ _ _).trans ?_
  refine acc_block (Tq i t) (Eq i) 0 _ _ t (by show 256 ≤ 512 * (qb i + 1); omega) _ _ _ d ?_ (fun r => ?_) (fun r => ?_)
  · refine _root_.Eq.trans ?_ (hI.sums h d t)
    exact congrArg (fun f => arg11.view.readAt (Elt Ideal) (rA h) f _) (View.writes_append ..)
  · rw [vals0_apply]; rfl
  · refine _root_.Eq.trans ?_ (hI.weights h r t)
    exact congrArg (fun f => arg10.view.readAt (Elt Ideal) (rS h) f _) (View.writes_append ..)

end

end Cert.Sb

end
-- ==== Proof.Run.lean ====
module

public import proofs.«01_k».proof.Proof.Final
public import proofs.«01_k».proof.Proof.Gen.KernelIdeal.Frame.Runs
public import Idealize.ShloMosaic.Lib.Claim
public import Idealize.ShloMosaic.Lib.Pipeline.Value

/-! The kernel's run: each point of the grid leaves the attention of its block of queries, and the whole array is these
blocks. -/

@[expose] public section

set_option maxRecDepth 16384

noncomputable section

namespace Cert.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The attention of one block of queries: feature `64 h + d` at query `t`. -/
def outv (i : grid0.Coords) (x0 : Vec Ideal S1x512x512 .bf16) (x1 : Vec Ideal S1x2048x512 .bf16) (x2 : Vec Ideal S1x8x512x256 .bf16) : Vec Ideal S1x512x512 .bf16 := fun y =>
  outc (Tq i (y 2)) (Eq i) (zc x0 x1 ⟨(y 1).val / 64, Nat.div_lt_of_lt_mul (y 1).isLt⟩ (y 2)) (vc x2 ⟨(y 1).val / 64, Nat.div_lt_of_lt_mul (y 1).isLt⟩ ⟨(y 1).val % 64, Nat.mod_lt _ (by decide)⟩) 0

/-- The eight heads' stores cover the block, and each entry is the one of its head. -/
theorem read_heads {v : View sig .tc .vmem S1x512x512 .bf16} (f : v.ty.Contents (Elt Ideal)) (w : Fin 8 → Vec Ideal S1x64x512 .bf16) (h : Fin 8) (d : Fin 64) (t : Fin 512) :
    v.read (Elt Ideal) (v.writes (Elt Ideal) f (pO w)) (ix3 (0 : Fin 1) ⟨64 * h.val + d.val, by omega⟩ t) = w h (ix3 (0 : Fin 1) d t) := by
  have e := readAt_pieces (s := S1x512x512) offO S1x64x512.size inbO (fun h h' hne => ⟨1, by
    show 64 * h.val + 64 ≤ 64 * h'.val ∨ 64 * h'.val + 64 ≤ 64 * h.val
    have : h.val ≠ h'.val := fun e => hne (Fin.ext e)
    omega⟩) w v f [] h heads (mem_heads h)
  refine _root_.Eq.trans ?_ (congrFun e (ix3 (0 : Fin 1) d t))
  rw [View.readAt_apply, List.append_nil]
  refine congrArg _ (funext fun x => Fin.ext ?_)
  fin_cases x
  · rfl
  · show 64 * h.val + d.val = 64 * h.val + 1 * d.val; omega
  · show t.val = 0 + 1 * t.val; omega

section

variable (c : Dev nD) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x8x512x256 .bf16) (harg5 : arg5.IsWhole) (arg6 : Memref sig .tc .vmem S1x512x512 .bf16) (harg6 : arg6.IsWhole) (arg7 : Memref sig .tc .vmem S8x256x512 .f32) (harg7 : arg7.IsWhole) (arg8 : Memref sig .tc .vmem S8x256x512 .f32) (harg8 : arg8.IsWhole) (arg9 : Memref sig .tc .vmem S8x256x512 .bf16) (harg9 : arg9.IsWhole) (arg10 : Memref sig .tc .vmem S8x256x512 .bf16) (harg10 : arg10.IsWhole) (arg11 : Memref sig .tc .vmem S8x64x512 .f32) (harg11 : arg11.IsWhole)
  (x0 : Vec Ideal S1x512x512 .bf16) (x1 : Vec Ideal S1x2048x512 .bf16) (x2 : Vec Ideal S1x8x512x256 .bf16)

/-- The feature `64 h + d` of a block. -/
abbrev feat (h : Fin 8) (d : Fin 64) : Fin 512 := ⟨64 * h.val + d.val, by omega⟩

theorem stored (s6 : BufTy.Contents (Elt Ideal) arg6.view.ty) (s7 : BufTy.Contents (Elt Ideal) arg7.view.ty) (s8 : BufTy.Contents (Elt Ideal) arg8.view.ty) (s9 : BufTy.Contents (Elt Ideal) arg9.view.ty) (s10 : BufTy.Contents (Elt Ideal) arg10.view.ty) (s11 : BufTy.Contents (Elt Ideal) arg11.view.ty) :
    arg6.view.read (Elt Ideal) (arg6.view.writes (Elt Ideal) s6 ((body (F := Ideal) c i arg3 harg3 arg4 harg4 arg5 harg5 arg6 harg6 arg7 harg7 arg8 harg8 arg9 harg9 arg10 harg10 arg11 harg11 x0 x1 x2).1 s7 s8 s9 s10 s11)) = outv i x0 x1 x2 := by
  rw [body_eq]
  funext y
  obtain ⟨a, b, t, rfl⟩ : ∃ a b t, y = ix3 a b t := ⟨y 0, y 1, y 2, eq_ix3 y⟩
  obtain rfl : a = 0 := Subsingleton.elim _ _
  have hb : b.val < 512 := b.isLt
  obtain ⟨h, d, rfl⟩ : ∃ (h : Fin 8) (d : Fin 64), b = feat h d :=
    ⟨⟨b.val / 64, by omega⟩, ⟨b.val % 64, by omega⟩, Fin.ext (by show b.val = 64 * (b.val / 64) + b.val % 64; omega)⟩
  refine (read_heads s6 _ h d t).trans ((result_at c i arg3 harg3 arg4 harg4 arg5 harg5 arg6 harg6 arg7 harg7 arg8 harg8 arg9 harg9 arg10 harg10 arg11 harg11 x0 x1 x2 s9 h d t).trans ?_)
  have eh : (⟨(64 * h.val + d.val) / 64, by omega⟩ : Fin 8) = h := Fin.ext (by show (64 * h.val + d.val) / 64 = h.val; omega)
  have ed : (⟨(64 * h.val + d.val) % 64, by omega⟩ : Fin 64) = d := Fin.ext (by show (64 * h.val + d.val) % 64 = d.val; omega)
  show _ = outc (Tq i t) (Eq i) (zc x0 x1 (⟨(64 * h.val + d.val) / 64, _⟩ : Fin 8) t) (vc x2 (⟨(64 * h.val + d.val) / 64, _⟩ : Fin 8) (⟨(64 * h.val + d.val) % 64, _⟩ : Fin 64)) 0
  rw [eh, ed]

/-- The body at whole buffers: the output's ends at the block's attention. -/
theorem body_run (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outv i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp Idealize.ShloMosaic.frame (wpE (defs₀ (F := Ideal)) Variants.none c none) E (cc0_sb_attention i arg3 harg3 arg4 harg4 arg5 harg5 arg6 harg6 arg7 harg7 arg8 harg8 arg9 harg9 arg10 harg10 arg11 harg11) K := by
  have B := fun f3 fs0 fs1 fs2 fs3 fs4 => (body (F := Ideal) c i arg3 harg3 arg4 harg4 arg5 harg5 arg6 harg6 arg7 harg7 arg8 harg8 arg9 harg9 arg10 harg10 arg11 harg11 x0 x1 x2).2 E K f3 fs0 fs1 fs2 fs3 fs4
  unfold owns at B
  unfold owns
  iintro ⟨H0, H1, H2, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  iapply (B f3 fs0 fs1 fs2 fs3 fs4)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  iapply Hk
  isplitl [H0]; · iexact H0
  isplitl [H1]; · iexact H1
  isplitl [H2]; · iexact H2
  isplitl [H3]
  · iexists _; isplitr
    swap; · iexact H3
    ipureintro; exact stored c i arg3 harg3 arg4 harg4 arg5 harg5 arg6 harg6 arg7 harg7 arg8 harg8 arg9 harg9 arg10 harg10 arg11 harg11 x0 x1 x2 f3 fs0 fs1 fs2 fs3 fs4
  isplitl [HS0]; · iexact HS0
  isplitl [HS1]; · iexact HS1
  isplitl [HS2]; · iexact HS2
  isplitl [HS3]; · iexact HS3
  iexact HS4

end

variable (m : (ℓ : Loc nD τ sig) → Buf (Elt Ideal) ℓ) (ρ : Dev nD → PrngReg)

/-- What a point's body leaves in the output's buffer. -/
def outAt (c : Dev nD) (t : Fin cfg0.N) : Vec Ideal S1x512x512 .bf16 := outv (grid0.coords t) (iblk m c 0 t) (iblk m c 1 t) (iblk m c 2 t)

/-- The run's data on one core: the arrays as they are when the grid starts, each input's buffer at its block and the output's at the
block's attention after every point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := Pipeline.ΦA spec0 c
  q _ := fullShare
  owed _ := 0

/-- The arrays are those the grid starts from. -/
theorem A_eq (c : Dev nD) (w : Fin cfg0.W) : (dats m 0 c).A w = V m c (Pipeline.arrRef spec0 w) := by
  dsimp only [dats]

/-- What each buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outAt m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What a point's body is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outAt
  iintro ⟨⟨⟨HS0, HS1, HS2, HS3, HS4⟩, Hg⟩, Ho, ⟨%d0, H0⟩, ⟨%d1, H1⟩, ⟨%d2, H2⟩, ⟨%d3, H3⟩⟩
  iapply (body_run c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

theorem body_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- Every run ends with the arrays at what the points wrote and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The kernel over the extended reals leaves its argument as it was and every semaphore at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-- Distinct points write distinct blocks, -/
theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- so a block of the final array is what its point wrote. -/
theorem blocks3 (c : Dev nD) (t : Fin cfg0.N) (hf : (cfg0.win 3).flush t = true) :
    ((cfg0.win 3).blk t).view.read (Elt Ideal) ((dats m 0 c).arrAt 3 cfg0.N) = (cfg0.win 3).cut (grid0.coords t) (outAt m c t) := by
  refine ((dats m 0 c).read_blk_arrAt_eq_flushed 3 disjoint3 cfg0.N t t.isLt hf).trans ?_
  show (cfg0.win 3).cut (grid0.coords t) ((dats m 0 c).after 3 t) = _
  rw [after0_3]

/-- The run, with the result's array named. -/
theorem run_blocks : θ_run defs (onTc (τ := τ) (main (F := Ideal))) ⟨m, fun _ => 0, ρ⟩ fun r => ∀ c : Dev nD,
      r.2.mem ((c : Thread nD τ).loc main_v21) = (dats m 0 c).arrAt 3 cfg0.N
      ∧ r.2.mem ((c : Thread nD τ).loc main_arg0) = m ((c : Thread nD τ).loc main_arg0) :=
  (θ_run defs _ _).mono (fun r h c => ⟨(h c).1 3,
      ((h c).2 main_arg0 (Pipeline.mem_restRefs_of main_arg0 (by decide) (by decide))).trans (V_main_arg0 m c)⟩)
    (run_main m ρ)

end Cert.Sb

end
-- ==== Proof.Host.lean ====
module

public import proofs.«01_k».proof.Proof.Run
public import Idealize.ShloMosaic.Lib.Pointwise

/-! What the pipeline's blocks hold of the layer's projection: the host code before the call only cuts, transposes and
rounds, and over the extended reals a rounding changes nothing. -/

@[expose] public section

set_option maxRecDepth 16384

noncomputable section

namespace Cert.Sb

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (c : Dev nD)

/-- The layer's projection on a core. -/
abbrev proj : Vec Ideal S16x2048x2304 .f32 := m ((c : Thread nD τ).loc main_arg0)

/-- The queries, features by tokens. -/
theorem V_q (b : Fin 16) (f : Fin 512) (t : Fin 2048) :
    (V m c main_v16 : Vec Ideal S16x512x2048 .bf16) (ix3 b f t) = proj m c (ix3 b t ⟨f.val, by omega⟩) := by
  have e : @_root_.Eq (FVec Ideal S16x512x2048 .bf16) (V m c main_v16) (truncf (F := Ideal) .bf16 (transpose S16x512x2048 [0, 2, 1] (extractStridedSlice S16x2048x512 ![0, 0, 0] (proj m c) slices_S16x2048x2304_S16x2048x512_0_0_0) transposes_S16x2048x512_S16x512x2048_0_2_1) bitsLt_bf16_f32) := by
    show StableHlo.after hostOps0 _ (Proc.devRef .tc main_v16) = _
    after_results
  refine (congrFun e _).trans ?_
  pointwise

/-- The values by key blocks, features by keys in each. -/
theorem V_v (b : Fin 16) (n : Fin 8) (f : Fin 512) (r : Fin 256) :
    (V m c main_v20 : Vec Ideal S16x8x512x256 .bf16) (ix4 b n f r) = proj m c (ix3 b ⟨256 * n.val + r.val, by omega⟩ ⟨1024 + f.val, by omega⟩) := by
  have e : @_root_.Eq (FVec Ideal S16x8x512x256 .bf16) (V m c main_v20) (truncf (F := Ideal) .bf16 (transpose S16x8x512x256 [0, 1, 3, 2] (shapeCast S16x8x256x512 (extractStridedSlice S16x2048x512 ![0, 0, 1024] (proj m c) slices_S16x2048x2304_S16x2048x512_0_0_1024) shapeCasts_S16x2048x512_S16x8x256x512) transposes_S16x8x256x512_S16x8x512x256_0_1_3_2) bitsLt_bf16_f32) := by
    show StableHlo.after hostOps0 _ (Proc.devRef .tc main_v20) = _
    after_results
    rfl
  refine (congrFun e _).trans ?_
  pointwise
  have e1 : (⟨n.val * 256 + r.val, by omega⟩ : Fin 2048) = ⟨256 * n.val + r.val, by omega⟩ := Fin.ext (by show n.val * 256 + r.val = 256 * n.val + r.val; omega)
  rw [e1]

/-- The keys, tokens by features: the first columns of what the call takes. -/
theorem V_k (b : Fin 16) (s : Fin 2048) (f : Fin 512) :
    (V m c main_v13 : Vec Ideal S16x2048x1536 .bf16) (ix3 b s ⟨f.val, by omega⟩) = proj m c (ix3 b s ⟨512 + f.val, by omega⟩) := by
  have e : ∃ (y2 : FVec Ideal S16x2048x512 .f32) (y3 y4 : FVec Ideal S16x2048x256 .f32), @_root_.Eq (FVec Ideal S16x2048x1536 .bf16) (V m c main_v13) (truncf (F := Ideal) .bf16 (concatenate S16x2048x1536 2 [⟨S16x2048x512, extractStridedSlice S16x2048x512 ![0, 0, 512] (proj m c) slices_S16x2048x2304_S16x2048x512_0_0_512⟩, ⟨S16x2048x512, y2⟩, ⟨S16x2048x256, y3⟩, ⟨S16x2048x256, y4⟩] concatenates_S16x2048x512_S16x2048x512_S16x2048x256_S16x2048x256_S16x2048x1536_d2) bitsLt_bf16_f32) := by
    refine ⟨?_, ?_, ?_, ?_⟩
    rotate_left 3
    show StableHlo.after hostOps0 _ (Proc.devRef .tc main_v13) = _
    after_results
    rfl
  obtain ⟨y2, y3, y4, e⟩ := e
  refine (congrFun e _).trans ?_
  pointwise

theorem index0 : ∀ t : Fin cfg0.N, win0_0.index t = ![(grid0.coords t 0).val, 0, (grid0.coords t 2).val] :=
  (by decide +kernel : ∀ t : Fin grid0.N, win0_0.index t = ![(grid0.coords t 0).val, 0, (grid0.coords t 2).val])

theorem index1 : ∀ t : Fin cfg0.N, win0_1.index t = ![(grid0.coords t 0).val, 0, 0] :=
  (by decide +kernel : ∀ t : Fin grid0.N, win0_1.index t = ![(grid0.coords t 0).val, 0, 0])

theorem index2 : ∀ t : Fin cfg0.N, win0_2.index t = ![(grid0.coords t 0).val, 0, 0, 0] :=
  (by decide +kernel : ∀ t : Fin grid0.N, win0_2.index t = ![(grid0.coords t 0).val, 0, 0, 0])

theorem index3 : ∀ t : Fin cfg0.N, win0_3.index t = ![(grid0.coords t 0).val, 0, (grid0.coords t 2).val] :=
  (by decide +kernel : ∀ t : Fin grid0.N, win0_3.index t = ![(grid0.coords t 0).val, 0, (grid0.coords t 2).val])

/-- The batch and the block of queries of a point. -/
abbrev bat (t : Fin cfg0.N) : Fin 16 := grid0.coords t 0
abbrev qry (t : Fin cfg0.N) : Fin 4 := grid0.coords t 2

theorem iblk_q (t : Fin cfg0.N) (f x : Fin 512) :
    (iblk m c 0 t : Vec Ideal S1x512x512 .bf16) (ix3 (0 : Fin 1) f x) = proj m c (ix3 (bat t) ⟨512 * (qry t).val + x.val, by have := (qry t).isLt; omega⟩ ⟨f.val, by omega⟩) := by
  refine _root_.Eq.trans ?_ (V_q m c (bat t) f ⟨512 * (qry t).val + x.val, by have := (qry t).isLt; omega⟩)
  unfold iblk
  rw [View.read_apply]
  show V m c main_v16 _ = V m c main_v16 _
  refine congrArg _ (funext fun a => Fin.ext ?_)
  match a with
  | ⟨0, _⟩ => show win0_0.index t 0 * 1 + 1 * 0 = (bat t).val; rw [index0]; show (bat t).val * 1 + 1 * 0 = _; omega
  | ⟨1, _⟩ => show win0_0.index t 1 * 512 + 1 * f.val = f.val; rw [index0]; show 0 * 512 + 1 * f.val = _; omega
  | ⟨2, _⟩ => show win0_0.index t 2 * 512 + 1 * x.val = 512 * (qry t).val + x.val; rw [index0]; show (qry t).val * 512 + 1 * x.val = _; omega

theorem iblk_k (t : Fin cfg0.N) (s : Fin 2048) (f : Fin 512) :
    (iblk m c 1 t : Vec Ideal S1x2048x512 .bf16) (ix3 (0 : Fin 1) s f) = proj m c (ix3 (bat t) s ⟨512 + f.val, by omega⟩) := by
  refine _root_.Eq.trans ?_ (V_k m c (bat t) s f)
  unfold iblk
  rw [View.read_apply]
  show V m c main_v13 _ = V m c main_v13 _
  refine congrArg _ (funext fun a => Fin.ext ?_)
  match a with
  | ⟨0, _⟩ => show win0_1.index t 0 * 1 + 1 * 0 = (bat t).val; rw [index1]; show (bat t).val * 1 + 1 * 0 = _; omega
  | ⟨1, _⟩ => show win0_1.index t 1 * 2048 + 1 * s.val = s.val; rw [index1]; show 0 * 2048 + 1 * s.val = _; omega
  | ⟨2, _⟩ => show win0_1.index t 2 * 512 + 1 * f.val = f.val; rw [index1]; show 0 * 512 + 1 * f.val = _; omega

theorem iblk_v (t : Fin cfg0.N) (n : Fin 8) (f : Fin 512) (r : Fin 256) :
    (iblk m c 2 t : Vec Ideal S1x8x512x256 .bf16) (ix4 (0 : Fin 1) n f r) = proj m c (ix3 (bat t) ⟨256 * n.val + r.val, by omega⟩ ⟨1024 + f.val, by omega⟩) := by
  refine _root_.Eq.trans ?_ (V_v m c (bat t) n f r)
  unfold iblk
  rw [View.read_apply]
  show V m c main_v20 _ = V m c main_v20 _
  refine congrArg _ (funext fun a => Fin.ext ?_)
  match a with
  | ⟨0, _⟩ => show win0_2.index t 0 * 1 + 1 * 0 = (bat t).val; rw [index2]; show (bat t).val * 1 + 1 * 0 = _; omega
  | ⟨1, _⟩ => show win0_2.index t 1 * 8 + 1 * n.val = n.val; rw [index2]; show 0 * 8 + 1 * n.val = _; omega
  | ⟨2, _⟩ => show win0_2.index t 2 * 512 + 1 * f.val = f.val; rw [index2]; show 0 * 512 + 1 * f.val = _; omega
  | ⟨3, _⟩ => show win0_2.index t 3 * 256 + 1 * r.val = r.val; rw [index2]; show 0 * 256 + 1 * r.val = _; omega

theorem point (b : Fin 16) (q : Fin 4) : ∃ t : Fin cfg0.N, bat t = b ∧ qry t = q := by
  have h : ∀ t : Fin grid0.N, (grid0.coords t 0).val = t.val / 4 ∧ (grid0.coords t 2).val = t.val % 4 := by decide +kernel
  have hn : 4 * b.val + q.val < grid0.N := by
    have e : grid0.N = 64 := by decide
    omega
  refine ⟨⟨4 * b.val + q.val, hn⟩, Fin.ext ?_, Fin.ext ?_⟩
  · refine (h ⟨4 * b.val + q.val, hn⟩).1.trans ?_
    show (4 * b.val + q.val) / 4 = b.val; omega
  · refine (h ⟨4 * b.val + q.val, hn⟩).2.trans ?_
    show (4 * b.val + q.val) % 4 = q.val; omega

theorem flush3 (t : Fin cfg0.N) : (cfg0.win 3).flush t = true :=
  (by decide +kernel : ∀ t : Fin grid0.N, win0_3.flush t = true) t

/-- An entry of the call's array: feature `f` of query `512 q + x`. -/
theorem arr_apply (t : Fin cfg0.N) (f x : Fin 512) :
    ((dats m 0 c).arrAt 3 cfg0.N : Vec Ideal S16x512x2048 .bf16) (ix3 (bat t) f ⟨512 * (qry t).val + x.val, by have := (qry t).isLt; omega⟩) = outAt m c t (ix3 (0 : Fin 1) f x) := by
  have e := congrFun (blocks3 m c t (flush3 t)) (ix3 (0 : Fin 1) f x)
  rw [View.read_apply] at e
  refine _root_.Eq.trans ?_ e
  refine congrArg ((dats m 0 c).arrAt 3 cfg0.N : Vec Ideal S16x512x2048 .bf16) (funext fun a => Fin.ext ?_)
  match a with
  | ⟨0, _⟩ => show (bat t).val = win0_3.index t 0 * 1 + 1 * 0; rw [index3]; show (bat t).val = (bat t).val * 1 + 1 * 0; omega
  | ⟨1, _⟩ => show f.val = win0_3.index t 1 * 512 + 1 * f.val; rw [index3]; show f.val = 0 * 512 + 1 * f.val; omega
  | ⟨2, _⟩ => show 512 * (qry t).val + x.val = win0_3.index t 2 * 512 + 1 * x.val; rw [index3]; show 512 * (qry t).val + x.val = (qry t).val * 512 + 1 * x.val; omega

end Cert.Sb

end
-- ==== Proof.Ref.lean ====
/- THE REFERENCE READ AT AN INDEX. The generated run states the reference's result as one composed term; here it is named step by step
   (the scores, the logarithm of the sigmoid, the log-keep, its running sum from the right, the weights) and read at an index. -/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.Sb.Ref

open Cert.ReferenceIdeal Cert.ReferenceIdeal.Gen Cert.ReferenceIdeal.Value Idealize.ShloMosaic Idealize.ShloMosaic.TcCoe

abbrev T4 := FVec Ideal S16x8x2048x2048 .f32

/-- The scaled scores. -/
def qk (x : FVec Ideal S16x2048x2304 .f32) : T4 :=
  mulf (Host.dotGeneral dot_S16x2048x8x64_S16x2048x8x64_S16x8x2048x2048_3_3_1_1_02_02 none (shapeCast _ (extractStridedSlice S16x2048x512 ![0, 0, 0] x slices_S16x2048x2304_S16x2048x512_0_0_0) shapeCasts_S16x2048x512_S16x2048x8x64) (shapeCast _ (extractStridedSlice S16x2048x512 ![0, 0, 512] x slices_S16x2048x2304_S16x2048x512_0_0_512) shapeCasts_S16x2048x512_S16x2048x8x64)) (broadcastInDim S16x8x2048x2048 ![] bcast_S_S16x8x2048x2048 (constant S_ .f32 0x3E000000#32))

/-- The array of zeros. -/
def zeros : T4 := broadcastInDim S16x8x2048x2048 ![] bcast_S_S16x8x2048x2048 (constant S_ .f32 0x00000000#32)

/-- The logarithm of the sigmoid of `y`, as the reference's library function computes it. -/
def ls (y : T4) : T4 :=
  Host.negf (select (cmpf .une (subf (Host.negf y) zeros) (subf (Host.negf y) zeros)) (addf (Host.negf y) zeros)
    (addf (maximumf (Host.negf y) zeros) (Host.log1p (Host.exp (Host.negf (Host.absf (subf (Host.negf y) zeros)))))))

/-- Key `s` strictly before query `t`. -/
def mask : IVec S16x8x2048x2048 1 :=
  broadcastInDim S16x8x2048x2048 ![2, 3] bcast_S2048x2048_S16x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The log-keep. -/
def keep (z : T4) : T4 := select mask (ls (Host.negf z)) (broadcastInDim S16x8x2048x2048 ![] bcast_S_S16x8x2048x2048 (id (constant S_ .f32 0x00000000#32)))

/-- The sum of the log-keep from a key on. -/
def cums (k : T4) : T4 :=
  Host.reduceWindowAdd ![1, 1, 1, 2048] ![1, 1, 1, 1] ![0, 0, 0, 0] ![0, 0, 0, 2047] k (broadcastInDim S_ ![] bcast_S_S_ (constant S_ .f32 0x00000000#32)) reduceWindows_S16x8x2048x2048_S16x8x2048x2048_w1s1p0_0_w1s1p0_0_w1s1p0_0_w2048s1p0_2047 h_S_

/-- The weights. -/
def wts (z k r : T4) : T4 :=
  select mask (Host.exp (addf (ls z) (subf r k))) (broadcastInDim S16x8x2048x2048 ![] bcast_S_S16x8x2048x2048 (id (constant S_ .f32 0x00000000#32)))

/-- The result from the weights. -/
def out (x : FVec Ideal S16x2048x2304 .f32) (w : T4) : FVec Ideal S16x512x2048 .bf16 :=
  truncf .bf16 (transpose S16x512x2048 [0, 2, 1] (shapeCast _ (transpose S16x2048x8x64 [0, 3, 1, 2] (Host.dotGeneral dot_S16x2048x8x64_S16x8x2048x2048_S16x8x64x2048_1_3_3_2_02_01 none (shapeCast _ (extractStridedSlice S16x2048x512 ![0, 0, 1024] x slices_S16x2048x2304_S16x2048x512_0_0_1024) shapeCasts_S16x2048x512_S16x2048x8x64) w) transposes_S16x8x64x2048_S16x2048x8x64_0_3_1_2) shapeCasts_S16x2048x8x64_S16x2048x512) transposes_S16x2048x512_S16x512x2048_0_2_1) bitsLt_bf16_f32

theorem res_eq (m : (ℓ : Loc nD τ sig) → Buf (Elt Ideal) ℓ) (c : Dev nD) :
    res_main_v29 (F := Ideal) m c = out (m ((c.tc : Thread nD τ).loc main_arg0))
      (wts (qk (m ((c.tc : Thread nD τ).loc main_arg0))) (keep (qk (m ((c.tc : Thread nD τ).loc main_arg0)))) (cums (keep (qk (m ((c.tc : Thread nD τ).loc main_arg0)))))) := rfl

/-- The logarithm of the sigmoid at a value. -/
def lsv (y : EReal) : EReal := -(max (-y) 0 + Ideal.log1p (Ideal.exp (-(max (-y) (- -y)))))

theorem select_lt (s t : ℕ) (hs : s < 2048) (ht : t < 2048) (a b : EReal) :
    Scalar.select (IntOp.cmpi .slt (BitVec.ofNat 32 s) (BitVec.ofNat 32 t)) a b = if s < t then a else b := by
  have e : ∀ n : ℕ, n < 2048 → (BitVec.ofNat 32 n).toInt = (n : ℤ) := fun n hn => by
    simp only [BitVec.toInt, BitVec.toNat_ofNat]; omega
  have c : IntOp.cmpi .slt (BitVec.ofNat 32 s) (BitVec.ofNat 32 t) = BitVec.ofBool (decide ((BitVec.ofNat 32 s).toInt < (BitVec.ofNat 32 t).toInt)) := rfl
  rw [c, e s hs, e t ht]
  by_cases h : s < t
  · have h' : ((s : ℤ) < (t : ℤ)) := by omega
    simp [h, h', Scalar.select]
  · have h' : ¬ ((s : ℤ) < (t : ℤ)) := by omega
    simp [h, h', Scalar.select]

theorem qk_apply (x : FVec Ideal S16x2048x2304 .f32) (b : Fin 16) (h : Fin 8) (t s : Fin 2048) :
    qk x (ix4 b h t s) = (∑ d : Fin 64, x (ix3 b t ⟨h.val * 64 + d.val, by omega⟩) * x (ix3 b s ⟨512 + (h.val * 64 + d.val), by omega⟩)) * Ideal.ofBits .f32 0x3E000000#32 := by
  pointwise [qk]

theorem ls_apply (y : T4) (i : S16x8x2048x2048.Idx) : ls y i = lsv (y i) := by
  pointwise [ls, zeros]
  simp only [ne_eq, not_true_eq_false, ↓reduceIte]
  rfl

theorem keep_apply (z : T4) (b : Fin 16) (h : Fin 8) (t s : Fin 2048) :
    keep z (ix4 b h t s) = if s.val < t.val then lsv (- z (ix4 b h t s)) else 0 := by
  have e := ls_apply (Host.negf z) (ix4 b h t s)
  pointwise [keep, mask]
  rw [select_lt _ _ s.isLt t.isLt, e]
  show (if s.val < t.val then _ else Ideal.ofBits .f32 0x00000000#32) = _
  rw [Ideal.ofBits_zero_f32]
  rfl

theorem wts_apply (z k r : T4) (b : Fin 16) (h : Fin 8) (t s : Fin 2048) :
    wts z k r (ix4 b h t s) = if s.val < t.val then Ideal.exp (lsv (z (ix4 b h t s)) + (r (ix4 b h t s) - k (ix4 b h t s))) else 0 := by
  have e := ls_apply z (ix4 b h t s)
  pointwise [wts, mask]
  rw [select_lt _ _ s.isLt t.isLt, e]
  show (if s.val < t.val then _ else Ideal.ofBits .f32 0x00000000#32) = _
  rw [Ideal.ofBits_zero_f32]

theorem out_apply (x : FVec Ideal S16x2048x2304 .f32) (w : T4) (b : Fin 16) (f : Fin 512) (t : Fin 2048) :
    out x w (ix3 b f t) = ∑ s : Fin 2048, x (ix3 b s ⟨1024 + f.val, by omega⟩) * w (ix4 b ⟨f.val / 64, by omega⟩ t s) := by
  pointwise [out]

theorem foldl_add {n : ℕ} (f : Fin n → EReal) (v : EReal) : (List.finRange n).foldl (fun r i => r + f i) v = v + ∑ i, f i := by
  have g : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [g, ← List.ofFn_eq_map, List.sum_ofFn]

theorem cums_apply (k : T4) (b : Fin 16) (h : Fin 8) (t s : Fin 2048) :
    cums k (ix4 b h t s) = ∑ s' : Fin 2048, if s.val ≤ s'.val then k (ix4 b h t s') else 0 := by
  unfold cums Host.reduceWindowAdd
  rw [Ideal.hostReduceWindowAdd_def]
  unfold Ideal.hostReduceWindowAdd Host.reduceWindow
  rw [foldl_add]
  have hv : (broadcastInDim S_ ![] bcast_S_S_ (constant (F := Ideal) S_ .f32 0x00000000#32)) (Shape.Idx.first h_S_) = 0 := by
    show Ideal.ofBits .f32 0x00000000#32 = _
    exact Ideal.ofBits_zero_f32
  rw [hv, zero_add]
  let W : Shape := ⟨4, ![1, 1, 1, 2048]⟩
  let G : W.Idx → EReal := fun p => if hin : s.val + (p 3).val < 2048 then k (ix4 b h t ⟨s.val + (p 3).val, hin⟩) else 0
  refine (Finset.sum_congr rfl (g := fun i => G (W.rowMajor.symm i)) fun i _ => ?_).trans ?_
  · let p : W.Idx := W.rowMajor.symm i
    show _ = G p
    have h0 : (p 0).val < 1 := (p 0).isLt
    have h1 : (p 1).val < 1 := (p 1).isLt
    have h2 : (p 2).val < 1 := (p 2).isLt
    have h3 : (p 3).val < 2048 := (p 3).isLt
    by_cases hc : s.val + (p 3).val < 2048
    · have hG : G p = k (ix4 b h t ⟨s.val + (p 3).val, hc⟩) := dif_pos hc
      rw [hG]
      have hall : ∀ a : Fin 4, ![0, 0, 0, 0] a ≤ (ix4 b h t s a).val * ![1, 1, 1, 1] a + (p a).val ∧
          (ix4 b h t s a).val * ![1, 1, 1, 1] a + (p a).val - ![0, 0, 0, 0] a < S16x8x2048x2048.size a := by
        intro a
        match a with
        | ⟨0, _⟩ => show 0 ≤ b.val * 1 + (p 0).val ∧ b.val * 1 + (p 0).val - 0 < 16; omega
        | ⟨1, _⟩ => show 0 ≤ h.val * 1 + (p 1).val ∧ h.val * 1 + (p 1).val - 0 < 8; omega
        | ⟨2, _⟩ => show 0 ≤ t.val * 1 + (p 2).val ∧ t.val * 1 + (p 2).val - 0 < 2048; omega
        | ⟨3, _⟩ => show 0 ≤ s.val * 1 + (p 3).val ∧ s.val * 1 + (p 3).val - 0 < 2048; omega
      refine (dif_pos hall).trans ?_
      · congr 1
        funext a
        apply Fin.ext
        match a with
        | ⟨0, _⟩ => show b.val * 1 + (p 0).val - 0 = b.val; omega
        | ⟨1, _⟩ => show h.val * 1 + (p 1).val - 0 = h.val; omega
        | ⟨2, _⟩ => show t.val * 1 + (p 2).val - 0 = t.val; omega
        | ⟨3, _⟩ => show s.val * 1 + (p 3).val - 0 = s.val + (p 3).val; omega
    · have hG : G p = 0 := dif_neg hc
      rw [hG]
      refine (dif_neg fun hh => ?_).trans rfl
      have := (hh (3 : Fin 4)).2
      have e3 : s.val * 1 + (p 3).val - 0 < 2048 := this
      omega
  rw [Equiv.sum_comp W.rowMajor.symm G]
  refine (sum_idx4 (n0 := 1) (n1 := 1) (n2 := 1) (n3 := 2048) G).trans ?_
  simp only [Finset.univ_unique, Finset.sum_singleton]
  -- the window's positions, shifted by the key, are the keys from it on
  have e1 : ∀ e : Fin 2048, G (ix4 (default : Fin 1) (default : Fin 1) (default : Fin 1) e) = (fun n : ℕ => if hin : s.val + n < 2048 then k (ix4 b h t ⟨s.val + n, hin⟩) else 0) e.val := fun e => rfl
  rw [Finset.sum_congr rfl fun e _ => e1 e, Finset.sum_range (fun n : ℕ => if hin : s.val + n < 2048 then k (ix4 b h t ⟨s.val + n, hin⟩) else 0) |>.symm]
  let g : ℕ → EReal := fun n => if hn : n < 2048 then k (ix4 b h t ⟨n, hn⟩) else 0
  have e2 : (∑ s' : Fin 2048, if s.val ≤ s'.val then k (ix4 b h t s') else 0) = ∑ n ∈ Finset.range 2048, if s.val ≤ n then g n else 0 := by
    rw [Finset.sum_range]
    refine Finset.sum_congr rfl fun s' _ => ?_
    have : g s'.val = k (ix4 b h t s') := dif_pos s'.isLt
    rw [this]
  rw [e2]
  have e3 : ∀ n, (if hin : s.val + n < 2048 then k (ix4 b h t ⟨s.val + n, hin⟩) else 0) = g (s.val + n) := fun n => rfl
  simp only [e3]
  have hs := s.isLt
  have e4 : Finset.range 2048 = Finset.Ico 0 2048 := by rw [Finset.range_eq_Ico]
  have eL : ∑ n ∈ Finset.range 2048, g (s.val + n) = ∑ n ∈ Finset.Ico s.val 2048, g n := by
    rw [Finset.sum_Ico_eq_sum_range]
    refine (Finset.sum_subset (Finset.range_mono (by omega)) fun n hn hn' => ?_).symm
    simp only [Finset.mem_range] at hn hn'
    exact dif_neg (by omega)
  have eR : (∑ n ∈ Finset.range 2048, if s.val ≤ n then g n else 0) = ∑ n ∈ Finset.Ico s.val 2048, g n := by
    rw [← Finset.sum_filter]
    refine Finset.sum_congr (Finset.ext fun n => ?_) fun _ _ => rfl
    simp only [Finset.mem_filter, Finset.mem_range, Finset.mem_Ico]; omega
  rw [eL, eR]

end Cert.Sb.Ref

end
-- ==== Proof.Maths.lean ====
module

public import proofs.«01_k».proof.Proof.Cols
public import proofs.«01_k».proof.Proof.Ref

/-! The two ways of computing the stick's breaking agree at real scores. The kernel works in base 2 with the scores'
negatives; the reference in base `e`. -/

@[expose] public section

set_option maxRecDepth 16384

noncomputable section

namespace Cert.Sb

open Idealize.ShloMosaic

/-- The logarithm of the sigmoid, of a real number. -/
def LS (x : ℝ) : ℝ := -(max (-x) 0 + Real.log (1 + Real.exp (-|x|)))

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem abs_eq_max (x : ℝ) : max x (-x) = |x| := rfl

theorem log_one_add_exp (a : ℝ) : Ideal.log (1 + ((Real.exp a : ℝ) : EReal)) = ((Real.log (1 + Real.exp a) : ℝ) : EReal) := by
  have h : (0 : ℝ) < 1 + Real.exp a := by positivity
  rw [← EReal.coe_one, ← EReal.coe_add, Ideal.log_coe, if_neg (not_le.mpr h)]

theorem lsv_coe (x : ℝ) : Ref.lsv (x : EReal) = ((LS x : ℝ) : EReal) := by
  unfold Ref.lsv LS Ideal.log1p
  rw [neg_neg, ← EReal.coe_neg, coe_max, max_comm (-x) x, abs_eq_max, ← EReal.coe_neg, Ideal.exp_coe, log_one_add_exp,
    ← EReal.coe_zero, coe_max, ← EReal.coe_add, ← EReal.coe_neg]

theorem lg2e_eq : lg2e = (((Real.log 2)⁻¹ : ℝ) : EReal) := IdealRules.named_const.ideal_named_scalar _ _ _ _ rfl

theorem log2_pos : 0 < Real.log 2 := Real.log_pos (by norm_num)

theorem rpow_div_log (x : ℝ) : Real.rpow 2 (x * (Real.log 2)⁻¹) = Real.exp x := by
  show (2 : ℝ) ^ (x * (Real.log 2)⁻¹) = _
  rw [Real.rpow_def_of_pos (by norm_num)]
  congr 1
  have := log2_pos.ne'
  field_simp

theorem lsig_coe (z : ℝ) : lsig (((-z * (Real.log 2)⁻¹ : ℝ)) : EReal) = ((LS (-z) * (Real.log 2)⁻¹ : ℝ) : EReal) := by
  have hp : 0 ≤ (Real.log 2)⁻¹ := (inv_pos.mpr log2_pos).le
  unfold lsig LS
  rw [lg2e_eq, ← EReal.coe_neg, coe_max, abs_eq_max, ← EReal.coe_zero, coe_min, ← EReal.coe_sub, Ideal.exp2_coe]
  have e : 0 - |(-z * (Real.log 2)⁻¹)| = (-|z|) * (Real.log 2)⁻¹ := by
    rw [abs_mul, abs_neg, abs_of_nonneg hp]; ring
  rw [e, rpow_div_log, log_one_add_exp, ← EReal.coe_mul, ← EReal.coe_sub]
  congr 1
  have e2 : min (-z * (Real.log 2)⁻¹) 0 = -(max z 0) * (Real.log 2)⁻¹ := by
    rcases le_total z 0 with h | h
    · rw [max_eq_right h, min_eq_right (mul_nonneg (by linarith) hp)]; ring
    · rw [max_eq_left h, min_eq_left (by have := mul_nonneg h hp; linarith)]
  rw [e2, neg_neg, abs_neg]
  ring

theorem LS_sub (z : ℝ) : LS z = LS (-z) + z := by
  unfold LS
  rw [neg_neg, abs_neg]
  rcases le_total z 0 with h | h
  · rw [max_eq_left (by linarith : (0 : ℝ) ≤ -z), max_eq_right h]; ring
  · rw [max_eq_right (by linarith : -z ≤ (0 : ℝ)), max_eq_left h]; ring

/-- The log-keep of a column of real scores. -/
def keepR (z : ℕ → ℝ) (T s : ℕ) : ℝ := if s < T then LS (-z s) else 0

/-- The kernel's weight of a key, at real scores. -/
theorem wt_coe (z : ℕ → ℝ) (T E : ℕ) (hE : E ≤ 2048) (y : ℕ → EReal) (hy : ∀ s, s < 2048 → y s = ((-z s * (Real.log 2)⁻¹ : ℝ) : EReal)) (s : ℕ) (hs : s < T) (h : s < 2048) :
    wt T E y s = ((Real.exp (∑ s' ∈ Finset.Ico s E, keepR z T s' + z s) : ℝ) : EReal) := by
  have e : suf T E y s = (((∑ s' ∈ Finset.Ico s E, keepR z T s') * (Real.log 2)⁻¹ : ℝ) : EReal) := by
    unfold suf
    rw [Finset.sum_mul, ← coe_sum]
    refine Finset.sum_congr rfl fun s' hs' => ?_
    have h' : s' < 2048 := lt_of_lt_of_le (Finset.mem_Ico.mp hs').2 hE
    unfold lk keepR
    split_ifs
    · rw [hy s' h', lsig_coe]
    · simp
  unfold wt
  rw [if_pos hs, e, hy s h, ← EReal.coe_sub, Ideal.exp2_coe, ← rpow_div_log]
  congr 2
  ring

/-- The reference's weight of a key, at real scores. -/
theorem ref_wt (z : ℕ → ℝ) (T E : ℕ) (hT : T ≤ E) (hE : E ≤ 2048) (s : ℕ) (hs : s < T) :
    Ideal.exp (Ref.lsv (z s : EReal) + ((∑ s' : Fin 2048, if s ≤ s'.val then (if s'.val < T then Ref.lsv (-(z s'.val : EReal)) else 0) else 0) - (if s < T then Ref.lsv (-(z s : EReal)) else 0)))
      = ((Real.exp (∑ s' ∈ Finset.Ico s E, keepR z T s' + z s) : ℝ) : EReal) := by
  have e : (∑ s' : Fin 2048, if s ≤ s'.val then (if s'.val < T then Ref.lsv (-(z s'.val : EReal)) else 0) else 0) = ((∑ s' ∈ Finset.Ico s E, keepR z T s' : ℝ) : EReal) := by
    have e1 : ∀ s' : Fin 2048, (if s ≤ s'.val then (if s'.val < T then Ref.lsv (-(z s'.val : EReal)) else 0) else 0) = (((fun n : ℕ => if s ≤ n then keepR z T n else 0) s'.val : ℝ) : EReal) := fun s' => by
      show _ = ((if s ≤ s'.val then keepR z T s'.val else 0 : ℝ) : EReal)
      unfold keepR
      split_ifs
      · rw [← EReal.coe_neg, lsv_coe]
      · rfl
      · rfl
    rw [Finset.sum_congr rfl fun s' _ => e1 s', coe_sum]
    congr 1
    rw [Fin.sum_univ_eq_sum_range (fun n : ℕ => if s ≤ n then keepR z T n else 0) 2048, ← Finset.sum_filter]
    symm
    refine Finset.sum_subset (fun n hn => ?_) fun n hn hn' => ?_
    · have := Finset.mem_Ico.mp hn
      exact Finset.mem_filter.mpr ⟨Finset.mem_range.mpr (by omega), this.1⟩
    · have := (Finset.mem_filter.mp hn).2
      unfold keepR
      rw [if_neg]
      intro hlt
      exact hn' (Finset.mem_Ico.mpr ⟨this, by omega⟩)
  rw [e, if_pos hs, ← EReal.coe_neg, lsv_coe, lsv_coe, ← EReal.coe_sub, ← EReal.coe_add, Ideal.exp_coe]
  congr 2
  rw [LS_sub]
  ring

/-- The head's scores, summed over a lane row whose other half is zeroed. -/
theorem lanes (A B : ℕ → EReal) (h : ℕ) :
    ∑ k : Fin 128, A (128 * (h / 2) + k.val) * (if (k.val < 64 ↔ h % 2 = 0) then B (128 * (h / 2) + k.val) else 0) = ∑ d : Fin 64, A (64 * h + d.val) * B (64 * h + d.val) := by
  rw [show (∑ k : Fin 128, A (128 * (h / 2) + k.val) * (if (k.val < 64 ↔ h % 2 = 0) then B (128 * (h / 2) + k.val) else 0)) = (∑ d : Fin 64, A (128 * (h / 2) + d.val) * (if (d.val < 64 ↔ h % 2 = 0) then B (128 * (h / 2) + d.val) else 0)) + ∑ d : Fin 64, A (128 * (h / 2) + (64 + d.val)) * (if (64 + d.val < 64 ↔ h % 2 = 0) then B (128 * (h / 2) + (64 + d.val)) else 0) from Fin.sum_univ_add (a := 64) (b := 64) fun k : Fin 128 => A (128 * (h / 2) + k.val) * (if (k.val < 64 ↔ h % 2 = 0) then B (128 * (h / 2) + k.val) else 0)]
  rcases Nat.mod_two_eq_zero_or_one h with e | e
  · rw [Finset.sum_congr rfl (g := fun d : Fin 64 => A (64 * h + d.val) * B (64 * h + d.val)) fun d _ => by
      rw [if_pos ⟨fun _ => e, fun _ => d.isLt⟩, show 128 * (h / 2) + d.val = 64 * h + d.val by omega]]
    rw [Finset.sum_eq_zero (s := Finset.univ) (f := fun d : Fin 64 => A (128 * (h / 2) + (64 + d.val)) * (if (64 + d.val < 64 ↔ h % 2 = 0) then B (128 * (h / 2) + (64 + d.val)) else 0)) fun d _ => by
      rw [if_neg (by omega), mul_zero], add_zero]
  · rw [Finset.sum_eq_zero (s := Finset.univ) (f := fun d : Fin 64 => A (128 * (h / 2) + d.val) * (if (d.val < 64 ↔ h % 2 = 0) then B (128 * (h / 2) + d.val) else 0)) fun d _ => by
      rw [if_neg (by omega), mul_zero], zero_add]
    exact Finset.sum_congr rfl fun d _ => by
      rw [if_pos (by omega), show 128 * (h / 2) + (64 + d.val) = 64 * h + d.val by omega]

/-- The kernel's sum over the keys of the blocks up to the query's is the reference's over all the keys. -/
theorem outc_eq (z : ℕ → ℝ) (T E : ℕ) (hT : T ≤ E) (hE : E ≤ 2048) (y v : ℕ → EReal) (hy : ∀ s, s < 2048 → y s = ((-z s * (Real.log 2)⁻¹ : ℝ) : EReal)) :
    outc T E y v 0 = ∑ s : Fin 2048, v s.val * (if s.val < T then Ideal.exp (Ref.lsv (z s.val : EReal) + ((∑ s' : Fin 2048, if s.val ≤ s'.val then (if s'.val < T then Ref.lsv (-(z s'.val : EReal)) else 0) else 0) - (if s.val < T then Ref.lsv (-(z s.val : EReal)) else 0))) else 0) := by
  have e : ∀ s : Fin 2048, v s.val * (if s.val < T then Ideal.exp (Ref.lsv (z s.val : EReal) + ((∑ s' : Fin 2048, if s.val ≤ s'.val then (if s'.val < T then Ref.lsv (-(z s'.val : EReal)) else 0) else 0) - (if s.val < T then Ref.lsv (-(z s.val : EReal)) else 0))) else 0) = (fun n : ℕ => v n * wt T E y n) s.val := fun s => by
    show _ = v s.val * wt T E y s.val
    congr 1
    by_cases hs : s.val < T
    · rw [if_pos hs, ref_wt z T E hT hE s.val hs, wt_coe z T E hE y hy s.val hs s.isLt]
    · unfold wt; rw [if_neg hs, if_neg hs]
  rw [Finset.sum_congr rfl fun s _ => e s, Fin.sum_univ_eq_sum_range (fun n : ℕ => v n * wt T E y n) 2048]
  unfold outc
  refine Finset.sum_subset (fun n hn => Finset.mem_range.mpr ?_) fun n hn hn' => ?_
  · have := (Finset.mem_Ico.mp hn).2; omega
  · have h : ¬ n < T := fun h => hn' (Finset.mem_Ico.mpr ⟨Nat.zero_le _, by omega⟩)
    unfold wt
    rw [if_neg h, mul_zero]

end Cert.Sb

end
-- ==== Proof.Consts.lean ====
module

public import Idealize.ShloMosaic.PureOps.Ideal

/-! The values of the float constants. -/

@[expose] public section

noncomputable section

namespace Cert.Sb

open Idealize.ShloMosaic

theorem ofBits_eighth : Ideal.ofBits .f32 0x3E000000#32 = ((1 / 8 : ℝ) : EReal) := by
  simp [Ideal.ofBits, Ideal.ieee, -EReal.coe_mul]; norm_num

theorem ofBits_inf : Ideal.ofBits .f32 0x7F800000#32 = ⊤ := by simp [Ideal.ofBits, Ideal.ieee]

end Cert.Sb

end
-- ==== Proof.Equal.lean ====
module

public import proofs.«01_k».proof.Defs
public import proofs.«01_k».proof.Proof.Host
public import proofs.«01_k».proof.Proof.Maths
public import proofs.«01_k».proof.Proof.Consts
public import Idealize.ShloMosaic.Lib.ReduceAll

/-! The array that the call leaves is the reference's, where the queries and keys are finite. -/

@[expose] public section

set_option maxRecDepth 16384

noncomputable section

namespace Cert.Sb

open Cert.KernelIdeal Cert.KernelIdeal.Gen
open Idealize.ShloMosaic Idealize.ShloMosaic.TcCoe
open Idealize.SL Idealize.SL.Sem
open Idealize.ShloMosaic.Pipeline (Dat Cfg Window BodyObligation cellOf)

/-- What the precondition says of an entry of the queries and keys. -/
theorem finite_of [Cert.Pre_finite_qk.Facts] (x : Vec Ideal S16x2048x2304 .f32) (h : Cert.Pre_finite_qk.fn (F := Ideal) x = fun _ => 1#1)
    (b : Fin 16) (t : Fin 2048) (f : Fin 1024) : x (ix3 b t ⟨f.val, by omega⟩) = ((EReal.toReal (x (ix3 b t ⟨f.val, by omega⟩)) : ℝ) : EReal) := by
  haveI : Subsingleton Cert.Pre_finite_qk.S_.Idx := ⟨fun a b => funext fun i => i.elim0⟩
  have e := Host.reduce_andi_all _ _ _ _ _ (congrFun h (fun i => i.elim0)) (ix3 b t f)
  have e2 : extractStridedSlice Cert.Pre_finite_qk.S16x2048x1024 ![0, 0, 0] x Cert.Pre_finite_qk.Facts.slices_S16x2048x2304_S16x2048x1024_0_0_0 (ix3 b t f) = x (ix3 b t ⟨f.val, by omega⟩) := by
    pointwise
  change Ideal.cmp .olt (max (extractStridedSlice Cert.Pre_finite_qk.S16x2048x1024 ![0, 0, 0] x Cert.Pre_finite_qk.Facts.slices_S16x2048x2304_S16x2048x1024_0_0_0 (ix3 b t f)) (-(extractStridedSlice Cert.Pre_finite_qk.S16x2048x1024 ![0, 0, 0] x Cert.Pre_finite_qk.Facts.slices_S16x2048x2304_S16x2048x1024_0_0_0 (ix3 b t f)))) (Ideal.ofBits .f32 0x7F800000#32) = 1#1 at e
  rw [e2, ofBits_inf] at e
  generalize x (ix3 b t ⟨f.val, by omega⟩) = y at e ⊢
  refine (EReal.coe_toReal ?_ ?_).symm
  · rintro rfl
    simp [Ideal.cmp] at e
  · rintro rfl
    simp [Ideal.cmp] at e

theorem minus_scale_eq : Named.named (F := Ideal) Cert.KernelIdeal.κ "minus_scale" (φ := .f32) 3191384635#32 = (((-1 / 8) * (Real.log 2)⁻¹ : ℝ) : EReal) :=
  IdealRules.named_const.ideal_named_scalar _ _ _ _ rfl

variable (m : (ℓ : Loc nD τ sig) → Buf (Elt Ideal) ℓ) (c : Dev nD)

/-- The real number at an entry of the projection. -/
def pr (b : Fin 16) (t f : ℕ) : ℝ := if h : t < 2048 ∧ f < 2304 then EReal.toReal (proj m c (ix3 b ⟨t, h.1⟩ ⟨f, h.2⟩)) else 0

/-- The score of a query for a key. -/
def score (b : Fin 16) (h T s : ℕ) : ℝ := (∑ d : Fin 64, pr m c b T (64 * h + d.val) * pr m c b s (512 + (64 * h + d.val))) * (1 / 8)

variable (hfin : ∀ (b : Fin 16) (t : Fin 2048) (f : Fin 1024), proj m c (ix3 b t ⟨f.val, by omega⟩) = ((EReal.toReal (proj m c (ix3 b t ⟨f.val, by omega⟩)) : ℝ) : EReal))

include hfin

theorem pr_eq (b : Fin 16) (t f : ℕ) (ht : t < 2048) (hf : f < 1024) : proj m c (ix3 b ⟨t, ht⟩ ⟨f, by omega⟩) = ((pr m c b t f : ℝ) : EReal) := by
  unfold pr
  rw [dif_pos ⟨ht, by omega⟩]
  exact hfin b ⟨t, ht⟩ ⟨f, hf⟩

theorem zc_coe (t : Fin cfg0.N) (h : Fin 8) (x : Fin 512) (s : ℕ) (hs : s < 2048) :
    zc (iblk m c 0 t) (iblk m c 1 t) h x s = ((-score m c (bat t) h.val (512 * (qry t).val + x.val) s * (Real.log 2)⁻¹ : ℝ) : EReal) := by
  have hq := (qry t).isLt
  have hh := h.isLt
  have hx := x.isLt
  let q0 : S1x512x512.Idx → EReal := iblk m c 0 t
  let B : ℕ → EReal := fun n => if hn : n < 512 then q0 (ix3 (0 : Fin 1) ⟨n, hn⟩ x) * Named.named (F := Ideal) Cert.KernelIdeal.κ "minus_scale" (φ := .f32) 3191384635#32 else 0
  have e : zc (iblk m c 0 t) (iblk m c 1 t) h x s = ∑ d : Fin 64, kAt (iblk m c 1 t) s (64 * h.val + d.val) * B (64 * h.val + d.val) := by
    refine _root_.Eq.trans ?_ (lanes (fun n => kAt (iblk m c 1 t) s n) B h.val)
    unfold zc
    refine Finset.sum_congr rfl fun k _ => ?_
    have hk := k.isLt
    congr 1
    unfold wq
    split_ifs with hc
    · show _ = dite _ _ _
      rw [dif_pos (by omega)]
    · rfl
  have e1 : ∀ d : Fin 64, kAt (iblk m c 1 t) s (64 * h.val + d.val) * B (64 * h.val + d.val)
      = ((pr m c (bat t) s (512 + (64 * h.val + d.val)) * (pr m c (bat t) (512 * (qry t).val + x.val) (64 * h.val + d.val) * ((-1 / 8) * (Real.log 2)⁻¹)) : ℝ) : EReal) := fun d => by
    have hd := d.isLt
    have a1 : kAt (iblk m c 1 t) s (64 * h.val + d.val) = ((pr m c (bat t) s (512 + (64 * h.val + d.val)) : ℝ) : EReal) := by
      unfold kAt
      rw [dif_pos ⟨hs, by omega⟩]
      exact (iblk_k m c t ⟨s, hs⟩ ⟨64 * h.val + d.val, by omega⟩).trans (pr_eq m c hfin _ _ _ hs (by omega))
    have a2 : B (64 * h.val + d.val) = ((pr m c (bat t) (512 * (qry t).val + x.val) (64 * h.val + d.val) * ((-1 / 8) * (Real.log 2)⁻¹) : ℝ) : EReal) := by
      show dite _ _ _ = _
      rw [dif_pos (by omega), EReal.coe_mul, minus_scale_eq]
      congr 1
      exact (iblk_q m c t ⟨64 * h.val + d.val, by omega⟩ x).trans (pr_eq m c hfin _ _ _ (by omega) (by omega))
    rw [a1, a2, ← EReal.coe_mul]
  rw [e, Finset.sum_congr rfl fun d _ => e1 d, coe_sum]
  congr 1
  unfold score
  rw [Finset.sum_mul, ← Finset.sum_neg_distrib, Finset.sum_mul]
  exact Finset.sum_congr rfl fun d _ => by ring

theorem qk_coe (b : Fin 16) (h : Fin 8) (T s : Fin 2048) : Ref.qk (proj m c) (ix4 b h T s) = ((score m c b h.val T.val s.val : ℝ) : EReal) := by
  have hh := h.isLt
  rw [Ref.qk_apply, ofBits_eighth]
  unfold score
  rw [EReal.coe_mul, ← coe_sum]
  congr 1
  refine Finset.sum_congr rfl fun d _ => ?_
  have hd := d.isLt
  rw [EReal.coe_mul, ← pr_eq m c hfin b T.val (64 * h.val + d.val) T.isLt (by omega), ← pr_eq m c hfin b s.val (512 + (64 * h.val + d.val)) s.isLt (by omega)]
  have e : h.val * 64 + d.val = 64 * h.val + d.val := by omega
  have e1 : (⟨h.val * 64 + d.val, by omega⟩ : Fin 2304) = ⟨64 * h.val + d.val, by omega⟩ := Fin.ext e
  have e2 : (⟨512 + (h.val * 64 + d.val), by omega⟩ : Fin 2304) = ⟨512 + (64 * h.val + d.val), by omega⟩ := Fin.ext (congrArg (512 + ·) e)
  rw [e1, e2]

/-- The two arrays are one. -/
theorem arr_eq : ((dats m 0 c).arrAt 3 cfg0.N : Vec Ideal S16x512x2048 .bf16)
    = Ref.out (proj m c) (Ref.wts (Ref.qk (proj m c)) (Ref.keep (Ref.qk (proj m c))) (Ref.cums (Ref.keep (Ref.qk (proj m c))))) := by
  funext y
  obtain ⟨b, f, T, rfl⟩ : ∃ a b t, y = ix3 a b t := ⟨y 0, y 1, y 2, eq_ix3 y⟩
  have hT : T.val < 2048 := T.isLt
  have hf : f.val < 512 := f.isLt
  obtain ⟨t, rfl, hq⟩ := point b ⟨T.val / 512, by omega⟩
  have hq' : (qry t).val = T.val / 512 := congrArg Fin.val hq
  have hql := (qry t).isLt
  obtain ⟨x, hx⟩ : ∃ x : Fin 512, T = ⟨512 * (qry t).val + x.val, by omega⟩ := ⟨⟨T.val % 512, by omega⟩, Fin.ext (by show T.val = 512 * (qry t).val + T.val % 512; omega)⟩
  have hTx : T.val = 512 * (qry t).val + x.val := congrArg Fin.val hx
  have hxl := x.isLt
  rw [hx]
  refine (arr_apply m c t f x).trans ?_
  rw [← hx]
  show outc (512 * (qry t).val + x.val) (512 * ((qry t).val + 1)) (zc (iblk m c 0 t) (iblk m c 1 t) ⟨f.val / 64, _⟩ x) (vc (iblk m c 2 t) ⟨f.val / 64, _⟩ ⟨f.val % 64, _⟩) 0 = _
  rw [← hTx, outc_eq (score m c (bat t) (f.val / 64) T.val) T.val (512 * ((qry t).val + 1)) (by omega) (by omega) _ _ (fun s hs => by
    rw [zc_coe m c hfin t ⟨f.val / 64, by omega⟩ x s hs, hTx])]
  rw [Ref.out_apply]
  refine Finset.sum_congr rfl fun s _ => ?_
  have hs := s.isLt
  congr 1
  · show vAt (iblk m c 2 t) (64 * (f.val / 64) + f.val % 64) s.val = _
    have ef : 64 * (f.val / 64) + f.val % 64 = f.val := by omega
    rw [ef]
    unfold vAt
    rw [dif_pos ⟨hs, hf⟩]
    refine (iblk_v m c t ⟨s.val / 256, by omega⟩ f ⟨s.val % 256, by omega⟩).trans ?_
    have es : (⟨256 * (s.val / 256) + s.val % 256, by omega⟩ : Fin 2048) = s := Fin.ext (by show 256 * (s.val / 256) + s.val % 256 = s.val; omega)
    show proj m c (ix3 (bat t) (⟨256 * (s.val / 256) + s.val % 256, _⟩ : Fin 2048) ⟨1024 + f.val, _⟩) = _
    rw [es]
  · rw [Ref.wts_apply, Ref.cums_apply, Ref.keep_apply, qk_coe m c hfin]
    simp only [Ref.keep_apply, qk_coe m c hfin]

end Cert.Sb

end
-- ==== Proof.Ffn.lean ====
module

public import Idealize.ShloMosaic.PureOps.Ideal

/-! A token's layer norm and feed-forward part over the extended reals, as functions of the token's 1024 numbers: both the
kernels and the references compute these, a token at a time. -/

@[expose] public section

noncomputable section

namespace Cert.Ffn

open Idealize.ShloMosaic

/-- The mean of a token's numbers. -/
def mean (x : Fin 1024 → EReal) : EReal := Ideal.div (∑ i, x i) (Ideal.ofBits .f32 0x44800000#32)

/-- The layer norm. -/
def norm (x g b : Fin 1024 → EReal) (f : Fin 1024) : EReal :=
  (x f - mean x) * Ideal.rsqrt (mean (fun i => (x i - mean x) * (x i - mean x)) + Ideal.ofBits .f32 0x3727C5AC#32) * g f + b f

/-- The gated hidden numbers. -/
def glu (x : Fin 1024 → EReal) (wg wu : Fin 1024 → Fin 2816 → EReal) (j : Fin 2816) : EReal :=
  (∑ k, x k * wg k j) * Ideal.logistic (∑ k, x k * wg k j) * ∑ k, x k * wu k j

/-- The feed-forward part, added to the scaled token. -/
def plus (x : Fin 1024 → EReal) (wg wu : Fin 1024 → Fin 2816 → EReal) (wo : Fin 2816 → Fin 1024 → EReal) (f : Fin 1024) : EReal :=
  Ideal.ofBits .f32 0x3FB504F3#32 * x f + Ideal.ofBits .f32 0x3F000000#32 * ∑ j, glu x wg wu j * wo j f

/-- The feed-forward part and its norm. -/
def block (x : Fin 1024 → EReal) (wg wu : Fin 1024 → Fin 2816 → EReal) (wo : Fin 2816 → Fin 1024 → EReal) (g b : Fin 1024 → EReal) :
    Fin 1024 → EReal := norm (plus x wg wu wo) g b

end Cert.Ffn

end
-- ==== Proof.MixBlock.lean ====
module

public import proofs.«01_k».proof.Proof.Gen.Kernel2Ideal.Frame
public import proofs.«01_k».proof.Proof.Ffn
public import Idealize.ShloMosaic.Lib.Pointwise

/-! The block that the last call's body leaves, read at a token and a feature. The body does the same to each half of
its 512 tokens. -/

@[expose] public section

set_option maxRecDepth 16384

noncomputable section

namespace Cert.Mix

open Cert.Kernel2Ideal Cert.Kernel2Ideal.Gen Idealize.ShloMosaic Idealize.ShloMosaic.TcCoe

/-- The numbers less their mean, as the body computes them. -/
def mid (x : FVec Ideal S256x1024 .f32) : FVec Ideal S256x1024 .f32 :=
  subf x (broadcastTo S256x1024 (divf (shapeCast S256x1 (multiReduction .add [1] S256 x 0x00000000#32 reduces_S256x1024_S256 (.inl rfl) rfl) shapeCasts_S256_S256x1)
    (broadcast S256x1 (Scalar.ofBits (F := Ideal) .f32 0x44800000#32))) broadcasts_S256x1_S256x1024)

/-- The body's layer norm. -/
def lnv (x : FVec Ideal S256x1024 .f32) (g b : FVec Ideal S1x1024 .f32) : FVec Ideal S256x1024 .f32 :=
  addf (mulf (mulf (mid x) (broadcastTo S256x1024 (rsqrt (addf (divf (shapeCast S256x1 (multiReduction .add [1] S256 (mulf (mid x) (mid x)) 0x00000000#32 reduces_S256x1024_S256 (.inl rfl) rfl) shapeCasts_S256_S256x1)
    (broadcast S256x1 (Scalar.ofBits (F := Ideal) .f32 0x44800000#32))) (broadcast S256x1 (Scalar.ofBits (F := Ideal) .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem mid_apply (x : FVec Ideal S256x1024 .f32) (r : Fin 256) (f : Fin 1024) :
    mid x (ix2 r f) = x (ix2 r f) - Ffn.mean (fun i => x (ix2 r i)) := by
  pointwise [mid]
  rfl

theorem lnv_apply (x : FVec Ideal S256x1024 .f32) (g b : FVec Ideal S1x1024 .f32) (r : Fin 256) (f : Fin 1024) :
    lnv x g b (ix2 r f) = Ffn.norm (fun i => x (ix2 r i)) (fun i => g (ix2 0 i)) (fun i => b (ix2 0 i)) f := by
  pointwise [lnv]
  simp only [mid_apply]
  rfl

/-- The scaled stream of a half with its part of the mixed output added. -/
def sum0 (v4 : FVec Ideal S512x1024 .f32) (v5 : Vec Ideal S1x256x1024 .f32) : FVec Ideal S256x1024 .f32 :=
  addf (mulf (broadcast S256x1024 (Scalar.ofBits (F := Ideal) .f32 0x3FB504F3#32)) (shapeCast S256x1024 v5 shapeCasts_S1x256x1024_S256x1024))
    (extractStridedSlice S256x1024 ![0, 0] v4 slices_S512x1024_o0_0_S256x1024)
def sum1 (v4 : FVec Ideal S512x1024 .f32) (v5 : Vec Ideal S1x256x1024 .f32) : FVec Ideal S256x1024 .f32 :=
  addf (mulf (broadcast S256x1024 (Scalar.ofBits (F := Ideal) .f32 0x3FB504F3#32)) (shapeCast S256x1024 v5 shapeCasts_S1x256x1024_S256x1024))
    (extractStridedSlice S256x1024 ![256, 0] v4 slices_S512x1024_o256_0_S256x1024)

theorem pay2_apply (v0 : Vec Ideal S1x1024x512 .bf16) (v2 : Vec Ideal S1024x1024 .bf16) (r : Fin 512) (f : Fin 1024) :
    k0_pay2 v0 v2 (ix2 r f) = (∑ k : Fin 1024, v0 (ix3 0 k r) * v2 (ix2 k f) : EReal) := by
  pointwise [k0_pay2]

theorem sum0_apply (v4 : FVec Ideal S512x1024 .f32) (v5 : Vec Ideal S1x256x1024 .f32) (r : Fin 256) (f : Fin 1024) :
    sum0 v4 v5 (ix2 r f) = (Ideal.ofBits .f32 0x3FB504F3#32 * v5 (ix3 0 r f) + v4 (ix2 ⟨r.val, by omega⟩ f) : EReal) := by
  pointwise [sum0]

theorem sum1_apply (v4 : FVec Ideal S512x1024 .f32) (v5 : Vec Ideal S1x256x1024 .f32) (r : Fin 256) (f : Fin 1024) :
    sum1 v4 v5 (ix2 r f) = (Ideal.ofBits .f32 0x3FB504F3#32 * v5 (ix3 0 r f) + v4 (ix2 ⟨256 + r.val, by omega⟩ f) : EReal) := by
  pointwise [sum1]

/-- The feed-forward part of a half, added to its scaled tokens. -/
def ffv (x : FVec Ideal S256x1024 .f32) (wg wu : Vec Ideal S1x1024x2816 .bf16) (wo : Vec Ideal S1x2816x1024 .bf16) : FVec Ideal S256x1024 .f32 :=
  addf (mulf (broadcast S256x1024 (Scalar.ofBits (F := Ideal) .f32 0x3FB504F3#32)) x)
    (mulf (broadcast S256x1024 (Scalar.ofBits (F := Ideal) .f32 0x3F000000#32))
      (matmul dot_S256x2816_S2816x1024_S256x1024_1_0_0_1_n_n none (k0_pay5 x wg wu) (shapeCast S2816x1024 wo shapeCasts_S1x2816x1024_S2816x1024 : FVec Ideal S2816x1024 .bf16) (constant S256x1024 .f32 0x00000000#32)))

theorem pay5_apply (x : FVec Ideal S256x1024 .f32) (wg wu : Vec Ideal S1x1024x2816 .bf16) (r : Fin 256) (j : Fin 2816) :
    k0_pay5 x wg wu (ix2 r j) = Ffn.glu (fun i => x (ix2 r i)) (fun k j => wg (ix3 0 k j)) (fun k j => wu (ix3 0 k j)) j := by
  pointwise [k0_pay5]
  rfl

theorem ffv_apply (x : FVec Ideal S256x1024 .f32) (wg wu : Vec Ideal S1x1024x2816 .bf16) (wo : Vec Ideal S1x2816x1024 .bf16) (r : Fin 256) (f : Fin 1024) :
    ffv x wg wu wo (ix2 r f) = Ffn.plus (fun i => x (ix2 r i)) (fun k j => wg (ix3 0 k j)) (fun k j => wu (ix3 0 k j)) (fun j i => wo (ix3 0 j i)) f := by
  pointwise [ffv]
  simp only [pay5_apply]
  rfl

/-- The first norm of a half, and the half's result. -/
theorem pay3_eq (v0 : Vec Ideal S1x1024x512 .bf16) (v2 : Vec Ideal S1024x1024 .bf16) (v5 : Vec Ideal S1x256x1024 .f32) (g b : Vec Ideal S1x1024 .f32) :
    k0_pay3 v0 v2 v5 g b = lnv (sum0 (k0_pay2 v0 v2) v5) g b := rfl

theorem pay4_eq (v4 : FVec Ideal S512x1024 .f32) (v5 : Vec Ideal S1x256x1024 .f32) (g b : Vec Ideal S1x1024 .f32) :
    k0_pay4 v4 v5 g b = lnv (sum1 v4 v5) g b := rfl

theorem pay6_eq (x : FVec Ideal S256x1024 .f32) (wg wu : Vec Ideal S1x1024x2816 .bf16) (wo : Vec Ideal S1x2816x1024 .bf16) (g b : Vec Ideal S1x1024 .f32) :
    k0_pay6 x (k0_pay5 x wg wu) wo g b = k0_pay1 (lnv (ffv x wg wu wo) g b) := rfl

theorem pay9_eq (x : FVec Ideal S256x1024 .f32) (wg wu : Vec Ideal S1x1024x2816 .bf16) (wo : Vec Ideal S1x2816x1024 .bf16) (g b : Vec Ideal S1x1024 .f32) :
    k0_pay9 x (k0_pay7 x) (k0_pay8 x wg) wu wo g b = lnv (ffv x wg wu wo) g b := rfl

theorem pay1_apply (x : FVec Ideal S256x1024 .f32) (r : Fin 256) (f : Fin 1024) : k0_pay1 x (ix3 (0 : Fin 1) r f) = x (ix2 r f) := by
  pointwise [k0_pay1]

/-! The loads: each of a whole block but those of the stream's two halves. -/

theorem ld0 (x : Vec Ideal S1x1024x512 .bf16) : View.ld x r0_0 = x := funext fun i => congrArg x (funext fun a => Fin.ext (by
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega))

theorem ld1 (x : Vec Ideal S1024x1024 .bf16) : View.ld x r0_1 = x := funext fun i => congrArg x (funext fun a => Fin.ext (by
  match a with
  | ⟨0, _⟩ => show 0 + 1 * (i 0).val = (i 0).val; omega
  | ⟨1, _⟩ => show 0 + 1 * (i 1).val = (i 1).val; omega))

theorem ld3 (x : Vec Ideal S1x1024 .f32) : View.ld x r0_3 = x := funext fun i => congrArg x (funext fun a => Fin.ext (by
  match a with
  | ⟨0, _⟩ => show 0 + 1 * (i 0).val = (i 0).val; omega
  | ⟨1, _⟩ => show 0 + 1 * (i 1).val = (i 1).val; omega))

theorem ld5 (x : Vec Ideal S1x1024x2816 .bf16) : View.ld x r0_5 = x := funext fun i => congrArg x (funext fun a => Fin.ext (by
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega))

theorem ld6 (x : Vec Ideal S1x2816x1024 .bf16) : View.ld x r0_6 = x := funext fun i => congrArg x (funext fun a => Fin.ext (by
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega))

theorem emb2 (r : Fin 256) (f : Fin 1024) : r0_2.emb (ix3 (0 : Fin 1) r f) = ix3 (0 : Fin 1) (⟨r.val, by omega⟩ : Fin 512) f := funext fun a => Fin.ext (by
  match a with
  | ⟨0, _⟩ => show 0 + 1 * 0 = 0; omega
  | ⟨1, _⟩ => show 0 + 1 * r.val = r.val; omega
  | ⟨2, _⟩ => show 0 + 1 * f.val = f.val; omega)

theorem emb4 (r : Fin 256) (f : Fin 1024) : r0_4.emb (ix3 (0 : Fin 1) r f) = ix3 (0 : Fin 1) (⟨256 + r.val, by omega⟩ : Fin 512) f := funext fun a => Fin.ext (by
  match a with
  | ⟨0, _⟩ => show 0 + 1 * 0 = 0; omega
  | ⟨1, _⟩ => show 256 + 1 * r.val = 256 + r.val; omega
  | ⟨2, _⟩ => show 0 + 1 * f.val = f.val; omega)

theorem ld2_apply (x : Vec Ideal S1x512x1024 .f32) (r : Fin 256) (f : Fin 1024) :
    View.ld x r0_2 (ix3 (0 : Fin 1) r f) = x (ix3 (0 : Fin 1) (⟨r.val, by omega⟩ : Fin 512) f) := congrArg x (emb2 r f)

theorem ld4_apply (x : Vec Ideal S1x512x1024 .f32) (r : Fin 256) (f : Fin 1024) :
    View.ld x r0_4 (ix3 (0 : Fin 1) r f) = x (ix3 (0 : Fin 1) (⟨256 + r.val, by omega⟩ : Fin 512) f) := congrArg x (emb4 r f)

theorem not_mem4 (r : Fin 256) (f : Fin 1024) : ix3 (0 : Fin 1) (⟨r.val, by omega⟩ : Fin 512) f ∉ r0_4.set := by
  intro h
  obtain ⟨j, _, e⟩ := r0_4.mem_set.mp h 1
  have e' : r.val = 256 + 1 * j := e
  have hr := r.isLt
  omega

theorem sum0_ld (v4 : FVec Ideal S512x1024 .f32) (x : Vec Ideal S1x512x1024 .f32) (r : Fin 256) (f : Fin 1024) :
    sum0 v4 (View.ld x r0_2) (ix2 r f) = (Ideal.ofBits .f32 0x3FB504F3#32 * x (ix3 (0 : Fin 1) (⟨r.val, by omega⟩ : Fin 512) f) + v4 (ix2 ⟨r.val, by omega⟩ f) : EReal) := by
  rw [sum0_apply, ← ld2_apply x r f]

theorem sum1_ld (v4 : FVec Ideal S512x1024 .f32) (x : Vec Ideal S1x512x1024 .f32) (r : Fin 256) (f : Fin 1024) :
    sum1 v4 (View.ld x r0_4) (ix2 r f) = (Ideal.ofBits .f32 0x3FB504F3#32 * x (ix3 (0 : Fin 1) (⟨256 + r.val, by omega⟩ : Fin 512) f) + v4 (ix2 ⟨256 + r.val, by omega⟩ f) : EReal) := by
  rw [sum1_apply, ← ld4_apply x r f]

/-! The two stores: the second half's was made last. -/

theorem canon_lo (w4 w2 : Vec Ideal S1x256x1024 .f32) (r : Fin 256) (f : Fin 1024) :
    View.canon ([⟨r0_4, w4⟩, ⟨r0_2, w2⟩] : List (View.Piece (Elt Ideal) S1x512x1024 .f32)) (ix3 (0 : Fin 1) (⟨r.val, by omega⟩ : Fin 512) f) = w2 (ix3 (0 : Fin 1) r f) :=
  (View.canon_cons_of_not_mem ⟨r0_4, w4⟩ _ (not_mem4 r f)).trans ((congrArg _ (emb2 r f).symm).trans (View.canon_cons_emb r0_2 w2 [] _))

theorem canon_hi (w4 w2 : Vec Ideal S1x256x1024 .f32) (r : Fin 256) (f : Fin 1024) :
    View.canon ([⟨r0_4, w4⟩, ⟨r0_2, w2⟩] : List (View.Piece (Elt Ideal) S1x512x1024 .f32)) (ix3 (0 : Fin 1) (⟨256 + r.val, by omega⟩ : Fin 512) f) = w4 (ix3 (0 : Fin 1) r f) :=
  (congrArg _ (emb4 r f).symm).trans (View.canon_cons_emb r0_4 w4 _ _)

section
variable (x0 : Vec Ideal S1x1024x512 .bf16) (x1 : Vec Ideal S1x512x1024 .f32) (x2 : Vec Ideal S1024x1024 .bf16) (x3 x4 : Vec Ideal S1x1024 .f32)
    (x5 x6 : Vec Ideal S1x1024x2816 .bf16) (x7 : Vec Ideal S1x2816x1024 .bf16) (x8 x9 : Vec Ideal S1x1024 .f32)

/-- What the body leaves at a token: the norm of its scaled stream and mixed output, then the feed-forward part and its norm. -/
def tok (t : Fin 512) : Fin 1024 → EReal :=
  Ffn.block (Ffn.norm (fun i => Ideal.ofBits .f32 0x3FB504F3#32 * x1 (ix3 0 t i) + (∑ k : Fin 1024, x0 (ix3 0 k t) * x2 (ix2 k i) : EReal))
    (fun i => x3 (ix2 0 i)) (fun i => x4 (ix2 0 i))) (fun k j => x5 (ix3 0 k j)) (fun k j => x6 (ix3 0 k j)) (fun j i => x7 (ix3 0 j i))
    (fun i => x8 (ix2 0 i)) (fun i => x9 (ix2 0 i))

theorem out_lo (r : Fin 256) (f : Fin 1024) :
    out0_10 x0 x1 x2 x3 x4 x5 x6 x7 x8 x9 (ix3 (0 : Fin 1) (⟨r.val, by omega⟩ : Fin 512) f) = tok x0 x1 x2 x3 x4 x5 x6 x7 x8 x9 ⟨r.val, by omega⟩ f := by
  unfold_out out0_10
  simp only [ld0, ld1, ld3, ld5, ld6]
  refine (canon_lo _ _ r f).trans ?_
  rw [pay3_eq, pay6_eq, pay1_apply, lnv_apply]
  simp only [ffv_apply, lnv_apply, sum0_ld, pay2_apply]
  rfl

theorem out_hi (r : Fin 256) (f : Fin 1024) :
    out0_10 x0 x1 x2 x3 x4 x5 x6 x7 x8 x9 (ix3 (0 : Fin 1) (⟨256 + r.val, by omega⟩ : Fin 512) f) = tok x0 x1 x2 x3 x4 x5 x6 x7 x8 x9 ⟨256 + r.val, by omega⟩ f := by
  unfold_out out0_10
  simp only [ld0, ld1, ld3, ld5, ld6]
  refine (canon_hi _ _ r f).trans ?_
  rw [pay4_eq, pay9_eq, pay1_apply, lnv_apply]
  simp only [ffv_apply, lnv_apply, sum1_ld, pay2_apply]
  rfl

theorem out_apply (t : Fin 512) (f : Fin 1024) :
    out0_10 x0 x1 x2 x3 x4 x5 x6 x7 x8 x9 (ix3 (0 : Fin 1) t f) = tok x0 x1 x2 x3 x4 x5 x6 x7 x8 x9 t f := by
  by_cases ht : t.val < 256
  · exact out_lo x0 x1 x2 x3 x4 x5 x6 x7 x8 x9 ⟨t.val, ht⟩ f
  · have e : (⟨256 + (t.val - 256), by omega⟩ : Fin 512) = t := Fin.ext (by show 256 + (t.val - 256) = t.val; omega)
    have := out_hi x0 x1 x2 x3 x4 x5 x6 x7 x8 x9 ⟨t.val - 256, by omega⟩ f
    rw [← e]
    exact this

end

end Cert.Mix

end
-- ==== Proof.MixHost.lean ====
module

public import proofs.«01_k».proof.Proof.MixBlock
public import proofs.«01_k».proof.Proof.Gen.Kernel2Ideal.Value

/-! What the last call's blocks hold of its arguments, and the array it leaves, read at a token and a feature. -/

@[expose] public section

set_option maxRecDepth 16384

noncomputable section

namespace Cert.Mix

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-! The seven arguments on a core. -/

abbrev ao : FVec Ideal S16x2048x1024 .f32 := m ((c : Thread nD τ).loc main_arg0)
abbrev ah : FVec Ideal S16x2048x1024 .f32 := m ((c : Thread nD τ).loc main_arg1)
abbrev ag : FVec Ideal S2x3x1024 .f32 := m ((c : Thread nD τ).loc main_arg2)
abbrev ab : FVec Ideal S2x3x1024 .f32 := m ((c : Thread nD τ).loc main_arg3)
abbrev ai : FVec Ideal S2x1024x5632 .f32 := m ((c : Thread nD τ).loc main_arg4)
abbrev au : FVec Ideal S2x2816x1024 .f32 := m ((c : Thread nD τ).loc main_arg5)
abbrev aw : FVec Ideal S1x1024x1024 .f32 := m ((c : Thread nD τ).loc main_arg6)

theorem V_o (b : Fin 16) (k : Fin 1024) (t : Fin 2048) :
    (V m c main_v21 : FVec Ideal S16x1024x2048 .bf16) (ix3 b k t) = ao m c (ix3 b t k) := by
  have e : @_root_.Eq (FVec Ideal S16x1024x2048 .bf16) (V m c main_v21) (truncf (F := Ideal) .bf16 (transpose S16x1024x2048 [0, 2, 1] (ao m c) transposes_S16x2048x1024_S16x1024x2048_0_2_1) bitsLt_bf16_f32) := by
    show StableHlo.after hostOps0 _ (Proc.devRef .tc main_v21) = _
    after_results
  refine (congrFun e _).trans ?_
  pointwise

theorem V_w (k f : Fin 1024) : (V m c main_v23 : FVec Ideal S1024x1024 .bf16) (ix2 k f) = aw m c (ix3 (0 : Fin 1) k f) := by
  have e : @_root_.Eq (FVec Ideal S1024x1024 .bf16) (V m c main_v23) (truncf (F := Ideal) .bf16 (shapeCast S1024x1024 (aw m c) shapeCasts_S1x1024x1024_S1024x1024) bitsLt_bf16_f32) := by
    show StableHlo.after hostOps0 _ (Proc.devRef .tc main_v23) = _
    after_results
    rfl
  refine (congrFun e _).trans ?_
  pointwise

theorem V_g1 (f : Fin 1024) : (V m c main_v8 : FVec Ideal S1x1024 .f32) (ix2 (0 : Fin 1) f) = ag m c (ix3 (1 : Fin 2) (1 : Fin 3) f) := by
  have e : @_root_.Eq (FVec Ideal S1x1024 .f32) (V m c main_v8) (shapeCast S1x1024 (shapeCast S1024 (extractStridedSlice S1x1x1024 ![1, 1, 0] (ag m c) slices_S2x3x1024_S1x1x1024_1_1_0) shapeCasts_S1x1x1024_S1024) shapeCasts_S1024_S1x1024) := by
    show StableHlo.after hostOps0 _ (Proc.devRef .tc main_v8) = _
    after_results
    rfl
  refine (congrFun e _).trans ?_
  pointwise

theorem V_b1 (f : Fin 1024) : (V m c main_v11 : FVec Ideal S1x1024 .f32) (ix2 (0 : Fin 1) f) = ab m c (ix3 (1 : Fin 2) (1 : Fin 3) f) := by
  have e : @_root_.Eq (FVec Ideal S1x1024 .f32) (V m c main_v11) (shapeCast S1x1024 (shapeCast S1024 (extractStridedSlice S1x1x1024 ![1, 1, 0] (ab m c) slices_S2x3x1024_S1x1x1024_1_1_0) shapeCasts_S1x1x1024_S1024) shapeCasts_S1024_S1x1024) := by
    show StableHlo.after hostOps0 _ (Proc.devRef .tc main_v11) = _
    after_results
    rfl
  refine (congrFun e _).trans ?_
  pointwise

theorem V_g2 (f : Fin 1024) : (V m c main_v14 : FVec Ideal S1x1024 .f32) (ix2 (0 : Fin 1) f) = ag m c (ix3 (1 : Fin 2) (2 : Fin 3) f) := by
  have e : @_root_.Eq (FVec Ideal S1x1024 .f32) (V m c main_v14) (shapeCast S1x1024 (shapeCast S1024 (extractStridedSlice S1x1x1024 ![1, 2, 0] (ag m c) slices_S2x3x1024_S1x1x1024_1_2_0) shapeCasts_S1x1x1024_S1024) shapeCasts_S1024_S1x1024) := by
    show StableHlo.after hostOps0 _ (Proc.devRef .tc main_v14) = _
    after_results
    rfl
  refine (congrFun e _).trans ?_
  pointwise

theorem V_b2 (f : Fin 1024) : (V m c main_v17 : FVec Ideal S1x1024 .f32) (ix2 (0 : Fin 1) f) = ab m c (ix3 (1 : Fin 2) (2 : Fin 3) f) := by
  have e : @_root_.Eq (FVec Ideal S1x1024 .f32) (V m c main_v17) (shapeCast S1x1024 (shapeCast S1024 (extractStridedSlice S1x1x1024 ![1, 2, 0] (ab m c) slices_S2x3x1024_S1x1x1024_1_2_0) shapeCasts_S1x1x1024_S1024) shapeCasts_S1024_S1x1024) := by
    show StableHlo.after hostOps0 _ (Proc.devRef .tc main_v17) = _
    after_results
    rfl
  refine (congrFun e _).trans ?_
  pointwise

theorem V_i (i : S2x1024x5632.Idx) : (V m c main_v18 : FVec Ideal S2x1024x5632 .bf16) i = ai m c i := by
  have e : @_root_.Eq (FVec Ideal S2x1024x5632 .bf16) (V m c main_v18) (truncf (F := Ideal) .bf16 (ai m c) bitsLt_bf16_f32) := by
    show StableHlo.after hostOps0 _ (Proc.devRef .tc main_v18) = _
    after_results
  exact congrFun e _

theorem V_u (i : S2x2816x1024.Idx) : (V m c main_v19 : FVec Ideal S2x2816x1024 .bf16) i = au m c i := by
  have e : @_root_.Eq (FVec Ideal S2x2816x1024 .bf16) (V m c main_v19) (truncf (F := Ideal) .bf16 (au m c) bitsLt_bf16_f32) := by
    show StableHlo.after hostOps0 _ (Proc.devRef .tc main_v19) = _
    after_results
  exact congrFun e _

/-! The blocks at a point of the grid: its batch and its 512 tokens of the stream and the attention's output, and the whole weights. -/

abbrev bat (t : Fin cfg0.N) : Fin 16 := grid0.coords t 0
abbrev row (t : Fin cfg0.N) (r : Fin 512) : Fin 2048 := ⟨512 * (grid0.coords t 1).val + r.val, by have : (grid0.coords t 1).val < 4 := (grid0.coords t 1).isLt; omega⟩

theorem ind0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])
theorem ind1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem ind2 : ∀ t : Fin cfg0.N, win0_2.index t = ![0, 0] := fun _ => rfl
theorem ind3 : ∀ t : Fin cfg0.N, win0_3.index t = ![0, 0] := fun _ => rfl
theorem ind4 : ∀ t : Fin cfg0.N, win0_4.index t = ![0, 0] := fun _ => rfl
theorem ind5 : ∀ t : Fin cfg0.N, win0_5.index t = ![1, 0, 0] := fun _ => rfl
theorem ind6 : ∀ t : Fin cfg0.N, win0_6.index t = ![1, 0, 1] := fun _ => rfl
theorem ind7 : ∀ t : Fin cfg0.N, win0_7.index t = ![1, 0, 0] := fun _ => rfl
theorem ind8 : ∀ t : Fin cfg0.N, win0_8.index t = ![0, 0] := fun _ => rfl
theorem ind9 : ∀ t : Fin cfg0.N, win0_9.index t = ![0, 0] := fun _ => rfl
theorem ind10 : ∀ t : Fin cfg0.N, win0_10.index t = ![(grid0.coords t 0).val, (grid0.coords t 1).val, 0] :=
  (by decide +kernel : ∀ t : Fin grid0.N, win0_10.index t = ![(grid0.coords t 0).val, (grid0.coords t 1).val, 0])

theorem iblk0 (t : Fin cfg0.N) (k : Fin 1024) (r : Fin 512) :
    (iblk m c 0 t : FVec Ideal S1x1024x512 .bf16) (ix3 (0 : Fin 1) k r) = ao m c (ix3 (bat t) (row t r) k) := by
  refine _root_.Eq.trans ?_ (V_o m c (bat t) k (row t r))
  unfold iblk
  rw [View.read_apply]
  show V m c main_v21 _ = V m c main_v21 _
  refine congrArg _ (funext fun a => Fin.ext ?_)
  match a with
  | ⟨0, _⟩ => show win0_0.index t 0 * 1 + 1 * 0 = (bat t).val; rw [ind0]; show (bat t).val * 1 + 1 * 0 = _; omega
  | ⟨1, _⟩ => show win0_0.index t 1 * 1024 + 1 * k.val = k.val; rw [ind0]; show 0 * 1024 + 1 * k.val = _; omega
  | ⟨2, _⟩ => show win0_0.index t 2 * 512 + 1 * r.val = (row t r).val; rw [ind0]; show (grid0.coords t 1).val * 512 + 1 * r.val = 512 * (grid0.coords t 1).val + r.val; omega

theorem iblk1 (t : Fin cfg0.N) (r : Fin 512) (k : Fin 1024) :
    (iblk m c 1 t : FVec Ideal S1x512x1024 .f32) (ix3 (0 : Fin 1) r k) = ah m c (ix3 (bat t) (row t r) k) := by
  have e : @_root_.Eq (FVec Ideal S16x2048x1024 .f32) (V m c main_arg1) (ah m c) := V_main_arg1 m c
  refine _root_.Eq.trans ?_ (congrFun e (ix3 (bat t) (row t r) k))
  unfold iblk
  rw [View.read_apply]
  show V m c main_arg1 _ = V m c main_arg1 _
  refine congrArg _ (funext fun a => Fin.ext ?_)
  match a with
  | ⟨0, _⟩ => show win0_1.index t 0 * 1 + 1 * 0 = (bat t).val; rw [ind1]; show (bat t).val * 1 + 1 * 0 = _; omega
  | ⟨1, _⟩ => show win0_1.index t 1 * 512 + 1 * r.val = (row t r).val; rw [ind1]; show (grid0.coords t 1).val * 512 + 1 * r.val = 512 * (grid0.coords t 1).val + r.val; omega
  | ⟨2, _⟩ => show win0_1.index t 2 * 1024 + 1 * k.val = k.val; rw [ind1]; show 0 * 1024 + 1 * k.val = _; omega

theorem iblk2 (t : Fin cfg0.N) (k f : Fin 1024) :
    (iblk m c 2 t : FVec Ideal S1024x1024 .bf16) (ix2 k f) = aw m c (ix3 (0 : Fin 1) k f) := by
  refine _root_.Eq.trans ?_ (V_w m c k f)
  unfold iblk
  rw [View.read_apply]
  show V m c main_v23 _ = V m c main_v23 _
  refine congrArg _ (funext fun a => Fin.ext ?_)
  match a with
  | ⟨0, _⟩ => show win0_2.index t 0 * 1024 + 1 * k.val = k.val; rw [ind2]; show 0 * 1024 + 1 * k.val = _; omega
  | ⟨1, _⟩ => show win0_2.index t 1 * 1024 + 1 * f.val = f.val; rw [ind2]; show 0 * 1024 + 1 * f.val = _; omega

theorem iblk3 (t : Fin cfg0.N) (f : Fin 1024) :
    (iblk m c 3 t : FVec Ideal S1x1024 .f32) (ix2 (0 : Fin 1) f) = ag m c (ix3 (1 : Fin 2) (1 : Fin 3) f) := by
  refine _root_.Eq.trans ?_ (V_g1 m c f)
  unfold iblk
  rw [View.read_apply]
  show V m c main_v8 _ = V m c main_v8 _
  refine congrArg _ (funext fun a => Fin.ext ?_)
  match a with
  | ⟨0, _⟩ => show win0_3.index t 0 * 1 + 1 * 0 = 0; rw [ind3]; rfl
  | ⟨1, _⟩ => show win0_3.index t 1 * 1024 + 1 * f.val = f.val; rw [ind3]; show 0 * 1024 + 1 * f.val = _; omega

theorem iblk4 (t : Fin cfg0.N) (f : Fin 1024) :
    (iblk m c 4 t : FVec Ideal S1x1024 .f32) (ix2 (0 : Fin 1) f) = ab m c (ix3 (1 : Fin 2) (1 : Fin 3) f) := by
  refine _root_.Eq.trans ?_ (V_b1 m c f)
  unfold iblk
  rw [View.read_apply]
  show V m c main_v11 _ = V m c main_v11 _
  refine congrArg _ (funext fun a => Fin.ext ?_)
  match a with
  | ⟨0, _⟩ => show win0_4.index t 0 * 1 + 1 * 0 = 0; rw [ind4]; rfl
  | ⟨1, _⟩ => show win0_4.index t 1 * 1024 + 1 * f.val = f.val; rw [ind4]; show 0 * 1024 + 1 * f.val = _; omega

theorem iblk5 (t : Fin cfg0.N) (k : Fin 1024) (j : Fin 2816) :
    (iblk m c 5 t : FVec Ideal S1x1024x2816 .bf16) (ix3 (0 : Fin 1) k j) = ai m c (ix3 (1 : Fin 2) k (⟨j.val, by omega⟩ : Fin 5632)) := by
  refine _root_.Eq.trans ?_ (V_i m c (ix3 (1 : Fin 2) k (⟨j.val, by omega⟩ : Fin 5632)))
  unfold iblk
  rw [View.read_apply]
  show V m c main_v18 _ = V m c main_v18 _
  refine congrArg _ (funext fun a => Fin.ext ?_)
  match a with
  | ⟨0, _⟩ => show win0_5.index t 0 * 1 + 1 * 0 = 1; rw [ind5]; rfl
  | ⟨1, _⟩ => show win0_5.index t 1 * 1024 + 1 * k.val = k.val; rw [ind5]; show 0 * 1024 + 1 * k.val = _; omega
  | ⟨2, _⟩ => show win0_5.index t 2 * 2816 + 1 * j.val = j.val; rw [ind5]; show 0 * 2816 + 1 * j.val = _; omega

theorem iblk6 (t : Fin cfg0.N) (k : Fin 1024) (j : Fin 2816) :
    (iblk m c 6 t : FVec Ideal S1x1024x2816 .bf16) (ix3 (0 : Fin 1) k j) = ai m c (ix3 (1 : Fin 2) k (⟨2816 + j.val, by omega⟩ : Fin 5632)) := by
  refine _root_.Eq.trans ?_ (V_i m c (ix3 (1 : Fin 2) k (⟨2816 + j.val, by omega⟩ : Fin 5632)))
  unfold iblk
  rw [View.read_apply]
  show V m c main_v18 _ = V m c main_v18 _
  refine congrArg _ (funext fun a => Fin.ext ?_)
  match a with
  | ⟨0, _⟩ => show win0_6.index t 0 * 1 + 1 * 0 = 1; rw [ind6]; rfl
  | ⟨1, _⟩ => show win0_6.index t 1 * 1024 + 1 * k.val = k.val; rw [ind6]; show 0 * 1024 + 1 * k.val = _; omega
  | ⟨2, _⟩ => show win0_6.index t 2 * 2816 + 1 * j.val = 2816 + j.val; rw [ind6]; show 1 * 2816 + 1 * j.val = _; omega

theorem iblk7 (t : Fin cfg0.N) (j : Fin 2816) (f : Fin 1024) :
    (iblk m c 7 t : FVec Ideal S1x2816x1024 .bf16) (ix3 (0 : Fin 1) j f) = au m c (ix3 (1 : Fin 2) j f) := by
  refine _root_.Eq.trans ?_ (V_u m c (ix3 (1 : Fin 2) j f))
  unfold iblk
  rw [View.read_apply]
  show V m c main_v19 _ = V m c main_v19 _
  refine congrArg _ (funext fun a => Fin.ext ?_)
  match a with
  | ⟨0, _⟩ => show win0_7.index t 0 * 1 + 1 * 0 = 1; rw [ind7]; rfl
  | ⟨1, _⟩ => show win0_7.index t 1 * 2816 + 1 * j.val = j.val; rw [ind7]; show 0 * 2816 + 1 * j.val = _; omega
  | ⟨2, _⟩ => show win0_7.index t 2 * 1024 + 1 * f.val = f.val; rw [ind7]; show 0 * 1024 + 1 * f.val = _; omega

theorem iblk8 (t : Fin cfg0.N) (f : Fin 1024) :
    (iblk m c 8 t : FVec Ideal S1x1024 .f32) (ix2 (0 : Fin 1) f) = ag m c (ix3 (1 : Fin 2) (2 : Fin 3) f) := by
  refine _root_.Eq.trans ?_ (V_g2 m c f)
  unfold iblk
  rw [View.read_apply]
  show V m c main_v14 _ = V m c main_v14 _
  refine congrArg _ (funext fun a => Fin.ext ?_)
  match a with
  | ⟨0, _⟩ => show win0_8.index t 0 * 1 + 1 * 0 = 0; rw [ind8]; rfl
  | ⟨1, _⟩ => show win0_8.index t 1 * 1024 + 1 * f.val = f.val; rw [ind8]; show 0 * 1024 + 1 * f.val = _; omega

theorem iblk9 (t : Fin cfg0.N) (f : Fin 1024) :
    (iblk m c 9 t : FVec Ideal S1x1024 .f32) (ix2 (0 : Fin 1) f) = ab m c (ix3 (1 : Fin 2) (2 : Fin 3) f) := by
  refine _root_.Eq.trans ?_ (V_b2 m c f)
  unfold iblk
  rw [View.read_apply]
  show V m c main_v17 _ = V m c main_v17 _
  refine congrArg _ (funext fun a => Fin.ext ?_)
  match a with
  | ⟨0, _⟩ => show win0_9.index t 0 * 1 + 1 * 0 = 0; rw [ind9]; rfl
  | ⟨1, _⟩ => show win0_9.index t 1 * 1024 + 1 * f.val = f.val; rw [ind9]; show 0 * 1024 + 1 * f.val = _; omega

/-- A token of the result from the arguments. -/
def res (o h : FVec Ideal S16x2048x1024 .f32) (g b : FVec Ideal S2x3x1024 .f32) (wi : FVec Ideal S2x1024x5632 .f32) (wo : FVec Ideal S2x2816x1024 .f32)
    (w : FVec Ideal S1x1024x1024 .f32) (n : Fin 16) (t : Fin 2048) : Fin 1024 → EReal :=
  Ffn.block (Ffn.norm (fun i => Ideal.ofBits .f32 0x3FB504F3#32 * h (ix3 n t i) + (∑ k : Fin 1024, o (ix3 n t k) * w (ix3 (0 : Fin 1) k i) : EReal))
    (fun i => g (ix3 (1 : Fin 2) (1 : Fin 3) i)) (fun i => b (ix3 (1 : Fin 2) (1 : Fin 3) i)))
    (fun k j => wi (ix3 (1 : Fin 2) k (⟨j.val, by omega⟩ : Fin 5632))) (fun k j => wi (ix3 (1 : Fin 2) k (⟨2816 + j.val, by omega⟩ : Fin 5632)))
    (fun j i => wo (ix3 (1 : Fin 2) j i)) (fun i => g (ix3 (1 : Fin 2) (2 : Fin 3) i)) (fun i => b (ix3 (1 : Fin 2) (2 : Fin 3) i))

theorem flush10 (t : Fin cfg0.N) : (cfg0.win 10).flush t = true :=
  (by decide +kernel : ∀ t : Fin grid0.N, win0_10.flush t = true) t

theorem arr_at (t : Fin cfg0.N) (r : Fin 512) (f : Fin 1024) :
    ((dats m 0 c).arrAt 10 cfg0.N : FVec Ideal S16x2048x1024 .f32) (ix3 (bat t) (row t r) f) =
      res (ao m c) (ah m c) (ag m c) (ab m c) (ai m c) (au m c) (aw m c) (bat t) (row t r) f := by
  have e := congrFun (Value.blocks10 m c t (flush10 t)) (ix3 (0 : Fin 1) r f)
  rw [View.read_apply, Value.flushed10] at e
  refine (_root_.Eq.trans ?_ e).trans ?_
  · refine congrArg ((dats m 0 c).arrAt 10 cfg0.N : FVec Ideal S16x2048x1024 .f32) (funext fun a => Fin.ext ?_)
    match a with
    | ⟨0, _⟩ => show (bat t).val = win0_10.index t 0 * 1 + 1 * 0; rw [ind10]; show (bat t).val = (bat t).val * 1 + 1 * 0; omega
    | ⟨1, _⟩ => show (row t r).val = win0_10.index t 1 * 512 + 1 * r.val; rw [ind10]; show 512 * (grid0.coords t 1).val + r.val = (grid0.coords t 1).val * 512 + 1 * r.val; omega
    | ⟨2, _⟩ => show f.val = win0_10.index t 2 * 1024 + 1 * f.val; rw [ind10]; show f.val = 0 * 1024 + 1 * f.val; omega
  · refine (out_apply (iblk m c 0 t) (iblk m c 1 t) (iblk m c 2 t) (iblk m c 3 t) (iblk m c 4 t) (iblk m c 5 t) (iblk m c 6 t) (iblk m c 7 t) (iblk m c 8 t) (iblk m c 9 t) r f).trans ?_
    unfold tok res
    simp only [iblk0, iblk1, iblk2, iblk3, iblk4, iblk5, iblk6, iblk7, iblk8, iblk9]

theorem point (n : Fin 16) (q : Fin 4) : ∃ t : Fin cfg0.N, bat t = n ∧ (grid0.coords t 1).val = q.val := by
  have h : ∀ t : Fin grid0.N, (grid0.coords t 0).val = t.val / 4 ∧ (grid0.coords t 1).val = t.val % 4 := by decide +kernel
  have hn : 4 * n.val + q.val < grid0.N := by
    have e : grid0.N = 64 := by decide
    omega
  refine ⟨⟨4 * n.val + q.val, hn⟩, Fin.ext ?_, ?_⟩
  · refine (h ⟨4 * n.val + q.val, hn⟩).1.trans ?_
    show (4 * n.val + q.val) / 4 = n.val; omega
  · refine (h ⟨4 * n.val + q.val, hn⟩).2.trans ?_
    show (4 * n.val + q.val) % 4 = q.val; omega

/-- The array that the call leaves. -/
theorem arr_apply (n : Fin 16) (t : Fin 2048) (f : Fin 1024) :
    ((dats m 0 c).arrAt 10 cfg0.N : FVec Ideal S16x2048x1024 .f32) (ix3 n t f) =
      res (ao m c) (ah m c) (ag m c) (ab m c) (ai m c) (au m c) (aw m c) n t f := by
  obtain ⟨p, hb, hq⟩ := point n ⟨t.val / 512, by omega⟩
  have e : row p ⟨t.val % 512, by omega⟩ = t := Fin.ext (by show 512 * (grid0.coords p 1).val + t.val % 512 = t.val; rw [hq]; show 512 * (t.val / 512) + t.val % 512 = t.val; omega)
  have := arr_at m c p ⟨t.val % 512, by omega⟩ f
  rw [hb, e] at this
  exact this

end Cert.Mix

end
-- ==== Proof.MixRef.lean ====
module

public import proofs.«01_k».proof.Proof.Gen.Reference2Ideal.Run
public import proofs.«01_k».proof.Proof.Ffn
public import Idealize.ShloMosaic.Lib.Pointwise

/-! The second reference read at a token and a feature. -/

@[expose] public section

set_option maxRecDepth 16384

noncomputable section

namespace Cert.Mix.Ref

open Cert.Reference2Ideal Cert.Reference2Ideal.Gen Cert.Reference2Ideal.Value Idealize.ShloMosaic Idealize.ShloMosaic.TcCoe

abbrev X := FVec Ideal S16x2048x1024 .f32

/-- The mean of each token, and the numbers less it. -/
def mean (x : X) : FVec Ideal S16x2048x1 .f32 :=
  Host.divf (broadcastInDim S16x2048x1 ![0, 1] bcast_S16x2048_S16x2048x1_0_1 (Host.reduceAdd x (constant S_ .f32 0x00000000#32) reducesTo_S16x2048x1024_S16x2048_d2 h_S_)) (broadcastInDim S16x2048x1 ![] bcast_S_S16x2048x1 (constant S_ .f32 0x44800000#32))

def mid (x : X) : X := subf x (broadcastInDim S16x2048x1024 ![0, 1, 2] bcast_S16x2048x1_S16x2048x1024_0_1_2 (mean x))

/-- The layer norm. -/
def norm (x : X) (g b : FVec Ideal S1024 .f32) : X :=
  addf (mulf (mulf (mid x) (broadcastInDim S16x2048x1024 ![0, 1, 2] bcast_S16x2048x1_S16x2048x1024_0_1_2 (Host.rsqrt (addf (mean (mulf (mid x) (mid x))) (broadcastInDim S16x2048x1 ![] bcast_S_S16x2048x1 (constant S_ .f32 0x3727C5AC#32))))))
    (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

theorem mean_apply (x : X) (n : Fin 16) (t : Fin 2048) : mean x (ix3 n t (0 : Fin 1)) = Ffn.mean fun i => x (ix3 n t i) := by
  pointwise [mean]
  rfl

theorem mid_apply (x : X) (n : Fin 16) (t : Fin 2048) (f : Fin 1024) :
    mid x (ix3 n t f) = x (ix3 n t f) - Ffn.mean fun i => x (ix3 n t i) := by
  pointwise [mid]
  rw [mean_apply]

theorem norm_apply (x : X) (g b : FVec Ideal S1024 .f32) (n : Fin 16) (t : Fin 2048) (f : Fin 1024) :
    norm x g b (ix3 n t f) = Ffn.norm (fun i => x (ix3 n t i)) (fun i => g (ix1 i)) (fun i => b (ix1 i)) f := by
  pointwise [norm]
  rw [mean_apply]
  simp only [mid_apply]
  pointwise
  simp only [mid_apply]
  rfl

/-- The stream with the projected attention output added. -/
def sum (o h : X) (w : FVec Ideal S1x1024x1024 .f32) : X :=
  addf (mulf (broadcastInDim S16x2048x1024 ![] bcast_S_S16x2048x1024 (constant S_ .f32 0x3FB504F3#32)) h)
    (Host.dotGeneral dot_S16x2048x1024_S1024x1024_S16x2048x1024_2_0_01_1_n_n none o (shapeCast _ w shapeCasts_S1x1024x1024_S1024x1024))

/-- The hidden numbers, gates before the others. -/
def hid (x : X) (wi : FVec Ideal S1024x5632 .f32) : FVec Ideal S16x2048x5632 .f32 :=
  Host.dotGeneral dot_S16x2048x1024_S1024x5632_S16x2048x5632_2_0_01_1_n_n none x wi

def gate (y : FVec Ideal S16x2048x5632 .f32) : FVec Ideal S16x2048x2816 .f32 :=
  extractStridedSlice S16x2048x2816 ![0, 0, 0] y slices_S16x2048x5632_S16x2048x2816_0_0_0

/-- The gated hidden numbers. -/
def glu (y : FVec Ideal S16x2048x5632 .f32) : FVec Ideal S16x2048x2816 .f32 :=
  mulf (mulf (gate y) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (gate y))))))
    (extractStridedSlice S16x2048x2816 ![0, 0, 2816] y slices_S16x2048x5632_S16x2048x2816_0_0_2816)

/-- The feed-forward part, added to the scaled stream. -/
def plus (x : X) (wi : FVec Ideal S1024x5632 .f32) (wo : FVec Ideal S2816x1024 .f32) : X :=
  addf (mulf (broadcastInDim S16x2048x1024 ![] bcast_S_S16x2048x1024 (constant S_ .f32 0x3FB504F3#32)) x)
    (mulf (broadcastInDim S16x2048x1024 ![] bcast_S_S16x2048x1024 (constant S_ .f32 0x3F000000#32))
      (Host.dotGeneral dot_S16x2048x2816_S2816x1024_S16x2048x1024_2_0_01_1_n_n none (glu (hid x wi)) wo))

/-- The odd layer's weights and rows of the norms. -/
def wIn (wi : FVec Ideal S2x1024x5632 .f32) : FVec Ideal S1024x5632 .f32 :=
  shapeCast _ (extractStridedSlice S1x1024x5632 ![1, 0, 0] wi slices_S2x1024x5632_S1x1024x5632_1_0_0) shapeCasts_S1x1024x5632_S1024x5632
def wOut (wo : FVec Ideal S2x2816x1024 .f32) : FVec Ideal S2816x1024 .f32 :=
  shapeCast _ (extractStridedSlice S1x2816x1024 ![1, 0, 0] wo slices_S2x2816x1024_S1x2816x1024_1_0_0) shapeCasts_S1x2816x1024_S2816x1024

def row1 (g : FVec Ideal S2x3x1024 .f32) : FVec Ideal S1024 .f32 :=
  shapeCast _ (extractStridedSlice S1x1x1024 ![1, 1, 0] g slices_S2x3x1024_S1x1x1024_1_1_0) shapeCasts_S1x1x1024_S1024
def row2 (g : FVec Ideal S2x3x1024 .f32) : FVec Ideal S1024 .f32 :=
  shapeCast _ (extractStridedSlice S1x1x1024 ![1, 2, 0] g slices_S2x3x1024_S1x1x1024_1_2_0) shapeCasts_S1x1x1024_S1024

theorem sum_apply (o h : X) (w : FVec Ideal S1x1024x1024 .f32) (n : Fin 16) (t : Fin 2048) (f : Fin 1024) :
    sum o h w (ix3 n t f) = Ideal.ofBits .f32 0x3FB504F3#32 * h (ix3 n t f) + (∑ k : Fin 1024, o (ix3 n t k) * w (ix3 (0 : Fin 1) k f) : EReal) := by
  pointwise [sum]

theorem hid_apply (x : X) (wi : FVec Ideal S1024x5632 .f32) (n : Fin 16) (t : Fin 2048) (j : Fin 5632) :
    hid x wi (ix3 n t j) = (∑ k : Fin 1024, x (ix3 n t k) * wi (ix2 k j) : EReal) := by
  pointwise [hid]

theorem glu_apply (x : X) (wi : FVec Ideal S1024x5632 .f32) (n : Fin 16) (t : Fin 2048) (j : Fin 2816) :
    glu (hid x wi) (ix3 n t j) = Ffn.glu (fun i => x (ix3 n t i)) (fun k j => wi (ix2 k (⟨j.val, by omega⟩ : Fin 5632)))
      (fun k j => wi (ix2 k (⟨2816 + j.val, by omega⟩ : Fin 5632))) j := by
  pointwise [glu, gate]
  simp only [hid_apply]
  rfl

theorem plus_apply (x : X) (wi : FVec Ideal S1024x5632 .f32) (wo : FVec Ideal S2816x1024 .f32) (n : Fin 16) (t : Fin 2048) (f : Fin 1024) :
    plus x wi wo (ix3 n t f) = Ffn.plus (fun i => x (ix3 n t i)) (fun k j => wi (ix2 k (⟨j.val, by omega⟩ : Fin 5632)))
      (fun k j => wi (ix2 k (⟨2816 + j.val, by omega⟩ : Fin 5632))) (fun j i => wo (ix2 j i)) f := by
  pointwise [plus]
  simp only [glu_apply]
  rfl

theorem wIn_apply (wi : FVec Ideal S2x1024x5632 .f32) (k : Fin 1024) (j : Fin 5632) : wIn wi (ix2 k j) = wi (ix3 (1 : Fin 2) k j) := by
  pointwise [wIn]

theorem wOut_apply (wo : FVec Ideal S2x2816x1024 .f32) (j : Fin 2816) (f : Fin 1024) : wOut wo (ix2 j f) = wo (ix3 (1 : Fin 2) j f) := by
  pointwise [wOut]

theorem row1_apply (g : FVec Ideal S2x3x1024 .f32) (f : Fin 1024) : row1 g (ix1 f) = g (ix3 (1 : Fin 2) (1 : Fin 3) f) := by
  pointwise [row1]

theorem row2_apply (g : FVec Ideal S2x3x1024 .f32) (f : Fin 1024) : row2 g (ix1 f) = g (ix3 (1 : Fin 2) (2 : Fin 3) f) := by
  pointwise [row2]

/-- The reference's result from its arguments. -/
def out (o h : X) (g b : FVec Ideal S2x3x1024 .f32) (wi : FVec Ideal S2x1024x5632 .f32) (wo : FVec Ideal S2x2816x1024 .f32) (w : FVec Ideal S1x1024x1024 .f32) : X :=
  norm (plus (norm (sum o h w) (row1 g) (row1 b)) (wIn wi) (wOut wo)) (row2 g) (row2 b)

theorem out_apply (o h : X) (g b : FVec Ideal S2x3x1024 .f32) (wi : FVec Ideal S2x1024x5632 .f32) (wo : FVec Ideal S2x2816x1024 .f32) (w : FVec Ideal S1x1024x1024 .f32)
    (n : Fin 16) (t : Fin 2048) (f : Fin 1024) :
    out o h g b wi wo w (ix3 n t f) = Ffn.block (Ffn.norm (fun i => Ideal.ofBits .f32 0x3FB504F3#32 * h (ix3 n t i) + (∑ k : Fin 1024, o (ix3 n t k) * w (ix3 (0 : Fin 1) k i) : EReal))
      (fun i => g (ix3 (1 : Fin 2) (1 : Fin 3) i)) (fun i => b (ix3 (1 : Fin 2) (1 : Fin 3) i)))
      (fun k j => wi (ix3 (1 : Fin 2) k (⟨j.val, by omega⟩ : Fin 5632))) (fun k j => wi (ix3 (1 : Fin 2) k (⟨2816 + j.val, by omega⟩ : Fin 5632)))
      (fun j i => wo (ix3 (1 : Fin 2) j i)) (fun i => g (ix3 (1 : Fin 2) (2 : Fin 3) i)) (fun i => b (ix3 (1 : Fin 2) (2 : Fin 3) i)) f := by
  unfold out
  rw [norm_apply]
  simp only [plus_apply, norm_apply, sum_apply, row1_apply, row2_apply, wIn_apply, wOut_apply]
  rfl

end Cert.Mix.Ref

end
-- ==== Proof.MixEqual.lean ====
module

public import proofs.«01_k».proof.Proof.MixHost
public import proofs.«01_k».proof.Proof.MixRef

/-! The last call's array is the second reference's result. -/

@[expose] public section

noncomputable section

namespace Cert.Mix

open Idealize.ShloMosaic Idealize.ShloMosaic.TcCoe Cert.Kernel2Ideal Cert.Kernel2Ideal.Gen

theorem equal (m : (ℓ : Loc nD τ sig) → Buf (Elt Ideal) ℓ) (c : Dev nD) :
    @_root_.Eq (FVec Ideal S16x2048x1024 .f32) (Ref.out (ao m c) (ah m c) (ag m c) (ab m c) (ai m c) (au m c) (aw m c)) ((dats m 0 c).arrAt 10 cfg0.N) := by
  funext i
  obtain ⟨n, t, f, rfl⟩ : ∃ (n : Fin 16) (t : Fin 2048) (f : Fin 1024), i = ix3 n t f := ⟨i 0, i 1, i 2, eq_ix3 i⟩
  exact (Ref.out_apply (ao m c) (ah m c) (ag m c) (ab m c) (ai m c) (au m c) (aw m c) n t f).trans (arr_apply m c n t f).symm

end Cert.Mix

end
-- ==== Proof.MixEBlock.lean ====
module

public import proofs.«01_k».proof.Proof.Gen.Kernel3Ideal.Frame
public import proofs.«01_k».proof.Proof.MixBlock

/-! The block that the even layer's last call leaves, read at a token and a feature. Its body is the odd layer's but for
the mixed output, which comes from two arrays: one by features, one by tokens. -/

@[expose] public section

set_option maxRecDepth 16384

noncomputable section

namespace Cert.MixE

open Cert.Kernel3Ideal Cert.Kernel3Ideal.Gen Idealize.ShloMosaic Idealize.ShloMosaic.TcCoe
open Cert.Mix (lnv lnv_apply ffv ffv_apply sum0 sum1)

theorem pay2_apply (v0 : Vec Ideal S1x512x512 .bf16) (v2 : Vec Ideal S512x1024 .bf16) (v5 : Vec Ideal S1x512x512 .bf16) (v7 : Vec Ideal S512x1024 .bf16)
    (r : Fin 512) (f : Fin 1024) :
    k0_pay2 v0 v2 v5 v7 (ix2 r f) = ((∑ k : Fin 512, v0 (ix3 0 k r) * v2 (ix2 k f)) + ∑ k : Fin 512, v5 (ix3 0 r k) * v7 (ix2 k f) : EReal) := by
  pointwise [k0_pay2]

/-- The first norm of each half, and the half's result. -/
theorem pay8_eq (v0 : Vec Ideal S1x512x512 .bf16) (v2 : Vec Ideal S512x1024 .bf16) (v5 : Vec Ideal S1x512x512 .bf16) (v7 : Vec Ideal S512x1024 .bf16)
    (h : Vec Ideal S1x256x1024 .f32) (g b : Vec Ideal S1x1024 .f32) :
    k0_pay8 (k0_pay3 g) (k0_pay4 b) (k0_pay5 v0 v2 v5 v7 h) (k0_pay6 v0 v2 v5 v7 h) (k0_pay7 (F := Ideal)) = lnv (sum0 (k0_pay2 v0 v2 v5 v7) h) g b := rfl

theorem pay9_eq (v : FVec Ideal S512x1024 .f32) (h : Vec Ideal S1x256x1024 .f32) (g b : Vec Ideal S1x1024 .f32) :
    k0_pay9 v h g b = lnv (sum1 v h) g b := rfl

theorem lo_eq (v18 v20 : FVec Ideal S1x1024 .f32) (v26 : FVec Ideal S256x1024 .f32) (v31 v32 : FVec Ideal S256x1 .f32)
    (wg wu : Vec Ideal S1x1024x2816 .bf16) (wo : Vec Ideal S1x2816x1024 .bf16) (g b : Vec Ideal S1x1024 .f32) :
    k0_pay13 (k0_pay12 (k0_pay8 v18 v20 v26 v31 v32) (k0_pay10 v18 v20 v26 v31 v32) (k0_pay11 v18 v20 v26 v31 v32 wg) wu wo g b) =
      Cert.Kernel2Ideal.Gen.k0_pay1 (lnv (ffv (k0_pay8 v18 v20 v26 v31 v32) wg wu wo) g b) := rfl

theorem hi_eq (x : FVec Ideal S256x1024 .f32) (wg wu : Vec Ideal S1x1024x2816 .bf16) (wo : Vec Ideal S1x2816x1024 .bf16) (g b : Vec Ideal S1x1024 .f32) :
    k0_pay1 (k0_pay14 g) (k0_pay15 b) (k0_pay16 x wg wu wo) (k0_pay17 x wg wu wo) = Cert.Kernel2Ideal.Gen.k0_pay1 (lnv (ffv x wg wu wo) g b) := rfl

/-! The loads of a whole block that the other call does not make. -/

theorem ld0 (x : Vec Ideal S1x512x512 .bf16) : View.ld x r0_0 = x := funext fun i => congrArg x (funext fun a => Fin.ext (by
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega))

theorem ld1 (x : Vec Ideal S512x1024 .bf16) : View.ld x r0_1 = x := funext fun i => congrArg x (funext fun a => Fin.ext (by
  match a with
  | ⟨0, _⟩ => show 0 + 1 * (i 0).val = (i 0).val; omega
  | ⟨1, _⟩ => show 0 + 1 * (i 1).val = (i 1).val; omega))

theorem ld3 (x : Vec Ideal S1x1024 .f32) : View.ld x r0_3 = x := Mix.ld3 x
theorem ld5 (x : Vec Ideal S1x1024x2816 .bf16) : View.ld x r0_5 = x := Mix.ld5 x
theorem ld6 (x : Vec Ideal S1x2816x1024 .bf16) : View.ld x r0_6 = x := Mix.ld6 x

theorem sum0_ld (v : FVec Ideal S512x1024 .f32) (x : Vec Ideal S1x512x1024 .f32) (r : Fin 256) (f : Fin 1024) :
    sum0 v (View.ld x r0_2) (ix2 r f) = (Ideal.ofBits .f32 0x3FB504F3#32 * x (ix3 (0 : Fin 1) (⟨r.val, by omega⟩ : Fin 512) f) + v (ix2 ⟨r.val, by omega⟩ f) : EReal) :=
  Mix.sum0_ld v x r f

theorem sum1_ld (v : FVec Ideal S512x1024 .f32) (x : Vec Ideal S1x512x1024 .f32) (r : Fin 256) (f : Fin 1024) :
    sum1 v (View.ld x r0_4) (ix2 r f) = (Ideal.ofBits .f32 0x3FB504F3#32 * x (ix3 (0 : Fin 1) (⟨256 + r.val, by omega⟩ : Fin 512) f) + v (ix2 ⟨256 + r.val, by omega⟩ f) : EReal) :=
  Mix.sum1_ld v x r f

section
variable (x0 x1 : Vec Ideal S1x512x512 .bf16) (x2 : Vec Ideal S1x512x1024 .f32) (x3 x4 : Vec Ideal S512x1024 .bf16) (x5 x6 : Vec Ideal S1x1024 .f32)
    (x7 x8 : Vec Ideal S1x1024x2816 .bf16) (x9 : Vec Ideal S1x2816x1024 .bf16) (x10 x11 : Vec Ideal S1x1024 .f32)

/-- What the body leaves at a token. -/
def tok (t : Fin 512) : Fin 1024 → EReal :=
  Ffn.block (Ffn.norm (fun i => Ideal.ofBits .f32 0x3FB504F3#32 * x2 (ix3 0 t i)
      + ((∑ k : Fin 512, x0 (ix3 0 k t) * x3 (ix2 k i)) + ∑ k : Fin 512, x1 (ix3 0 t k) * x4 (ix2 k i) : EReal))
    (fun i => x5 (ix2 0 i)) (fun i => x6 (ix2 0 i))) (fun k j => x7 (ix3 0 k j)) (fun k j => x8 (ix3 0 k j)) (fun j i => x9 (ix3 0 j i))
    (fun i => x10 (ix2 0 i)) (fun i => x11 (ix2 0 i))

theorem out_lo (r : Fin 256) (f : Fin 1024) :
    out0_12 x0 x1 x2 x3 x4 x5 x6 x7 x8 x9 x10 x11 (ix3 (0 : Fin 1) (⟨r.val, by omega⟩ : Fin 512) f) = tok x0 x1 x2 x3 x4 x5 x6 x7 x8 x9 x10 x11 ⟨r.val, by omega⟩ f := by
  unfold_out out0_12
  refine (Mix.canon_lo _ _ r f).trans ?_
  simp only [ld0, ld1, ld3, ld5, ld6]
  rw [lo_eq, pay8_eq]
  refine (Mix.pay1_apply _ r f).trans ((lnv_apply _ _ _ r f).trans ?_)
  simp only [ffv_apply, lnv_apply, sum0_ld, pay2_apply]
  rfl

theorem out_hi (r : Fin 256) (f : Fin 1024) :
    out0_12 x0 x1 x2 x3 x4 x5 x6 x7 x8 x9 x10 x11 (ix3 (0 : Fin 1) (⟨256 + r.val, by omega⟩ : Fin 512) f) = tok x0 x1 x2 x3 x4 x5 x6 x7 x8 x9 x10 x11 ⟨256 + r.val, by omega⟩ f := by
  unfold_out out0_12
  refine (Mix.canon_hi _ _ r f).trans ?_
  simp only [ld0, ld1, ld3, ld5, ld6]
  rw [hi_eq, pay9_eq]
  refine (Mix.pay1_apply _ r f).trans ((lnv_apply _ _ _ r f).trans ?_)
  simp only [ffv_apply, lnv_apply, sum1_ld, pay2_apply]
  rfl

theorem out_apply (t : Fin 512) (f : Fin 1024) :
    out0_12 x0 x1 x2 x3 x4 x5 x6 x7 x8 x9 x10 x11 (ix3 (0 : Fin 1) t f) = tok x0 x1 x2 x3 x4 x5 x6 x7 x8 x9 x10 x11 t f := by
  by_cases ht : t.val < 256
  · exact out_lo x0 x1 x2 x3 x4 x5 x6 x7 x8 x9 x10 x11 ⟨t.val, ht⟩ f
  · have e : (⟨256 + (t.val - 256), by omega⟩ : Fin 512) = t := Fin.ext (by show 256 + (t.val - 256) = t.val; omega)
    have := out_hi x0 x1 x2 x3 x4 x5 x6 x7 x8 x9 x10 x11 ⟨t.val - 256, by omega⟩ f
    rw [← e]
    exact this

end

end Cert.MixE

end
-- ==== Proof.MixEHost.lean ====
module

public import proofs.«01_k».proof.Proof.MixEBlock
public import proofs.«01_k».proof.Proof.Gen.Kernel3Ideal.Value

/-! What the even layer's last call's blocks hold of its arguments, and the array it leaves, read at a token and a feature. -/

@[expose] public section

set_option maxRecDepth 16384

noncomputable section

namespace Cert.MixE

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-! The seven arguments on a core. -/

abbrev ao : FVec Ideal S16x2048x1024 .f32 := m ((c : Thread nD τ).loc main_arg0)
abbrev ah : FVec Ideal S16x2048x1024 .f32 := m ((c : Thread nD τ).loc main_arg1)
abbrev ag : FVec Ideal S2x3x1024 .f32 := m ((c : Thread nD τ).loc main_arg2)
abbrev ab : FVec Ideal S2x3x1024 .f32 := m ((c : Thread nD τ).loc main_arg3)
abbrev ai : FVec Ideal S2x1024x5632 .f32 := m ((c : Thread nD τ).loc main_arg4)
abbrev au : FVec Ideal S2x2816x1024 .f32 := m ((c : Thread nD τ).loc main_arg5)
abbrev aw : FVec Ideal S1x1024x1024 .f32 := m ((c : Thread nD τ).loc main_arg6)

theorem V_s (b : Fin 16) (k : Fin 512) (t : Fin 2048) :
    (V m c main_v22 : FVec Ideal S16x512x2048 .bf16) (ix3 b k t) = ao m c (ix3 b t (⟨k.val, by omega⟩ : Fin 1024)) := by
  have e : @_root_.Eq (FVec Ideal S16x512x2048 .bf16) (V m c main_v22) (truncf (F := Ideal) .bf16 (transpose S16x512x2048 [0, 2, 1] (extractStridedSlice S16x2048x512 ![0, 0, 0] (ao m c) slices_S16x2048x1024_S16x2048x512_0_0_0) transposes_S16x2048x512_S16x512x2048_0_2_1) bitsLt_bf16_f32) := by
    show StableHlo.after hostOps0 _ (Proc.devRef .tc main_v22) = _
    after_results
  refine (congrFun e _).trans ?_
  pointwise

theorem V_o (b : Fin 16) (t : Fin 2048) (k : Fin 512) :
    (V m c main_v24 : FVec Ideal S16x2048x512 .bf16) (ix3 b t k) = ao m c (ix3 b t (⟨512 + k.val, by omega⟩ : Fin 1024)) := by
  have e : @_root_.Eq (FVec Ideal S16x2048x512 .bf16) (V m c main_v24) (truncf (F := Ideal) .bf16 (extractStridedSlice S16x2048x512 ![0, 0, 512] (ao m c) slices_S16x2048x1024_S16x2048x512_0_0_512) bitsLt_bf16_f32) := by
    show StableHlo.after hostOps0 _ (Proc.devRef .tc main_v24) = _
    after_results
  refine (congrFun e _).trans ?_
  pointwise

theorem V_w (k f : Fin 1024) : (V m c main_v26 : FVec Ideal S1024x1024 .bf16) (ix2 k f) = aw m c (ix3 (0 : Fin 1) k f) := by
  have e : @_root_.Eq (FVec Ideal S1024x1024 .bf16) (V m c main_v26) (truncf (F := Ideal) .bf16 (shapeCast S1024x1024 (aw m c) shapeCasts_S1x1024x1024_S1024x1024) bitsLt_bf16_f32) := by
    show StableHlo.after hostOps0 _ (Proc.devRef .tc main_v26) = _
    after_results
    rfl
  refine (congrFun e _).trans ?_
  pointwise

theorem V_g1 (f : Fin 1024) : (V m c main_v8 : FVec Ideal S1x1024 .f32) (ix2 (0 : Fin 1) f) = ag m c (ix3 (0 : Fin 2) (1 : Fin 3) f) := by
  have e : @_root_.Eq (FVec Ideal S1x1024 .f32) (V m c main_v8) (shapeCast S1x1024 (shapeCast S1024 (extractStridedSlice S1x1x1024 ![0, 1, 0] (ag m c) slices_S2x3x1024_S1x1x1024_0_1_0) shapeCasts_S1x1x1024_S1024) shapeCasts_S1024_S1x1024) := by
    show StableHlo.after hostOps0 _ (Proc.devRef .tc main_v8) = _
    after_results
    rfl
  refine (congrFun e _).trans ?_
  pointwise

theorem V_b1 (f : Fin 1024) : (V m c main_v11 : FVec Ideal S1x1024 .f32) (ix2 (0 : Fin 1) f) = ab m c (ix3 (0 : Fin 2) (1 : Fin 3) f) := by
  have e : @_root_.Eq (FVec Ideal S1x1024 .f32) (V m c main_v11) (shapeCast S1x1024 (shapeCast S1024 (extractStridedSlice S1x1x1024 ![0, 1, 0] (ab m c) slices_S2x3x1024_S1x1x1024_0_1_0) shapeCasts_S1x1x1024_S1024) shapeCasts_S1024_S1x1024) := by
    show StableHlo.after hostOps0 _ (Proc.devRef .tc main_v11) = _
    after_results
    rfl
  refine (congrFun e _).trans ?_
  pointwise

theorem V_g2 (f : Fin 1024) : (V m c main_v14 : FVec Ideal S1x1024 .f32) (ix2 (0 : Fin 1) f) = ag m c (ix3 (0 : Fin 2) (2 : Fin 3) f) := by
  have e : @_root_.Eq (FVec Ideal S1x1024 .f32) (V m c main_v14) (shapeCast S1x1024 (shapeCast S1024 (extractStridedSlice S1x1x1024 ![0, 2, 0] (ag m c) slices_S2x3x1024_S1x1x1024_0_2_0) shapeCasts_S1x1x1024_S1024) shapeCasts_S1024_S1x1024) := by
    show StableHlo.after hostOps0 _ (Proc.devRef .tc main_v14) = _
    after_results
    rfl
  refine (congrFun e _).trans ?_
  pointwise

theorem V_b2 (f : Fin 1024) : (V m c main_v17 : FVec Ideal S1x1024 .f32) (ix2 (0 : Fin 1) f) = ab m c (ix3 (0 : Fin 2) (2 : Fin 3) f) := by
  have e : @_root_.Eq (FVec Ideal S1x1024 .f32) (V m c main_v17) (shapeCast S1x1024 (shapeCast S1024 (extractStridedSlice S1x1x1024 ![0, 2, 0] (ab m c) slices_S2x3x1024_S1x1x1024_0_2_0) shapeCasts_S1x1x1024_S1024) shapeCasts_S1024_S1x1024) := by
    show StableHlo.after hostOps0 _ (Proc.devRef .tc main_v17) = _
    after_results
    rfl
  refine (congrFun e _).trans ?_
  pointwise

theorem V_i (i : S2x1024x5632.Idx) : (V m c main_v18 : FVec Ideal S2x1024x5632 .bf16) i = ai m c i := by
  have e : @_root_.Eq (FVec Ideal S2x1024x5632 .bf16) (V m c main_v18) (truncf (F := Ideal) .bf16 (ai m c) bitsLt_bf16_f32) := by
    show StableHlo.after hostOps0 _ (Proc.devRef .tc main_v18) = _
    after_results
  exact congrFun e _

theorem V_u (i : S2x2816x1024.Idx) : (V m c main_v19 : FVec Ideal S2x2816x1024 .bf16) i = au m c i := by
  have e : @_root_.Eq (FVec Ideal S2x2816x1024 .bf16) (V m c main_v19) (truncf (F := Ideal) .bf16 (au m c) bitsLt_bf16_f32) := by
    show StableHlo.after hostOps0 _ (Proc.devRef .tc main_v19) = _
    after_results
  exact congrFun e _

/-! The blocks at a point of the grid: its batch and its 512 tokens of the stream and the attention's output, and the whole weights. -/

abbrev bat (t : Fin cfg0.N) : Fin 16 := grid0.coords t 0
abbrev row (t : Fin cfg0.N) (r : Fin 512) : Fin 2048 := ⟨512 * (grid0.coords t 1).val + r.val, by have : (grid0.coords t 1).val < 4 := (grid0.coords t 1).isLt; omega⟩

theorem ind0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])
theorem ind1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem ind2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem ind3 : ∀ t : Fin cfg0.N, win0_3.index t = ![0, 0] := fun _ => rfl
theorem ind4 : ∀ t : Fin cfg0.N, win0_4.index t = ![1, 0] := fun _ => rfl
theorem ind5 : ∀ t : Fin cfg0.N, win0_5.index t = ![0, 0] := fun _ => rfl
theorem ind6 : ∀ t : Fin cfg0.N, win0_6.index t = ![0, 0] := fun _ => rfl
theorem ind7 : ∀ t : Fin cfg0.N, win0_7.index t = ![0, 0, 0] := fun _ => rfl
theorem ind8 : ∀ t : Fin cfg0.N, win0_8.index t = ![0, 0, 1] := fun _ => rfl
theorem ind9 : ∀ t : Fin cfg0.N, win0_9.index t = ![0, 0, 0] := fun _ => rfl
theorem ind10 : ∀ t : Fin cfg0.N, win0_10.index t = ![0, 0] := fun _ => rfl
theorem ind11 : ∀ t : Fin cfg0.N, win0_11.index t = ![0, 0] := fun _ => rfl
theorem ind12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])

theorem iblk0 (t : Fin cfg0.N) (k r : Fin 512) :
    (iblk m c 0 t : FVec Ideal S1x512x512 .bf16) (ix3 (0 : Fin 1) k r) = ao m c (ix3 (bat t) (row t r) (⟨k.val, by omega⟩ : Fin 1024)) := by
  refine _root_.Eq.trans ?_ (V_s m c (bat t) k (row t r))
  unfold iblk
  rw [View.read_apply]
  show V m c main_v22 _ = V m c main_v22 _
  refine congrArg _ (funext fun a => Fin.ext ?_)
  match a with
  | ⟨0, _⟩ => show win0_0.index t 0 * 1 + 1 * 0 = (bat t).val; rw [ind0]; show (bat t).val * 1 + 1 * 0 = _; omega
  | ⟨1, _⟩ => show win0_0.index t 1 * 512 + 1 * k.val = k.val; rw [ind0]; show 0 * 512 + 1 * k.val = _; omega
  | ⟨2, _⟩ => show win0_0.index t 2 * 512 + 1 * r.val = (row t r).val; rw [ind0]; show (grid0.coords t 1).val * 512 + 1 * r.val = 512 * (grid0.coords t 1).val + r.val; omega

theorem iblk1 (t : Fin cfg0.N) (r k : Fin 512) :
    (iblk m c 1 t : FVec Ideal S1x512x512 .bf16) (ix3 (0 : Fin 1) r k) = ao m c (ix3 (bat t) (row t r) (⟨512 + k.val, by omega⟩ : Fin 1024)) := by
  refine _root_.Eq.trans ?_ (V_o m c (bat t) (row t r) k)
  unfold iblk
  rw [View.read_apply]
  show V m c main_v24 _ = V m c main_v24 _
  refine congrArg _ (funext fun a => Fin.ext ?_)
  match a with
  | ⟨0, _⟩ => show win0_1.index t 0 * 1 + 1 * 0 = (bat t).val; rw [ind1]; show (bat t).val * 1 + 1 * 0 = _; omega
  | ⟨1, _⟩ => show win0_1.index t 1 * 512 + 1 * r.val = (row t r).val; rw [ind1]; show (grid0.coords t 1).val * 512 + 1 * r.val = 512 * (grid0.coords t 1).val + r.val; omega
  | ⟨2, _⟩ => show win0_1.index t 2 * 512 + 1 * k.val = k.val; rw [ind1]; show 0 * 512 + 1 * k.val = _; omega

theorem iblk2 (t : Fin cfg0.N) (r : Fin 512) (k : Fin 1024) :
    (iblk m c 2 t : FVec Ideal S1x512x1024 .f32) (ix3 (0 : Fin 1) r k) = ah m c (ix3 (bat t) (row t r) k) := by
  have e : @_root_.Eq (FVec Ideal S16x2048x1024 .f32) (V m c main_arg1) (ah m c) := V_main_arg1 m c
  refine _root_.Eq.trans ?_ (congrFun e (ix3 (bat t) (row t r) k))
  unfold iblk
  rw [View.read_apply]
  show V m c main_arg1 _ = V m c main_arg1 _
  refine congrArg _ (funext fun a => Fin.ext ?_)
  match a with
  | ⟨0, _⟩ => show win0_2.index t 0 * 1 + 1 * 0 = (bat t).val; rw [ind2]; show (bat t).val * 1 + 1 * 0 = _; omega
  | ⟨1, _⟩ => show win0_2.index t 1 * 512 + 1 * r.val = (row t r).val; rw [ind2]; show (grid0.coords t 1).val * 512 + 1 * r.val = 512 * (grid0.coords t 1).val + r.val; omega
  | ⟨2, _⟩ => show win0_2.index t 2 * 1024 + 1 * k.val = k.val; rw [ind2]; show 0 * 1024 + 1 * k.val = _; omega

theorem iblk3 (t : Fin cfg0.N) (k : Fin 512) (f : Fin 1024) :
    (iblk m c 3 t : FVec Ideal S512x1024 .bf16) (ix2 k f) = aw m c (ix3 (0 : Fin 1) (⟨k.val, by omega⟩ : Fin 1024) f) := by
  refine _root_.Eq.trans ?_ (V_w m c ⟨k.val, by omega⟩ f)
  unfold iblk
  rw [View.read_apply]
  show V m c main_v26 _ = V m c main_v26 _
  refine congrArg _ (funext fun a => Fin.ext ?_)
  match a with
  | ⟨0, _⟩ => show win0_3.index t 0 * 512 + 1 * k.val = k.val; rw [ind3]; show 0 * 512 + 1 * k.val = _; omega
  | ⟨1, _⟩ => show win0_3.index t 1 * 1024 + 1 * f.val = f.val; rw [ind3]; show 0 * 1024 + 1 * f.val = _; omega

theorem iblk4 (t : Fin cfg0.N) (k : Fin 512) (f : Fin 1024) :
    (iblk m c 4 t : FVec Ideal S512x1024 .bf16) (ix2 k f) = aw m c (ix3 (0 : Fin 1) (⟨512 + k.val, by omega⟩ : Fin 1024) f) := by
  refine _root_.Eq.trans ?_ (V_w m c ⟨512 + k.val, by omega⟩ f)
  unfold iblk
  rw [View.read_apply]
  show V m c main_v26 _ = V m c main_v26 _
  refine congrArg _ (funext fun a => Fin.ext ?_)
  match a with
  | ⟨0, _⟩ => show win0_4.index t 0 * 512 + 1 * k.val = 512 + k.val; rw [ind4]; show 1 * 512 + 1 * k.val = _; omega
  | ⟨1, _⟩ => show win0_4.index t 1 * 1024 + 1 * f.val = f.val; rw [ind4]; show 0 * 1024 + 1 * f.val = _; omega

theorem iblk5 (t : Fin cfg0.N) (f : Fin 1024) :
    (iblk m c 5 t : FVec Ideal S1x1024 .f32) (ix2 (0 : Fin 1) f) = ag m c (ix3 (0 : Fin 2) (1 : Fin 3) f) := by
  refine _root_.Eq.trans ?_ (V_g1 m c f)
  unfold iblk
  rw [View.read_apply]
  show V m c main_v8 _ = V m c main_v8 _
  refine congrArg _ (funext fun a => Fin.ext ?_)
  match a with
  | ⟨0, _⟩ => show win0_5.index t 0 * 1 + 1 * 0 = 0; rw [ind5]; rfl
  | ⟨1, _⟩ => show win0_5.index t 1 * 1024 + 1 * f.val = f.val; rw [ind5]; show 0 * 1024 + 1 * f.val = _; omega

theorem iblk6 (t : Fin cfg0.N) (f : Fin 1024) :
    (iblk m c 6 t : FVec Ideal S1x1024 .f32) (ix2 (0 : Fin 1) f) = ab m c (ix3 (0 : Fin 2) (1 : Fin 3) f) := by
  refine _root_.Eq.trans ?_ (V_b1 m c f)
  unfold iblk
  rw [View.read_apply]
  show V m c main_v11 _ = V m c main_v11 _
  refine congrArg _ (funext fun a => Fin.ext ?_)
  match a with
  | ⟨0, _⟩ => show win0_6.index t 0 * 1 + 1 * 0 = 0; rw [ind6]; rfl
  | ⟨1, _⟩ => show win0_6.index t 1 * 1024 + 1 * f.val = f.val; rw [ind6]; show 0 * 1024 + 1 * f.val = _; omega

theorem iblk7 (t : Fin cfg0.N) (k : Fin 1024) (j : Fin 2816) :
    (iblk m c 7 t : FVec Ideal S1x1024x2816 .bf16) (ix3 (0 : Fin 1) k j) = ai m c (ix3 (0 : Fin 2) k (⟨j.val, by omega⟩ : Fin 5632)) := by
  refine _root_.Eq.trans ?_ (V_i m c (ix3 (0 : Fin 2) k (⟨j.val, by omega⟩ : Fin 5632)))
  unfold iblk
  rw [View.read_apply]
  show V m c main_v18 _ = V m c main_v18 _
  refine congrArg _ (funext fun a => Fin.ext ?_)
  match a with
  | ⟨0, _⟩ => show win0_7.index t 0 * 1 + 1 * 0 = 0; rw [ind7]; rfl
  | ⟨1, _⟩ => show win0_7.index t 1 * 1024 + 1 * k.val = k.val; rw [ind7]; show 0 * 1024 + 1 * k.val = _; omega
  | ⟨2, _⟩ => show win0_7.index t 2 * 2816 + 1 * j.val = j.val; rw [ind7]; show 0 * 2816 + 1 * j.val = _; omega

theorem iblk8 (t : Fin cfg0.N) (k : Fin 1024) (j : Fin 2816) :
    (iblk m c 8 t : FVec Ideal S1x1024x2816 .bf16) (ix3 (0 : Fin 1) k j) = ai m c (ix3 (0 : Fin 2) k (⟨2816 + j.val, by omega⟩ : Fin 5632)) := by
  refine _root_.Eq.trans ?_ (V_i m c (ix3 (0 : Fin 2) k (⟨2816 + j.val, by omega⟩ : Fin 5632)))
  unfold iblk
  rw [View.read_apply]
  show V m c main_v18 _ = V m c main_v18 _
  refine congrArg _ (funext fun a => Fin.ext ?_)
  match a with
  | ⟨0, _⟩ => show win0_8.index t 0 * 1 + 1 * 0 = 0; rw [ind8]; rfl
  | ⟨1, _⟩ => show win0_8.index t 1 * 1024 + 1 * k.val = k.val; rw [ind8]; show 0 * 1024 + 1 * k.val = _; omega
  | ⟨2, _⟩ => show win0_8.index t 2 * 2816 + 1 * j.val = 2816 + j.val; rw [ind8]; show 1 * 2816 + 1 * j.val = _; omega

theorem iblk9 (t : Fin cfg0.N) (j : Fin 2816) (f : Fin 1024) :
    (iblk m c 9 t : FVec Ideal S1x2816x1024 .bf16) (ix3 (0 : Fin 1) j f) = au m c (ix3 (0 : Fin 2) j f) := by
  refine _root_.Eq.trans ?_ (V_u m c (ix3 (0 : Fin 2) j f))
  unfold iblk
  rw [View.read_apply]
  show V m c main_v19 _ = V m c main_v19 _
  refine congrArg _ (funext fun a => Fin.ext ?_)
  match a with
  | ⟨0, _⟩ => show win0_9.index t 0 * 1 + 1 * 0 = 0; rw [ind9]; rfl
  | ⟨1, _⟩ => show win0_9.index t 1 * 2816 + 1 * j.val = j.val; rw [ind9]; show 0 * 2816 + 1 * j.val = _; omega
  | ⟨2, _⟩ => show win0_9.index t 2 * 1024 + 1 * f.val = f.val; rw [ind9]; show 0 * 1024 + 1 * f.val = _; omega

theorem iblk10 (t : Fin cfg0.N) (f : Fin 1024) :
    (iblk m c 10 t : FVec Ideal S1x1024 .f32) (ix2 (0 : Fin 1) f) = ag m c (ix3 (0 : Fin 2) (2 : Fin 3) f) := by
  refine _root_.Eq.trans ?_ (V_g2 m c f)
  unfold iblk
  rw [View.read_apply]
  show V m c main_v14 _ = V m c main_v14 _
  refine congrArg _ (funext fun a => Fin.ext ?_)
  match a with
  | ⟨0, _⟩ => show win0_10.index t 0 * 1 + 1 * 0 = 0; rw [ind10]; rfl
  | ⟨1, _⟩ => show win0_10.index t 1 * 1024 + 1 * f.val = f.val; rw [ind10]; show 0 * 1024 + 1 * f.val = _; omega

theorem iblk11 (t : Fin cfg0.N) (f : Fin 1024) :
    (iblk m c 11 t : FVec Ideal S1x1024 .f32) (ix2 (0 : Fin 1) f) = ab m c (ix3 (0 : Fin 2) (2 : Fin 3) f) := by
  refine _root_.Eq.trans ?_ (V_b2 m c f)
  unfold iblk
  rw [View.read_apply]
  show V m c main_v17 _ = V m c main_v17 _
  refine congrArg _ (funext fun a => Fin.ext ?_)
  match a with
  | ⟨0, _⟩ => show win0_11.index t 0 * 1 + 1 * 0 = 0; rw [ind11]; rfl
  | ⟨1, _⟩ => show win0_11.index t 1 * 1024 + 1 * f.val = f.val; rw [ind11]; show 0 * 1024 + 1 * f.val = _; omega

/-- A token of the result from the arguments. -/
def res (o h : FVec Ideal S16x2048x1024 .f32) (g b : FVec Ideal S2x3x1024 .f32) (wi : FVec Ideal S2x1024x5632 .f32) (wo : FVec Ideal S2x2816x1024 .f32)
    (w : FVec Ideal S1x1024x1024 .f32) (n : Fin 16) (t : Fin 2048) : Fin 1024 → EReal :=
  Ffn.block (Ffn.norm (fun i => Ideal.ofBits .f32 0x3FB504F3#32 * h (ix3 n t i) + (∑ k : Fin 1024, o (ix3 n t k) * w (ix3 (0 : Fin 1) k i) : EReal))
    (fun i => g (ix3 (0 : Fin 2) (1 : Fin 3) i)) (fun i => b (ix3 (0 : Fin 2) (1 : Fin 3) i)))
    (fun k j => wi (ix3 (0 : Fin 2) k (⟨j.val, by omega⟩ : Fin 5632))) (fun k j => wi (ix3 (0 : Fin 2) k (⟨2816 + j.val, by omega⟩ : Fin 5632)))
    (fun j i => wo (ix3 (0 : Fin 2) j i)) (fun i => g (ix3 (0 : Fin 2) (2 : Fin 3) i)) (fun i => b (ix3 (0 : Fin 2) (2 : Fin 3) i))

/-- A sum over both mixers' features is one over each mixer's. -/
theorem halves (v : Fin 1024 → EReal) : ∑ k : Fin 1024, v k = (∑ k : Fin 512, v ⟨k.val, by omega⟩) + ∑ k : Fin 512, v ⟨512 + k.val, by omega⟩ :=
  Fin.sum_univ_add (a := 512) (b := 512) v

theorem flush12 (t : Fin cfg0.N) : (cfg0.win 12).flush t = true :=
  (by decide +kernel : ∀ t : Fin grid0.N, win0_12.flush t = true) t

theorem arr_at (t : Fin cfg0.N) (r : Fin 512) (f : Fin 1024) :
    ((dats m 0 c).arrAt 12 cfg0.N : FVec Ideal S16x2048x1024 .f32) (ix3 (bat t) (row t r) f) =
      res (ao m c) (ah m c) (ag m c) (ab m c) (ai m c) (au m c) (aw m c) (bat t) (row t r) f := by
  have e := congrFun (Value.blocks12 m c t (flush12 t)) (ix3 (0 : Fin 1) r f)
  rw [View.read_apply, Value.flushed12] at e
  refine (_root_.Eq.trans ?_ e).trans ?_
  · refine congrArg ((dats m 0 c).arrAt 12 cfg0.N : FVec Ideal S16x2048x1024 .f32) (funext fun a => Fin.ext ?_)
    match a with
    | ⟨0, _⟩ => show (bat t).val = win0_12.index t 0 * 1 + 1 * 0; rw [ind12]; show (bat t).val = (bat t).val * 1 + 1 * 0; omega
    | ⟨1, _⟩ => show (row t r).val = win0_12.index t 1 * 512 + 1 * r.val; rw [ind12]; show 512 * (grid0.coords t 1).val + r.val = (grid0.coords t 1).val * 512 + 1 * r.val; omega
    | ⟨2, _⟩ => show f.val = win0_12.index t 2 * 1024 + 1 * f.val; rw [ind12]; show f.val = 0 * 1024 + 1 * f.val; omega
  · refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r f).trans ?_
    unfold tok res
    simp only [iblk0, iblk1, iblk2, iblk3, iblk4, iblk5, iblk6, iblk7, iblk8, iblk9, iblk10, iblk11, halves]

theorem point (n : Fin 16) (q : Fin 4) : ∃ t : Fin cfg0.N, bat t = n ∧ (grid0.coords t 1).val = q.val := by
  have h : ∀ t : Fin grid0.N, (grid0.coords t 0).val = t.val / 4 ∧ (grid0.coords t 1).val = t.val % 4 := by decide +kernel
  have hn : 4 * n.val + q.val < grid0.N := by
    have e : grid0.N = 64 := by decide
    omega
  refine ⟨⟨4 * n.val + q.val, hn⟩, Fin.ext ?_, ?_⟩
  · refine (h ⟨4 * n.val + q.val, hn⟩).1.trans ?_
    show (4 * n.val + q.val) / 4 = n.val; omega
  · refine (h ⟨4 * n.val + q.val, hn⟩).2.trans ?_
    show (4 * n.val + q.val) % 4 = q.val; omega

/-- The array that the call leaves. -/
theorem arr_apply (n : Fin 16) (t : Fin 2048) (f : Fin 1024) :
    ((dats m 0 c).arrAt 12 cfg0.N : FVec Ideal S16x2048x1024 .f32) (ix3 n t f) =
      res (ao m c) (ah m c) (ag m c) (ab m c) (ai m c) (au m c) (aw m c) n t f := by
  obtain ⟨p, hb, hq⟩ := point n ⟨t.val / 512, by omega⟩
  have e : row p ⟨t.val % 512, by omega⟩ = t := Fin.ext (by show 512 * (grid0.coords p 1).val + t.val % 512 = t.val; rw [hq]; show 512 * (t.val / 512) + t.val % 512 = t.val; omega)
  have := arr_at m c p ⟨t.val % 512, by omega⟩ f
  rw [hb, e] at this
  exact this

end Cert.MixE

end
-- ==== Proof.MixERef.lean ====
module

public import proofs.«01_k».proof.Proof.Gen.Reference3Ideal.Run
public import proofs.«01_k».proof.Proof.MixRef

/-! The third reference read at a token and a feature. It is the second's with the even layer's weights. -/

@[expose] public section

set_option maxRecDepth 16384

noncomputable section

namespace Cert.MixE.Ref

open Cert.Reference3Ideal Cert.Reference3Ideal.Gen Cert.Reference3Ideal.Value Idealize.ShloMosaic Idealize.ShloMosaic.TcCoe
open Cert.Mix.Ref (X norm norm_apply sum sum_apply plus plus_apply)

/-- The even layer's weights and rows of the norms. -/
def wIn (wi : FVec Ideal S2x1024x5632 .f32) : FVec Ideal S1024x5632 .f32 :=
  shapeCast _ (extractStridedSlice S1x1024x5632 ![0, 0, 0] wi slices_S2x1024x5632_S1x1024x5632_0_0_0) shapeCasts_S1x1024x5632_S1024x5632
def wOut (wo : FVec Ideal S2x2816x1024 .f32) : FVec Ideal S2816x1024 .f32 :=
  shapeCast _ (extractStridedSlice S1x2816x1024 ![0, 0, 0] wo slices_S2x2816x1024_S1x2816x1024_0_0_0) shapeCasts_S1x2816x1024_S2816x1024
def row1 (g : FVec Ideal S2x3x1024 .f32) : FVec Ideal S1024 .f32 :=
  shapeCast _ (extractStridedSlice S1x1x1024 ![0, 1, 0] g slices_S2x3x1024_S1x1x1024_0_1_0) shapeCasts_S1x1x1024_S1024
def row2 (g : FVec Ideal S2x3x1024 .f32) : FVec Ideal S1024 .f32 :=
  shapeCast _ (extractStridedSlice S1x1x1024 ![0, 2, 0] g slices_S2x3x1024_S1x1x1024_0_2_0) shapeCasts_S1x1x1024_S1024

theorem wIn_apply (wi : FVec Ideal S2x1024x5632 .f32) (k : Fin 1024) (j : Fin 5632) : wIn wi (ix2 k j) = wi (ix3 (0 : Fin 2) k j) := by
  pointwise [wIn]

theorem wOut_apply (wo : FVec Ideal S2x2816x1024 .f32) (j : Fin 2816) (f : Fin 1024) : wOut wo (ix2 j f) = wo (ix3 (0 : Fin 2) j f) := by
  pointwise [wOut]

theorem row1_apply (g : FVec Ideal S2x3x1024 .f32) (f : Fin 1024) : row1 g (ix1 f) = g (ix3 (0 : Fin 2) (1 : Fin 3) f) := by
  pointwise [row1]

theorem row2_apply (g : FVec Ideal S2x3x1024 .f32) (f : Fin 1024) : row2 g (ix1 f) = g (ix3 (0 : Fin 2) (2 : Fin 3) f) := by
  pointwise [row2]

/-- The reference's result from its arguments. -/
def out (o h : X) (g b : FVec Ideal S2x3x1024 .f32) (wi : FVec Ideal S2x1024x5632 .f32) (wo : FVec Ideal S2x2816x1024 .f32) (w : FVec Ideal S1x1024x1024 .f32) : X :=
  norm (plus (norm (sum o h w) (row1 g) (row1 b)) (wIn wi) (wOut wo)) (row2 g) (row2 b)

theorem out_apply (o h : X) (g b : FVec Ideal S2x3x1024 .f32) (wi : FVec Ideal S2x1024x5632 .f32) (wo : FVec Ideal S2x2816x1024 .f32) (w : FVec Ideal S1x1024x1024 .f32)
    (n : Fin 16) (t : Fin 2048) (f : Fin 1024) :
    out o h g b wi wo w (ix3 n t f) = Ffn.block (Ffn.norm (fun i => Ideal.ofBits .f32 0x3FB504F3#32 * h (ix3 n t i) + (∑ k : Fin 1024, o (ix3 n t k) * w (ix3 (0 : Fin 1) k i) : EReal))
      (fun i => g (ix3 (0 : Fin 2) (1 : Fin 3) i)) (fun i => b (ix3 (0 : Fin 2) (1 : Fin 3) i)))
      (fun k j => wi (ix3 (0 : Fin 2) k (⟨j.val, by omega⟩ : Fin 5632))) (fun k j => wi (ix3 (0 : Fin 2) k (⟨2816 + j.val, by omega⟩ : Fin 5632)))
      (fun j i => wo (ix3 (0 : Fin 2) j i)) (fun i => g (ix3 (0 : Fin 2) (2 : Fin 3) i)) (fun i => b (ix3 (0 : Fin 2) (2 : Fin 3) i)) f := by
  unfold out
  rw [norm_apply]
  simp only [plus_apply, norm_apply, sum_apply, row1_apply, row2_apply, wIn_apply, wOut_apply]
  rfl

end Cert.MixE.Ref

end
-- ==== Proof.MixEEqual.lean ====
module

public import proofs.«01_k».proof.Proof.MixEHost
public import proofs.«01_k».proof.Proof.MixERef

/-! The array of the even layer's last call is the third reference's result. -/

@[expose] public section

noncomputable section

namespace Cert.MixE

open Idealize.ShloMosaic Idealize.ShloMosaic.TcCoe Cert.Kernel3Ideal Cert.Kernel3Ideal.Gen

theorem equal (m : (ℓ : Loc nD τ sig) → Buf (Elt Ideal) ℓ) (c : Dev nD) :
    @_root_.Eq (FVec Ideal S16x2048x1024 .f32) (Ref.out (ao m c) (ah m c) (ag m c) (ab m c) (ai m c) (au m c) (aw m c)) ((dats m 0 c).arrAt 12 cfg0.N) := by
  funext i
  obtain ⟨n, t, f, rfl⟩ : ∃ (n : Fin 16) (t : Fin 2048) (f : Fin 1024), i = ix3 n t f := ⟨i 0, i 1, i 2, eq_ix3 i⟩
  exact (Ref.out_apply (ao m c) (ah m c) (ag m c) (ab m c) (ai m c) (au m c) (aw m c) n t f).trans (arr_apply m c n t f).symm

end Cert.MixE

end
-- ==== Proof.Stage.lean ====
module

public import proofs.«01_k».proof.Proof.MixBlock

/-! What each layer's first call leaves of its stream: the feed-forward part and its norm, stored in two halves of 256
tokens and read back whole. -/

@[expose] public section

set_option maxRecDepth 16384

noncomputable section

namespace Cert.Stage

open Cert.Kernel2Ideal Cert.Kernel2Ideal.Gen Idealize.ShloMosaic Idealize.ShloMosaic.TcCoe

theorem z2 : (![0, 0] : Fin 2 → ℕ) = fun _ => 0 := funext fun a => by match a with | ⟨0, _⟩ => rfl | ⟨1, _⟩ => rfl
theorem z3 : (![0, 0, 0] : Fin 3 → ℕ) = fun _ => 0 := funext fun a => by match a with | ⟨0, _⟩ => rfl | ⟨1, _⟩ => rfl | ⟨2, _⟩ => rfl

/-- The two halves' rectangles. -/
abbrev lo : Rect S1x512x1024 := r0_2
abbrev hi : Rect S1x512x1024 := r0_4

/-- What is stored of a half. -/
def half (x0 : Vec Ideal S1x256x1024 .f32) (x1 x2 : Vec Ideal S1x1024x2816 .bf16) (x3 : Vec Ideal S1x2816x1024 .bf16) (x4 x5 : Vec Ideal S1x1024 .f32) :
    Vec Ideal S1x256x1024 .f32 :=
  k0_pay1 (Mix.lnv (Mix.ffv (shapeCast S256x1024 x0 shapeCasts_S1x256x1024_S256x1024) x1 x2 x3) x4 x5)

theorem half_apply (x0 : Vec Ideal S1x256x1024 .f32) (x1 x2 : Vec Ideal S1x1024x2816 .bf16) (x3 : Vec Ideal S1x2816x1024 .bf16) (x4 x5 : Vec Ideal S1x1024 .f32)
    (r : Fin 256) (f : Fin 1024) :
    half x0 x1 x2 x3 x4 x5 (ix3 (0 : Fin 1) r f) = Ffn.block (fun i => x0 (ix3 0 r i)) (fun k j => x1 (ix3 0 k j)) (fun k j => x2 (ix3 0 k j))
      (fun j i => x3 (ix3 0 j i)) (fun i => x4 (ix2 0 i)) (fun i => x5 (ix2 0 i)) f := by
  have e : ∀ k : Fin 1024, (shapeCast S256x1024 x0 shapeCasts_S1x256x1024_S256x1024 : FVec Ideal S256x1024 .f32) (ix2 r k) = x0 (ix3 (0 : Fin 1) r k) := by
    intro k
    pointwise
  unfold half
  rw [Mix.pay1_apply, Mix.lnv_apply]
  simp only [Mix.ffv_apply, e]
  rfl

section
variable (x0 : Vec Ideal S1x512x1024 .f32) (x1 x2 : Vec Ideal S1x1024x2816 .bf16) (x3 : Vec Ideal S1x2816x1024 .bf16) (x4 x5 : Vec Ideal S1x1024 .f32)

/-- The whole block. -/
def stage : Vec Ideal S1x512x1024 .f32 :=
  View.canon ([⟨hi, half (View.ld x0 hi) x1 x2 x3 x4 x5⟩, ⟨lo, half (View.ld x0 lo) x1 x2 x3 x4 x5⟩] : List (View.Piece (Elt Ideal) S1x512x1024 .f32))

/-- A token of it. -/
def row (t : Fin 512) : Fin 1024 → EReal :=
  Ffn.block (fun i => x0 (ix3 0 t i)) (fun k j => x1 (ix3 0 k j)) (fun k j => x2 (ix3 0 k j)) (fun j i => x3 (ix3 0 j i)) (fun i => x4 (ix2 0 i)) (fun i => x5 (ix2 0 i))

theorem stage_lo (r : Fin 256) (f : Fin 1024) :
    stage x0 x1 x2 x3 x4 x5 (ix3 (0 : Fin 1) (⟨r.val, by omega⟩ : Fin 512) f) = row x0 x1 x2 x3 x4 x5 ⟨r.val, by omega⟩ f := by
  refine (Mix.canon_lo _ _ r f).trans ((half_apply _ _ _ _ _ _ r f).trans ?_)
  refine congrArg (fun y => Ffn.block y _ _ _ _ _ f) (funext fun i => Mix.ld2_apply x0 r i)

theorem stage_hi (r : Fin 256) (f : Fin 1024) :
    stage x0 x1 x2 x3 x4 x5 (ix3 (0 : Fin 1) (⟨256 + r.val, by omega⟩ : Fin 512) f) = row x0 x1 x2 x3 x4 x5 ⟨256 + r.val, by omega⟩ f := by
  refine (Mix.canon_hi _ _ r f).trans ((half_apply _ _ _ _ _ _ r f).trans ?_)
  refine congrArg (fun y => Ffn.block y _ _ _ _ _ f) (funext fun i => Mix.ld4_apply x0 r i)

theorem stage_apply (t : Fin 512) (f : Fin 1024) : stage x0 x1 x2 x3 x4 x5 (ix3 (0 : Fin 1) t f) = row x0 x1 x2 x3 x4 x5 t f := by
  by_cases ht : t.val < 256
  · exact stage_lo x0 x1 x2 x3 x4 x5 ⟨t.val, ht⟩ f
  · have e : (⟨256 + (t.val - 256), by omega⟩ : Fin 512) = t := Fin.ext (by show 256 + (t.val - 256) = t.val; omega)
    have := stage_hi x0 x1 x2 x3 x4 x5 ⟨t.val - 256, by omega⟩ f
    rw [← e]
    exact this

end

/-- The block read back whole is what its stores leave. -/
theorem back {sig : RefSig} {κ : Kind} {sp : Space} (v : View sig κ sp S1x512x1024 .f32) (L : List (View.Piece (Elt Ideal) S1x512x1024 .f32))
    (inb : ∀ a, (![0, 0, 0] : Fin 3 → ℕ) a + S1x512x1024.size a ≤ S1x512x1024.size a) :
    v.readCov L (Rect.unit (s := S1x512x1024) ![0, 0, 0] S1x512x1024.size inb).toLoadRect = View.canon L := by
  rw [View.readCov_eq_canon']
  exact View.ld_unit_zero (S := S1x512x1024) z3 inb (View.canon L)

end Cert.Stage

end
-- ==== Proof.ProjEBlock.lean ====
module

public import proofs.«01_k».proof.Proof.Gen.Kernel4Ideal.Frame
public import proofs.«01_k».proof.Proof.Stage

/-! The blocks that the even layer's first call leaves: the normed stream, and its projections by tokens and by features. -/

@[expose] public section

set_option maxRecDepth 16384

noncomputable section

namespace Cert.ProjE

open Cert.Kernel4Ideal Cert.Kernel4Ideal.Gen Idealize.ShloMosaic Idealize.ShloMosaic.TcCoe Idealize.ShloMosaic.Tactic
open Cert.Stage (stage row lo hi z2 z3)

/-- The projections of a block of tokens, by features. -/
theorem pay1_apply (h : Vec Ideal S1x512x1024 .f32) (w : Vec Ideal S1024x1024 .bf16) (q : Fin 1024) (t : Fin 512) :
    k0_pay1 (k0_pay12 h) w (ix2 q t) = (∑ k : Fin 1024, w (ix2 q k) * h (ix3 0 t k) : EReal) := by
  pointwise [k0_pay1, k0_pay12]

theorem pay2_apply (h : Vec Ideal S1x512x1024 .f32) (w : Vec Ideal S1024x1024 .bf16) (q t : Fin 512) :
    k0_pay2 (k0_pay12 h) w (ix3 (0 : Fin 1) q t) = ((∑ k : Fin 1024, w (ix2 (⟨q.val, by omega⟩ : Fin 1024) k) * h (ix3 0 t k)) * Ideal.ofBits .f32 0xBE38AA3B#32 : EReal) := by
  pointwise [k0_pay2]
  rw [pay1_apply]

theorem pay3_apply (h : Vec Ideal S1x512x1024 .f32) (w : Vec Ideal S1024x1024 .bf16) (v : Fin 512) (s : Fin 256) :
    k0_pay3 (k0_pay12 h) w (ix4 (0 : Fin 1) (0 : Fin 1) v s) = (∑ k : Fin 1024, w (ix2 (⟨512 + v.val, by omega⟩ : Fin 1024) k) * h (ix3 0 (⟨s.val, by omega⟩ : Fin 512) k) : EReal) := by
  pointwise [k0_pay3]
  rw [pay1_apply]

theorem pay4_apply (h : Vec Ideal S1x512x1024 .f32) (w : Vec Ideal S1024x1024 .bf16) (v : Fin 512) (s : Fin 256) :
    k0_pay4 (k0_pay12 h) w (ix4 (0 : Fin 1) (0 : Fin 1) v s) = (∑ k : Fin 1024, w (ix2 (⟨512 + v.val, by omega⟩ : Fin 1024) k) * h (ix3 0 (⟨256 + s.val, by omega⟩ : Fin 512) k) : EReal) := by
  pointwise [k0_pay4]
  rw [pay1_apply]

theorem pay13_apply (h : Vec Ideal S1x512x1024 .f32) (w : Vec Ideal S1024x1536 .bf16) (t : Fin 512) (f : Fin 1536) :
    k0_pay13 h w (ix3 (0 : Fin 1) t f) = (∑ k : Fin 1024, h (ix3 0 t k) * w (ix2 k f) : EReal) := by
  pointwise [k0_pay13, k0_pay12]

/-! The two halves' payloads are the stage's. -/

theorem lo_eq (x0 : Vec Ideal S1x256x1024 .f32) (x1 x2 : Vec Ideal S1x1024x2816 .bf16) (x3 : Vec Ideal S1x2816x1024 .bf16) (x4 x5 : Vec Ideal S1x1024 .f32) :
    k0_pay9 (k0_pay5 x4) (k0_pay6 x5) (k0_pay7 x0 x1 x2 x3) (k0_pay8 x0 x1 x2 x3) = Stage.half x0 x1 x2 x3 x4 x5 := rfl

theorem hi_eq (x0 : Vec Ideal S1x256x1024 .f32) (x1 x2 : Vec Ideal S1x1024x2816 .bf16) (x3 : Vec Ideal S1x2816x1024 .bf16) (x4 x5 : Vec Ideal S1x1024 .f32) :
    k0_pay11 (k0_pay10 x0 x1 x2 x3) x4 x5 = Stage.half x0 x1 x2 x3 x4 x5 := rfl

section
variable (c : Dev nD) (i : grid0.Coords) (a0 : Memref sig .tc .vmem S1x512x1024 .f32) (h0 : a0.IsWhole) (a1 : Memref sig .tc .vmem S1x1024x2816 .bf16) (h1 : a1.IsWhole) (a2 : Memref sig .tc .vmem S1x1024x2816 .bf16) (h2 : a2.IsWhole) (a3 : Memref sig .tc .vmem S1x2816x1024 .bf16) (h3 : a3.IsWhole) (a4 : Memref sig .tc .vmem S1x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x1024 .bf16) (h7 : a7.IsWhole) (a8 : Memref sig .tc .vmem S1x512x1024 .f32) (h8 : a8.IsWhole) (a9 : Memref sig .tc .vmem S1x512x1536 .bf16) (h9 : a9.IsWhole) (a10 : Memref sig .tc .vmem S1x512x512 .bf16) (h10 : a10.IsWhole) (a11 : Memref sig .tc .vmem S1x2x512x256 .bf16) (h11 : a11.IsWhole)
    (x0 : Vec Ideal S1x512x1024 .f32) (x1 x2 : Vec Ideal S1x1024x2816 .bf16) (x3 : Vec Ideal S1x2816x1024 .bf16) (x4 x5 : Vec Ideal S1x1024 .f32)
    (x6 : Vec Ideal S1024x1536 .bf16) (x7 : Vec Ideal S1024x1024 .bf16)

theorem out8 : out0_A_8 c i a0 h0 a1 h1 a2 h2 a3 h3 a4 h4 a5 h5 a6 h6 a7 h7 a8 h8 a9 h9 a10 h10 a11 h11 x0 x1 x2 x3 x4 x5 x6 x7 = stage x0 x1 x2 x3 x4 x5 := by
  unfold out0_A_8
  rw [View.read_writes_junk_eq_canon]
  unfold kernelRun0_A
  sl_unfold_words
  dsimp only
  simp only [View.readAt_eq_ld, h0.read_unread, h1.read_unread, h2.read_unread, h3.read_unread, h4.read_unread, h5.read_unread]
  rw [View.ld_unit_zero (S := S1x1024x2816) z3, View.ld_unit_zero (S := S1x1024x2816) z3, View.ld_unit_zero (S := S1x2816x1024) z3,
    View.ld_unit_zero (S := S1x1024) z2, View.ld_unit_zero (S := S1x1024) z2, hi_eq, lo_eq]
  rfl

theorem out9 : out0_A_9 c i a0 h0 a1 h1 a2 h2 a3 h3 a4 h4 a5 h5 a6 h6 a7 h7 a8 h8 a9 h9 a10 h10 a11 h11 x0 x1 x2 x3 x4 x5 x6 x7 = k0_pay13 (stage x0 x1 x2 x3 x4 x5) x6 := by
  rw [← out8 c i a0 h0 a1 h1 a2 h2 a3 h3 a4 h4 a5 h5 a6 h6 a7 h7 a8 h8 a9 h9 a10 h10 a11 h11 x0 x1 x2 x3 x4 x5 x6 x7]
  unfold out0_A_9 out0_A_8
  rw [View.read_writes_junk_eq_canon, View.read_writes_junk_eq_canon]
  unfold kernelRun0_A
  sl_unfold_words
  dsimp only
  rw [View.canon_unit_zero (S := S1x512x1536) z3, Stage.back, View.readAt_eq_ld a6.view (h6.unread x6), h6.read_unread, View.ld_unit_zero (S := S1024x1536) z2]

theorem out10 : out0_A_10 c i a0 h0 a1 h1 a2 h2 a3 h3 a4 h4 a5 h5 a6 h6 a7 h7 a8 h8 a9 h9 a10 h10 a11 h11 x0 x1 x2 x3 x4 x5 x6 x7 = k0_pay2 (k0_pay12 (stage x0 x1 x2 x3 x4 x5)) x7 := by
  rw [← out8 c i a0 h0 a1 h1 a2 h2 a3 h3 a4 h4 a5 h5 a6 h6 a7 h7 a8 h8 a9 h9 a10 h10 a11 h11 x0 x1 x2 x3 x4 x5 x6 x7]
  unfold out0_A_10 out0_A_8
  rw [View.read_writes_junk_eq_canon, View.read_writes_junk_eq_canon]
  unfold kernelRun0_A
  sl_unfold_words
  dsimp only
  rw [View.canon_unit_zero (S := S1x512x512) z3, Stage.back, View.readAt_eq_ld a7.view (h7.unread x7), h7.read_unread, View.ld_unit_zero (S := S1024x1024) z2]

/-- The values' two blocks of 256 tokens. -/
abbrev v0 : Rect S1x2x512x256 := Rect.unit (s := S1x2x512x256) ![0, 0, 0, 0] S1x1x512x256.size inb_S1x2x512x256_S1x1x512x256_0_0_0_0
abbrev v1 : Rect S1x2x512x256 := Rect.unit (s := S1x2x512x256) ![0, 1, 0, 0] S1x1x512x256.size inb_S1x2x512x256_S1x1x512x256_0_1_0_0

theorem out11 : out0_A_11 c i a0 h0 a1 h1 a2 h2 a3 h3 a4 h4 a5 h5 a6 h6 a7 h7 a8 h8 a9 h9 a10 h10 a11 h11 x0 x1 x2 x3 x4 x5 x6 x7 =
    View.canon ([⟨v1, k0_pay4 (k0_pay12 (stage x0 x1 x2 x3 x4 x5)) x7⟩, ⟨v0, k0_pay3 (k0_pay12 (stage x0 x1 x2 x3 x4 x5)) x7⟩] : List (View.Piece (Elt Ideal) S1x2x512x256 .bf16)) := by
  rw [← out8 c i a0 h0 a1 h1 a2 h2 a3 h3 a4 h4 a5 h5 a6 h6 a7 h7 a8 h8 a9 h9 a10 h10 a11 h11 x0 x1 x2 x3 x4 x5 x6 x7]
  unfold out0_A_11 out0_A_8
  rw [View.read_writes_junk_eq_canon, View.read_writes_junk_eq_canon]
  unfold kernelRun0_A
  sl_unfold_words
  dsimp only
  rw [Stage.back, View.readAt_eq_ld a7.view (h7.unread x7), h7.read_unread, View.ld_unit_zero (S := S1024x1024) z2]

/-! The blocks at a token and a feature. -/

theorem out8_apply (t : Fin 512) (f : Fin 1024) :
    out0_A_8 c i a0 h0 a1 h1 a2 h2 a3 h3 a4 h4 a5 h5 a6 h6 a7 h7 a8 h8 a9 h9 a10 h10 a11 h11 x0 x1 x2 x3 x4 x5 x6 x7 (ix3 (0 : Fin 1) t f) = row x0 x1 x2 x3 x4 x5 t f := by
  rw [out8]
  exact Stage.stage_apply x0 x1 x2 x3 x4 x5 t f

theorem out9_apply (t : Fin 512) (f : Fin 1536) :
    out0_A_9 c i a0 h0 a1 h1 a2 h2 a3 h3 a4 h4 a5 h5 a6 h6 a7 h7 a8 h8 a9 h9 a10 h10 a11 h11 x0 x1 x2 x3 x4 x5 x6 x7 (ix3 (0 : Fin 1) t f) = (∑ k : Fin 1024, row x0 x1 x2 x3 x4 x5 t k * x6 (ix2 k f) : EReal) := by
  rw [out9, pay13_apply]
  simp only [Stage.stage_apply]

theorem out10_apply (q t : Fin 512) :
    out0_A_10 c i a0 h0 a1 h1 a2 h2 a3 h3 a4 h4 a5 h5 a6 h6 a7 h7 a8 h8 a9 h9 a10 h10 a11 h11 x0 x1 x2 x3 x4 x5 x6 x7 (ix3 (0 : Fin 1) q t) = ((∑ k : Fin 1024, x7 (ix2 (⟨q.val, by omega⟩ : Fin 1024) k) * row x0 x1 x2 x3 x4 x5 t k) * Ideal.ofBits .f32 0xBE38AA3B#32 : EReal) := by
  rw [out10, pay2_apply]
  simp only [Stage.stage_apply]

theorem emb0 (v : Fin 512) (s : Fin 256) : v0.emb (ix4 (0 : Fin 1) (0 : Fin 1) v s) = ix4 (0 : Fin 1) (0 : Fin 2) v s := funext fun a => Fin.ext (by
  match a with
  | ⟨0, _⟩ => show 0 + 1 * 0 = 0; omega
  | ⟨1, _⟩ => show 0 + 1 * 0 = 0; omega
  | ⟨2, _⟩ => show 0 + 1 * v.val = v.val; omega
  | ⟨3, _⟩ => show 0 + 1 * s.val = s.val; omega)

theorem emb1 (v : Fin 512) (s : Fin 256) : v1.emb (ix4 (0 : Fin 1) (0 : Fin 1) v s) = ix4 (0 : Fin 1) (1 : Fin 2) v s := funext fun a => Fin.ext (by
  match a with
  | ⟨0, _⟩ => show 0 + 1 * 0 = 0; omega
  | ⟨1, _⟩ => show 1 + 1 * 0 = 1; omega
  | ⟨2, _⟩ => show 0 + 1 * v.val = v.val; omega
  | ⟨3, _⟩ => show 0 + 1 * s.val = s.val; omega)

theorem not_mem1 (v : Fin 512) (s : Fin 256) : ix4 (0 : Fin 1) (0 : Fin 2) v s ∉ v1.set := by
  intro h
  obtain ⟨j, _, e⟩ := v1.mem_set.mp h 1
  have e' : 0 = 1 + 1 * j := e
  omega

theorem out11_apply (j : Fin 2) (v : Fin 512) (s : Fin 256) :
    out0_A_11 c i a0 h0 a1 h1 a2 h2 a3 h3 a4 h4 a5 h5 a6 h6 a7 h7 a8 h8 a9 h9 a10 h10 a11 h11 x0 x1 x2 x3 x4 x5 x6 x7 (ix4 (0 : Fin 1) j v s) =
      (∑ k : Fin 1024, x7 (ix2 (⟨512 + v.val, by omega⟩ : Fin 1024) k) * row x0 x1 x2 x3 x4 x5 (⟨256 * j.val + s.val, by omega⟩ : Fin 512) k : EReal) := by
  rw [out11]
  match j with
  | ⟨0, _⟩ =>
    refine (View.canon_cons_of_not_mem ⟨v1, _⟩ _ (not_mem1 v s)).trans ((congrArg _ (emb0 v s).symm).trans ((View.canon_cons_emb v0 _ [] _).trans ?_))
    rw [pay3_apply]
    simp only [Stage.stage_apply]
    refine Finset.sum_congr rfl fun k _ => congrArg (fun t => _ * row x0 x1 x2 x3 x4 x5 t k) (Fin.ext ?_)
    show s.val = 256 * 0 + s.val; omega
  | ⟨1, _⟩ =>
    refine (congrArg _ (emb1 v s).symm).trans ((View.canon_cons_emb v1 _ _ _).trans ?_)
    rw [pay4_apply]
    simp only [Stage.stage_apply]

end

end Cert.ProjE

end
-- ==== Proof.ProjERef.lean ====
module

public import proofs.«01_k».proof.Proof.Gen.Reference4Ideal.Run
public import proofs.«01_k».proof.Proof.MixERef

/-! The fourth reference's four results read entry by entry. -/

@[expose] public section

set_option maxRecDepth 16384

noncomputable section

namespace Cert.ProjE

open Idealize.ShloMosaic Cert.Reference4Ideal

/-- The projection's column that a column of the rows holds: the keys, the window's queries, and each head of its keys and values twice. -/
def src (w : Fin 1536) : Fin 2304 :=
  ⟨if w.val < 512 then 512 + w.val else if w.val < 1024 then 1536 + (w.val - 512) else if w.val < 1280 then 2048 + ((w.val - 1024) / 128 * 64 + w.val % 64)
    else 2176 + ((w.val - 1280) / 128 * 64 + w.val % 64), by have := w.isLt; split_ifs <;> omega⟩

/-- The stream after the layer's first part, at a token. -/
def tok (x : FVec Ideal S16x2048x1024 .f32) (g b : FVec Ideal S2x3x1024 .f32) (wi : FVec Ideal S2x1024x5632 .f32)
    (wo : FVec Ideal S2x2816x1024 .f32) (n : Fin 16) (t : Fin 2048) : Fin 1024 → EReal :=
  Ffn.block (fun i => x (ix3 n t i)) (fun k j => wi (ix3 (0 : Fin 2) k (⟨j.val, by omega⟩ : Fin 5632))) (fun k j => wi (ix3 (0 : Fin 2) k (⟨2816 + j.val, by omega⟩ : Fin 5632)))
      (fun j i => wo (ix3 (0 : Fin 2) j i)) (fun i => g (ix3 (0 : Fin 2) (0 : Fin 3) i)) (fun i => b (ix3 (0 : Fin 2) (0 : Fin 3) i))

end Cert.ProjE

namespace Cert.ProjE.Ref

open Cert.Reference4Ideal Cert.Reference4Ideal.Gen Cert.Reference4Ideal.Value Idealize.ShloMosaic Idealize.ShloMosaic.TcCoe
open Cert.Mix.Ref (X norm norm_apply plus plus_apply)
open Cert.MixE.Ref (wIn wIn_apply wOut wOut_apply)

def row0 (g : FVec Ideal S2x3x1024 .f32) : FVec Ideal S1024 .f32 :=
  shapeCast _ (extractStridedSlice S1x1x1024 ![0, 0, 0] g slices_S2x3x1024_S1x1x1024_0_0_0) shapeCasts_S1x1x1024_S1024

theorem row0_apply (g : FVec Ideal S2x3x1024 .f32) (f : Fin 1024) : row0 g (ix1 f) = g (ix3 (0 : Fin 2) (0 : Fin 3) f) := by
  pointwise [row0]

/-- The stream. -/
def h (x : X) (g b : FVec Ideal S2x3x1024 .f32) (wi : FVec Ideal S2x1024x5632 .f32) (wo : FVec Ideal S2x2816x1024 .f32) : X :=
  norm (plus x (wIn wi) (wOut wo)) (row0 g) (row0 b)

theorem h_apply (x : X) (g b : FVec Ideal S2x3x1024 .f32) (wi : FVec Ideal S2x1024x5632 .f32) (wo : FVec Ideal S2x2816x1024 .f32) (n : Fin 16) (t : Fin 2048) (f : Fin 1024) :
    h x g b wi wo (ix3 n t f) = tok x g b wi wo n t f := by
  unfold h
  rw [norm_apply]
  simp only [plus_apply, row0_apply, wIn_apply, wOut_apply]
  rfl

/-- The projection. -/
def proj (h : X) (w : FVec Ideal S1x1024x2304 .f32) : FVec Ideal S16x2048x2304 .f32 :=
  Host.dotGeneral dot_S16x2048x1024_S1024x2304_S16x2048x2304_2_0_01_1_n_n none h (shapeCast _ w shapeCasts_S1x1024x2304_S1024x2304)

theorem proj_apply (h : X) (w : FVec Ideal S1x1024x2304 .f32) (n : Fin 16) (t : Fin 2048) (j : Fin 2304) :
    proj h w (ix3 n t j) = (∑ k : Fin 1024, h (ix3 n t k) * w (ix3 (0 : Fin 1) k j) : EReal) := by
  pointwise [proj]

/-- The queries of the stick-breaking attention, scaled, by features. -/
def qt (y : FVec Ideal S16x2048x2304 .f32) : FVec Ideal S16x512x2048 .bf16 :=
  truncf .bf16 (transpose S16x512x2048 [0, 2, 1] (mulf (extractStridedSlice S16x2048x512 ![0, 0, 0] y slices_S16x2048x2304_S16x2048x512_0_0_0) (broadcastInDim S16x2048x512 ![] bcast_S_S16x2048x512 (constant S_ .f32 0xBE38AA3B#32))) transposes_S16x2048x512_S16x512x2048_0_2_1) bitsLt_bf16_f32

theorem qt_apply (y : FVec Ideal S16x2048x2304 .f32) (n : Fin 16) (q : Fin 512) (t : Fin 2048) :
    qt y (ix3 n q t) = y (ix3 n t (⟨q.val, by omega⟩ : Fin 2304)) * Ideal.ofBits .f32 0xBE38AA3B#32 := by
  pointwise [qt]

/-- Its values, in 256 tokens, by features. -/
def vt (y : FVec Ideal S16x2048x2304 .f32) : FVec Ideal S16x8x512x256 .bf16 :=
  truncf .bf16 (transpose S16x8x512x256 [0, 1, 3, 2] (shapeCast S16x8x256x512 (extractStridedSlice S16x2048x512 ![0, 0, 1024] y slices_S16x2048x2304_S16x2048x512_0_0_1024) shapeCasts_S16x2048x512_S16x8x256x512) transposes_S16x8x256x512_S16x8x512x256_0_1_3_2) bitsLt_bf16_f32

theorem vt_apply (y : FVec Ideal S16x2048x2304 .f32) (n : Fin 16) (j : Fin 8) (v : Fin 512) (s : Fin 256) :
    vt y (ix4 n j v s) = y (ix3 n (⟨256 * j.val + s.val, by omega⟩ : Fin 2048) (⟨1024 + v.val, by omega⟩ : Fin 2304)) := by
  pointwise [vt]
  exact congrArg (fun z => y (ix3 n z (⟨1024 + v.val, by omega⟩ : Fin 2304))) (Fin.ext (by show j.val * 256 + s.val = 256 * j.val + s.val; omega))

/-- Both heads of a slice, each twice. -/
def twice (y : FVec Ideal S16x2048x128 .f32) : FVec Ideal S16x2048x256 .f32 :=
  shapeCast _ (shapeCast _ (broadcastInDim S16x2048x2x2x64 ![0, 1, 2, 4] bcast_S16x2048x2x64_S16x2048x2x2x64_0_1_2_4 (shapeCast _ y shapeCasts_S16x2048x128_S16x2048x2x64)) shapeCasts_S16x2048x2x2x64_S16x2048x4x64) shapeCasts_S16x2048x4x64_S16x2048x256

theorem twice_apply (y : FVec Ideal S16x2048x128 .f32) (n : Fin 16) (t : Fin 2048) (w : Fin 256) :
    twice y (ix3 n t w) = y (ix3 n t (⟨w.val / 128 * 64 + w.val % 64, by omega⟩ : Fin 128)) := by
  pointwise [twice]

/-- The rows. -/
def rows (y : FVec Ideal S16x2048x2304 .f32) : FVec Ideal S16x2048x1536 .bf16 :=
  truncf .bf16 (concatenate S16x2048x1536 2 [⟨S16x2048x512, ((extractStridedSlice S16x2048x512 ![0, 0, 512] y slices_S16x2048x2304_S16x2048x512_0_0_512) : FVec Ideal S16x2048x512 .f32)⟩, ⟨S16x2048x512, ((extractStridedSlice S16x2048x512 ![0, 0, 1536] y slices_S16x2048x2304_S16x2048x512_0_0_1536) : FVec Ideal S16x2048x512 .f32)⟩,
    ⟨S16x2048x256, (twice (extractStridedSlice S16x2048x128 ![0, 0, 2048] y slices_S16x2048x2304_S16x2048x128_0_0_2048) : FVec Ideal S16x2048x256 .f32)⟩,
    ⟨S16x2048x256, (twice (extractStridedSlice S16x2048x128 ![0, 0, 2176] y slices_S16x2048x2304_S16x2048x128_0_0_2176) : FVec Ideal S16x2048x256 .f32)⟩] concatenates_S16x2048x512_S16x2048x512_S16x2048x256_S16x2048x256_S16x2048x1536_d2 : FVec Ideal S16x2048x1536 .f32) bitsLt_bf16_f32

theorem rows_apply (y : FVec Ideal S16x2048x2304 .f32) (n : Fin 16) (t : Fin 2048) (w : Fin 1536) :
    rows y (ix3 n t w) = y (ix3 n t (src w)) := by
  pointwise [rows]
  simp only [twice_apply]
  pointwise
  split_ifs <;> refine congrArg (fun z => y (ix3 n t z)) (Fin.ext ?_) <;> simp only [src] <;> split_ifs <;> omega

/-! The reference's results from its arguments. -/

variable (m : (ℓ : Loc nD τ sig) → Buf (Elt Ideal) ℓ) (c : Dev nD)

abbrev args : X := h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem res0_eq : res_main_v42 m c = args m c := rfl
theorem res1_eq : res_main_v65 m c = rows (proj (args m c) (m ((c.tc : Thread nD τ).loc main_arg5))) := rfl
theorem res2_eq : res_main_v66 m c = qt (proj (args m c) (m ((c.tc : Thread nD τ).loc main_arg5))) := rfl
theorem res3_eq : res_main_v67 m c = vt (proj (args m c) (m ((c.tc : Thread nD τ).loc main_arg5))) := rfl

end Cert.ProjE.Ref

end
-- ==== Proof.ProjEHost.lean ====
module

public import proofs.«01_k».proof.Proof.ProjEBlock
public import proofs.«01_k».proof.Proof.ProjERef
public import proofs.«01_k».proof.Proof.Gen.Kernel4Ideal.Value

/-! What the even layer's first call's blocks hold of its arguments, and the four arrays it leaves, read entry by entry. -/

@[expose] public section

set_option maxRecDepth 16384

noncomputable section

namespace Cert.ProjE

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-! The six arguments on a core. -/

abbrev ax : FVec Ideal S16x2048x1024 .f32 := m ((c : Thread nD τ).loc main_arg0)
abbrev ag : FVec Ideal S2x3x1024 .f32 := m ((c : Thread nD τ).loc main_arg1)
abbrev ab : FVec Ideal S2x3x1024 .f32 := m ((c : Thread nD τ).loc main_arg2)
abbrev ai : FVec Ideal S2x1024x5632 .f32 := m ((c : Thread nD τ).loc main_arg3)
abbrev au : FVec Ideal S2x2816x1024 .f32 := m ((c : Thread nD τ).loc main_arg4)
abbrev aw : FVec Ideal S1x1024x2304 .f32 := m ((c : Thread nD τ).loc main_arg5)

theorem V_g (f : Fin 1024) : (V m c main_v2 : FVec Ideal S1x1024 .f32) (ix2 (0 : Fin 1) f) = ag m c (ix3 (0 : Fin 2) (0 : Fin 3) f) := by
  have e : @_root_.Eq (FVec Ideal S1x1024 .f32) (V m c main_v2) (shapeCast S1x1024 (shapeCast S1024 (extractStridedSlice S1x1x1024 ![0, 0, 0] (ag m c) slices_S2x3x1024_S1x1x1024_0_0_0) shapeCasts_S1x1x1024_S1024) shapeCasts_S1024_S1x1024) := by
    show StableHlo.after hostOps0 _ (Proc.devRef .tc main_v2) = _
    after_results
    rfl
  refine (congrFun e _).trans ?_
  pointwise

theorem V_b (f : Fin 1024) : (V m c main_v5 : FVec Ideal S1x1024 .f32) (ix2 (0 : Fin 1) f) = ab m c (ix3 (0 : Fin 2) (0 : Fin 3) f) := by
  have e : @_root_.Eq (FVec Ideal S1x1024 .f32) (V m c main_v5) (shapeCast S1x1024 (shapeCast S1024 (extractStridedSlice S1x1x1024 ![0, 0, 0] (ab m c) slices_S2x3x1024_S1x1x1024_0_0_0) shapeCasts_S1x1x1024_S1024) shapeCasts_S1024_S1x1024) := by
    show StableHlo.after hostOps0 _ (Proc.devRef .tc main_v5) = _
    after_results
    rfl
  refine (congrFun e _).trans ?_
  pointwise

theorem V_i (i : S2x1024x5632.Idx) : (V m c main_v18 : FVec Ideal S2x1024x5632 .bf16) i = ai m c i := by
  have e : @_root_.Eq (FVec Ideal S2x1024x5632 .bf16) (V m c main_v18) (truncf (F := Ideal) .bf16 (ai m c) bitsLt_bf16_f32) := by
    show StableHlo.after hostOps0 _ (Proc.devRef .tc main_v18) = _
    after_results
  exact congrFun e _

theorem V_u (i : S2x2816x1024.Idx) : (V m c main_v19 : FVec Ideal S2x2816x1024 .bf16) i = au m c i := by
  have e : @_root_.Eq (FVec Ideal S2x2816x1024 .bf16) (V m c main_v19) (truncf (F := Ideal) .bf16 (au m c) bitsLt_bf16_f32) := by
    show StableHlo.after hostOps0 _ (Proc.devRef .tc main_v19) = _
    after_results
  exact congrFun e _

/-- The projection's weights as a matrix. -/
def mat (w : FVec Ideal S1x1024x2304 .f32) : FVec Ideal S1024x2304 .f32 := shapeCast S1024x2304 w shapeCasts_S1x1024x2304_S1024x2304

theorem mat_apply (w : FVec Ideal S1x1024x2304 .f32) (k : Fin 1024) (j : Fin 2304) : mat w (ix2 k j) = w (ix3 (0 : Fin 1) k j) := by
  pointwise [mat]

/-- Both heads of a slice of the weights, each twice. -/
def twice (y : FVec Ideal S1024x128 .f32) : FVec Ideal S1024x256 .f32 :=
  shapeCast S1024x256 (shapeCast S1024x4x64 (broadcastInDim S1024x2x2x64 ![0, 1, 3] bcast_S1024x2x64_S1024x2x2x64_0_1_3 (shapeCast S1024x2x64 y shapeCasts_S1024x128_S1024x2x64)) shapeCasts_S1024x2x2x64_S1024x4x64) shapeCasts_S1024x4x64_S1024x256

theorem twice_apply (y : FVec Ideal S1024x128 .f32) (k : Fin 1024) (w : Fin 256) :
    twice y (ix2 k w) = y (ix2 k (⟨w.val / 128 * 64 + w.val % 64, by omega⟩ : Fin 128)) := by
  pointwise [twice]

/-- The weights of the rows. -/
def cat (y : FVec Ideal S1024x2304 .f32) : FVec Ideal S1024x1536 .bf16 :=
  truncf (F := Ideal) .bf16 (concatenate S1024x1536 1 [⟨S1024x512, (extractStridedSlice S1024x512 ![0, 512] y slices_S1024x2304_S1024x512_0_512 : FVec Ideal S1024x512 .f32)⟩,
    ⟨S1024x512, (extractStridedSlice S1024x512 ![0, 1536] y slices_S1024x2304_S1024x512_0_1536 : FVec Ideal S1024x512 .f32)⟩,
    ⟨S1024x256, (twice (extractStridedSlice S1024x128 ![0, 2048] y slices_S1024x2304_S1024x128_0_2048) : FVec Ideal S1024x256 .f32)⟩,
    ⟨S1024x256, (twice (extractStridedSlice S1024x128 ![0, 2176] y slices_S1024x2304_S1024x128_0_2176) : FVec Ideal S1024x256 .f32)⟩]
    concatenates_S1024x512_S1024x512_S1024x256_S1024x256_S1024x1536_d1 : FVec Ideal S1024x1536 .f32) bitsLt_bf16_f32

theorem cat_apply (y : FVec Ideal S1024x2304 .f32) (k : Fin 1024) (w : Fin 1536) : cat y (ix2 k w) = y (ix2 k (src w)) := by
  pointwise [cat]
  simp only [twice_apply]
  pointwise
  split_ifs <;> refine congrArg (fun z => y (ix2 k z)) (Fin.ext ?_) <;> simp only [src] <;> split_ifs <;> omega

theorem V_w (k : Fin 1024) (w : Fin 1536) : (V m c main_v34 : FVec Ideal S1024x1536 .bf16) (ix2 k w) = aw m c (ix3 (0 : Fin 1) k (src w)) := by
  have e : @_root_.Eq (FVec Ideal S1024x1536 .bf16) (V m c main_v34) (cat (mat (aw m c))) := by
    show StableHlo.after hostOps0 _ (Proc.devRef .tc main_v34) = _
    after_results
    rfl
  exact (congrFun e _).trans ((cat_apply _ k w).trans (mat_apply _ k (src w)))

/-- The queries' and the values' weights, one column after another. -/
def cols (y : FVec Ideal S1024x2304 .f32) : FVec Ideal S1024x1024 .bf16 :=
  concatenate S1024x1024 0 [⟨S512x1024, (truncf (F := Ideal) .bf16 (transpose S512x1024 [1, 0] (extractStridedSlice S1024x512 ![0, 0] y slices_S1024x2304_S1024x512_0_0) transposes_S1024x512_S512x1024_1_0) bitsLt_bf16_f32 : FVec Ideal S512x1024 .bf16)⟩,
    ⟨S512x1024, (truncf (F := Ideal) .bf16 (transpose S512x1024 [1, 0] (extractStridedSlice S1024x512 ![0, 1024] y slices_S1024x2304_S1024x512_0_1024) transposes_S1024x512_S512x1024_1_0) bitsLt_bf16_f32 : FVec Ideal S512x1024 .bf16)⟩]
    concatenates_S512x1024_S512x1024_S1024x1024_d0

theorem cols_lo (y : FVec Ideal S1024x2304 .f32) (q : Fin 512) (k : Fin 1024) : cols y (ix2 (⟨q.val, by omega⟩ : Fin 1024) k) = y (ix2 k (⟨q.val, by omega⟩ : Fin 2304)) := by
  pointwise [cols]

theorem cols_hi (y : FVec Ideal S1024x2304 .f32) (q : Fin 512) (k : Fin 1024) : cols y (ix2 (⟨512 + q.val, by omega⟩ : Fin 1024) k) = y (ix2 k (⟨1024 + q.val, by omega⟩ : Fin 2304)) := by
  pointwise [cols]

theorem V_c : @_root_.Eq (FVec Ideal S1024x1024 .bf16) (V m c main_v41) (cols (mat (aw m c))) := by
  show StableHlo.after hostOps0 _ (Proc.devRef .tc main_v41) = _
  after_results
  rfl

/-! The blocks at a point of the grid: its batch's 512 tokens, and the whole weights. -/

abbrev bat (t : Fin cfg0.N) : Fin 16 := grid0.coords t 0
abbrev at_ (t : Fin cfg0.N) (r : Fin 512) : Fin 2048 := ⟨512 * (grid0.coords t 1).val + r.val, by have : (grid0.coords t 1).val < 4 := (grid0.coords t 1).isLt; omega⟩

theorem ind0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ind1 : ∀ t : Fin cfg0.N, win0_1.index t = ![0, 0, 0] := fun _ => rfl
theorem ind2 : ∀ t : Fin cfg0.N, win0_2.index t = ![0, 0, 1] := fun _ => rfl
theorem ind3 : ∀ t : Fin cfg0.N, win0_3.index t = ![0, 0, 0] := fun _ => rfl
theorem ind4 : ∀ t : Fin cfg0.N, win0_4.index t = ![0, 0] := fun _ => rfl
theorem ind5 : ∀ t : Fin cfg0.N, win0_5.index t = ![0, 0] := fun _ => rfl
theorem ind6 : ∀ t : Fin cfg0.N, win0_6.index t = ![0, 0] := fun _ => rfl
theorem ind7 : ∀ t : Fin cfg0.N, win0_7.index t = ![0, 0] := fun _ => rfl
theorem ind8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem ind9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem ind10 : ∀ t : Fin cfg0.N, win0_10.index t = ![(grid0.coords t 0).val, 0, (grid0.coords t 1).val] :=
  (by decide +kernel : ∀ t : Fin grid0.N, win0_10.index t = ![(grid0.coords t 0).val, 0, (grid0.coords t 1).val])
theorem ind11 : ∀ t : Fin cfg0.N, win0_11.index t = ![(grid0.coords t 0).val, (grid0.coords t 1).val, 0, 0] :=
  (by decide +kernel : ∀ t : Fin grid0.N, win0_11.index t = ![(grid0.coords t 0).val, (grid0.coords t 1).val, 0, 0])

theorem iblk0 (t : Fin cfg0.N) (r : Fin 512) (k : Fin 1024) :
    (iblk m c 0 t : FVec Ideal S1x512x1024 .f32) (ix3 (0 : Fin 1) r k) = ax m c (ix3 (bat t) (at_ t r) k) := by
  have e : @_root_.Eq (FVec Ideal S16x2048x1024 .f32) (V m c main_arg0) (ax m c) := V_main_arg0 m c
  refine _root_.Eq.trans ?_ (congrFun e (ix3 (bat t) (at_ t r) k))
  unfold iblk
  rw [View.read_apply]
  show V m c main_arg0 _ = V m c main_arg0 _
  refine congrArg _ (funext fun a => Fin.ext ?_)
  match a with
  | ⟨0, _⟩ => show win0_0.index t 0 * 1 + 1 * 0 = (bat t).val; rw [ind0]; show (bat t).val * 1 + 1 * 0 = _; omega
  | ⟨1, _⟩ => show win0_0.index t 1 * 512 + 1 * r.val = (at_ t r).val; rw [ind0]; show (grid0.coords t 1).val * 512 + 1 * r.val = 512 * (grid0.coords t 1).val + r.val; omega
  | ⟨2, _⟩ => show win0_0.index t 2 * 1024 + 1 * k.val = k.val; rw [ind0]; show 0 * 1024 + 1 * k.val = _; omega

theorem iblk1 (t : Fin cfg0.N) (k : Fin 1024) (j : Fin 2816) :
    (iblk m c 1 t : FVec Ideal S1x1024x2816 .bf16) (ix3 (0 : Fin 1) k j) = ai m c (ix3 (0 : Fin 2) k (⟨j.val, by omega⟩ : Fin 5632)) := by
  refine _root_.Eq.trans ?_ (V_i m c (ix3 (0 : Fin 2) k (⟨j.val, by omega⟩ : Fin 5632)))
  unfold iblk
  rw [View.read_apply]
  show V m c main_v18 _ = V m c main_v18 _
  refine congrArg _ (funext fun a => Fin.ext ?_)
  match a with
  | ⟨0, _⟩ => show win0_1.index t 0 * 1 + 1 * 0 = 0; rw [ind1]; rfl
  | ⟨1, _⟩ => show win0_1.index t 1 * 1024 + 1 * k.val = k.val; rw [ind1]; show 0 * 1024 + 1 * k.val = _; omega
  | ⟨2, _⟩ => show win0_1.index t 2 * 2816 + 1 * j.val = j.val; rw [ind1]; show 0 * 2816 + 1 * j.val = _; omega

theorem iblk2 (t : Fin cfg0.N) (k : Fin 1024) (j : Fin 2816) :
    (iblk m c 2 t : FVec Ideal S1x1024x2816 .bf16) (ix3 (0 : Fin 1) k j) = ai m c (ix3 (0 : Fin 2) k (⟨2816 + j.val, by omega⟩ : Fin 5632)) := by
  refine _root_.Eq.trans ?_ (V_i m c (ix3 (0 : Fin 2) k (⟨2816 + j.val, by omega⟩ : Fin 5632)))
  unfold iblk
  rw [View.read_apply]
  show V m c main_v18 _ = V m c main_v18 _
  refine congrArg _ (funext fun a => Fin.ext ?_)
  match a with
  | ⟨0, _⟩ => show win0_2.index t 0 * 1 + 1 * 0 = 0; rw [ind2]; rfl
  | ⟨1, _⟩ => show win0_2.index t 1 * 1024 + 1 * k.val = k.val; rw [ind2]; show 0 * 1024 + 1 * k.val = _; omega
  | ⟨2, _⟩ => show win0_2.index t 2 * 2816 + 1 * j.val = 2816 + j.val; rw [ind2]; show 1 * 2816 + 1 * j.val = _; omega

theorem iblk3 (t : Fin cfg0.N) (j : Fin 2816) (f : Fin 1024) :
    (iblk m c 3 t : FVec Ideal S1x2816x1024 .bf16) (ix3 (0 : Fin 1) j f) = au m c (ix3 (0 : Fin 2) j f) := by
  refine _root_.Eq.trans ?_ (V_u m c (ix3 (0 : Fin 2) j f))
  unfold iblk
  rw [View.read_apply]
  show V m c main_v19 _ = V m c main_v19 _
  refine congrArg _ (funext fun a => Fin.ext ?_)
  match a with
  | ⟨0, _⟩ => show win0_3.index t 0 * 1 + 1 * 0 = 0; rw [ind3]; rfl
  | ⟨1, _⟩ => show win0_3.index t 1 * 2816 + 1 * j.val = j.val; rw [ind3]; show 0 * 2816 + 1 * j.val = _; omega
  | ⟨2, _⟩ => show win0_3.index t 2 * 1024 + 1 * f.val = f.val; rw [ind3]; show 0 * 1024 + 1 * f.val = _; omega

theorem iblk4 (t : Fin cfg0.N) (f : Fin 1024) :
    (iblk m c 4 t : FVec Ideal S1x1024 .f32) (ix2 (0 : Fin 1) f) = ag m c (ix3 (0 : Fin 2) (0 : Fin 3) f) := by
  refine _root_.Eq.trans ?_ (V_g m c f)
  unfold iblk
  rw [View.read_apply]
  show V m c main_v2 _ = V m c main_v2 _
  refine congrArg _ (funext fun a => Fin.ext ?_)
  match a with
  | ⟨0, _⟩ => show win0_4.index t 0 * 1 + 1 * 0 = 0; rw [ind4]; rfl
  | ⟨1, _⟩ => show win0_4.index t 1 * 1024 + 1 * f.val = f.val; rw [ind4]; show 0 * 1024 + 1 * f.val = _; omega

theorem iblk5 (t : Fin cfg0.N) (f : Fin 1024) :
    (iblk m c 5 t : FVec Ideal S1x1024 .f32) (ix2 (0 : Fin 1) f) = ab m c (ix3 (0 : Fin 2) (0 : Fin 3) f) := by
  refine _root_.Eq.trans ?_ (V_b m c f)
  unfold iblk
  rw [View.read_apply]
  show V m c main_v5 _ = V m c main_v5 _
  refine congrArg _ (funext fun a => Fin.ext ?_)
  match a with
  | ⟨0, _⟩ => show win0_5.index t 0 * 1 + 1 * 0 = 0; rw [ind5]; rfl
  | ⟨1, _⟩ => show win0_5.index t 1 * 1024 + 1 * f.val = f.val; rw [ind5]; show 0 * 1024 + 1 * f.val = _; omega

theorem iblk6 (t : Fin cfg0.N) (k : Fin 1024) (w : Fin 1536) :
    (iblk m c 6 t : FVec Ideal S1024x1536 .bf16) (ix2 k w) = aw m c (ix3 (0 : Fin 1) k (src w)) := by
  refine _root_.Eq.trans ?_ (V_w m c k w)
  unfold iblk
  rw [View.read_apply]
  show V m c main_v34 _ = V m c main_v34 _
  refine congrArg _ (funext fun a => Fin.ext ?_)
  match a with
  | ⟨0, _⟩ => show win0_6.index t 0 * 1024 + 1 * k.val = k.val; rw [ind6]; show 0 * 1024 + 1 * k.val = _; omega
  | ⟨1, _⟩ => show win0_6.index t 1 * 1536 + 1 * w.val = w.val; rw [ind6]; show 0 * 1536 + 1 * w.val = _; omega

theorem iblk7 (t : Fin cfg0.N) (q k : Fin 1024) :
    (iblk m c 7 t : FVec Ideal S1024x1024 .bf16) (ix2 q k) = cols (mat (aw m c)) (ix2 q k) := by
  refine _root_.Eq.trans ?_ (congrFun (V_c m c) (ix2 q k))
  unfold iblk
  rw [View.read_apply]
  show V m c main_v41 _ = V m c main_v41 _
  refine congrArg _ (funext fun a => Fin.ext ?_)
  match a with
  | ⟨0, _⟩ => show win0_7.index t 0 * 1024 + 1 * q.val = q.val; rw [ind7]; show 0 * 1024 + 1 * q.val = _; omega
  | ⟨1, _⟩ => show win0_7.index t 1 * 1024 + 1 * k.val = k.val; rw [ind7]; show 0 * 1024 + 1 * k.val = _; omega

/-- A token of the stream that the call reads at a point of the grid. -/
theorem row_eq (t : Fin cfg0.N) (r : Fin 512) :
    Stage.row (iblk m c 0 t) (iblk m c 1 t) (iblk m c 2 t) (iblk m c 3 t) (iblk m c 4 t) (iblk m c 5 t) r =
      tok (ax m c) (ag m c) (ab m c) (ai m c) (au m c) (bat t) (at_ t r) := by
  unfold Stage.row tok
  simp only [iblk0, iblk1, iblk2, iblk3, iblk4, iblk5]

theorem flush8 (t : Fin cfg0.N) : (cfg0.win 8).flush t = true := (by decide +kernel : ∀ t : Fin grid0.N, win0_8.flush t = true) t
theorem flush9 (t : Fin cfg0.N) : (cfg0.win 9).flush t = true := (by decide +kernel : ∀ t : Fin grid0.N, win0_9.flush t = true) t
theorem flush10 (t : Fin cfg0.N) : (cfg0.win 10).flush t = true := (by decide +kernel : ∀ t : Fin grid0.N, win0_10.flush t = true) t
theorem flush11 (t : Fin cfg0.N) : (cfg0.win 11).flush t = true := (by decide +kernel : ∀ t : Fin grid0.N, win0_11.flush t = true) t

theorem arr8_at (t : Fin cfg0.N) (r : Fin 512) (f : Fin 1024) :
    ((dats m 0 c).arrAt 8 cfg0.N : FVec Ideal S16x2048x1024 .f32) (ix3 (bat t) (at_ t r) f) =
      tok (ax m c) (ag m c) (ab m c) (ai m c) (au m c) (bat t) (at_ t r) f := by
  have e := congrFun (Value.blocks8 m c t (flush8 t)) (ix3 (0 : Fin 1) r f)
  rw [View.read_apply, Value.flushed8_A] at e
  refine (_root_.Eq.trans ?_ e).trans ?_
  · refine congrArg ((dats m 0 c).arrAt 8 cfg0.N : FVec Ideal S16x2048x1024 .f32) (funext fun a => Fin.ext ?_)
    match a with
    | ⟨0, _⟩ => show (bat t).val = win0_8.index t 0 * 1 + 1 * 0; rw [ind8]; show (bat t).val = (bat t).val * 1 + 1 * 0; omega
    | ⟨1, _⟩ => show (at_ t r).val = win0_8.index t 1 * 512 + 1 * r.val; rw [ind8]; show 512 * (grid0.coords t 1).val + r.val = (grid0.coords t 1).val * 512 + 1 * r.val; omega
    | ⟨2, _⟩ => show f.val = win0_8.index t 2 * 1024 + 1 * f.val; rw [ind8]; show f.val = 0 * 1024 + 1 * f.val; omega
  · refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) r f).trans ?_
    exact congrFun (row_eq m c t r) f

theorem arr9_at (t : Fin cfg0.N) (r : Fin 512) (w : Fin 1536) :
    ((dats m 0 c).arrAt 9 cfg0.N : FVec Ideal S16x2048x1536 .bf16) (ix3 (bat t) (at_ t r) w) =
      (∑ k : Fin 1024, tok (ax m c) (ag m c) (ab m c) (ai m c) (au m c) (bat t) (at_ t r) k * aw m c (ix3 (0 : Fin 1) k (src w)) : EReal) := by
  have e := congrFun (Value.blocks9 m c t (flush9 t)) (ix3 (0 : Fin 1) r w)
  rw [View.read_apply, Value.flushed9_A] at e
  refine (_root_.Eq.trans ?_ e).trans ?_
  · refine congrArg ((dats m 0 c).arrAt 9 cfg0.N : FVec Ideal S16x2048x1536 .bf16) (funext fun a => Fin.ext ?_)
    match a with
    | ⟨0, _⟩ => show (bat t).val = win0_9.index t 0 * 1 + 1 * 0; rw [ind9]; show (bat t).val = (bat t).val * 1 + 1 * 0; omega
    | ⟨1, _⟩ => show (at_ t r).val = win0_9.index t 1 * 512 + 1 * r.val; rw [ind9]; show 512 * (grid0.coords t 1).val + r.val = (grid0.coords t 1).val * 512 + 1 * r.val; omega
    | ⟨2, _⟩ => show w.val = win0_9.index t 2 * 1536 + 1 * w.val; rw [ind9]; show w.val = 0 * 1536 + 1 * w.val; omega
  · refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) r w).trans ?_
    rw [row_eq]
    exact Finset.sum_congr rfl fun k _ => congrArg _ (iblk6 m c t k w)

theorem arr10_at (t : Fin cfg0.N) (q r : Fin 512) :
    ((dats m 0 c).arrAt 10 cfg0.N : FVec Ideal S16x512x2048 .bf16) (ix3 (bat t) q (at_ t r)) =
      (∑ k : Fin 1024, tok (ax m c) (ag m c) (ab m c) (ai m c) (au m c) (bat t) (at_ t r) k * aw m c (ix3 (0 : Fin 1) k (⟨q.val, by omega⟩ : Fin 2304)) : EReal) * Ideal.ofBits .f32 0xBE38AA3B#32 := by
  have e := congrFun (Value.blocks10 m c t (flush10 t)) (ix3 (0 : Fin 1) q r)
  rw [View.read_apply, Value.flushed10_A] at e
  refine (_root_.Eq.trans ?_ e).trans ?_
  · refine congrArg ((dats m 0 c).arrAt 10 cfg0.N : FVec Ideal S16x512x2048 .bf16) (funext fun a => Fin.ext ?_)
    match a with
    | ⟨0, _⟩ => show (bat t).val = win0_10.index t 0 * 1 + 1 * 0; rw [ind10]; show (bat t).val = (bat t).val * 1 + 1 * 0; omega
    | ⟨1, _⟩ => show q.val = win0_10.index t 1 * 512 + 1 * q.val; rw [ind10]; show q.val = 0 * 512 + 1 * q.val; omega
    | ⟨2, _⟩ => show (at_ t r).val = win0_10.index t 2 * 512 + 1 * r.val; rw [ind10]; show 512 * (grid0.coords t 1).val + r.val = (grid0.coords t 1).val * 512 + 1 * r.val; omega
  · refine (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) q r).trans ?_
    rw [row_eq]
    refine congrArg (· * Ideal.ofBits .f32 0xBE38AA3B#32) (Finset.sum_congr rfl fun k _ => ?_)
    rw [iblk7, cols_lo, mat_apply, mul_comm]

theorem arr11_at (t : Fin cfg0.N) (j : Fin 2) (v : Fin 512) (s : Fin 256) :
    ((dats m 0 c).arrAt 11 cfg0.N : FVec Ideal S16x8x512x256 .bf16) (ix4 (bat t) (⟨2 * (grid0.coords t 1).val + j.val, by have : (grid0.coords t 1).val < 4 := (grid0.coords t 1).isLt; omega⟩ : Fin 8) v s) =
      (∑ k : Fin 1024, tok (ax m c) (ag m c) (ab m c) (ai m c) (au m c) (bat t) (at_ t ⟨256 * j.val + s.val, by omega⟩) k * aw m c (ix3 (0 : Fin 1) k (⟨1024 + v.val, by omega⟩ : Fin 2304)) : EReal) := by
  have e := congrFun (Value.blocks11 m c t (flush11 t)) (ix4 (0 : Fin 1) j v s)
  rw [View.read_apply, Value.flushed11_A] at e
  refine (_root_.Eq.trans ?_ e).trans ?_
  · refine congrArg ((dats m 0 c).arrAt 11 cfg0.N : FVec Ideal S16x8x512x256 .bf16) (funext fun a => Fin.ext ?_)
    match a with
    | ⟨0, _⟩ => show (bat t).val = win0_11.index t 0 * 1 + 1 * 0; rw [ind11]; show (bat t).val = (bat t).val * 1 + 1 * 0; omega
    | ⟨1, _⟩ => show 2 * (grid0.coords t 1).val + j.val = win0_11.index t 1 * 2 + 1 * j.val; rw [ind11]; show 2 * (grid0.coords t 1).val + j.val = (grid0.coords t 1).val * 2 + 1 * j.val; omega
    | ⟨2, _⟩ => show v.val = win0_11.index t 2 * 512 + 1 * v.val; rw [ind11]; show v.val = 0 * 512 + 1 * v.val; omega
    | ⟨3, _⟩ => show s.val = win0_11.index t 3 * 256 + 1 * s.val; rw [ind11]; show s.val = 0 * 256 + 1 * s.val; omega
  · refine (out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) j v s).trans ?_
    rw [row_eq]
    refine Finset.sum_congr rfl fun k _ => ?_
    rw [iblk7, cols_hi, mat_apply, mul_comm]

theorem point (n : Fin 16) (q : Fin 4) : ∃ t : Fin cfg0.N, bat t = n ∧ (grid0.coords t 1).val = q.val := by
  have h : ∀ t : Fin grid0.N, (grid0.coords t 0).val = t.val / 4 ∧ (grid0.coords t 1).val = t.val % 4 := by decide +kernel
  have hn : 4 * n.val + q.val < grid0.N := by
    have e : grid0.N = 64 := by decide
    omega
  refine ⟨⟨4 * n.val + q.val, hn⟩, Fin.ext ?_, ?_⟩
  · refine (h ⟨4 * n.val + q.val, hn⟩).1.trans ?_
    show (4 * n.val + q.val) / 4 = n.val; omega
  · refine (h ⟨4 * n.val + q.val, hn⟩).2.trans ?_
    show (4 * n.val + q.val) % 4 = q.val; omega

/-- Every token is one of a point of the grid. -/
theorem token (n : Fin 16) (t : Fin 2048) : ∃ (p : Fin cfg0.N) (r : Fin 512), bat p = n ∧ at_ p r = t ∧ (grid0.coords p 1).val = t.val / 512 ∧ r.val = t.val % 512 := by
  obtain ⟨p, hb, hq⟩ := point n ⟨t.val / 512, by omega⟩
  refine ⟨p, ⟨t.val % 512, by omega⟩, hb, Fin.ext ?_, hq, rfl⟩
  show 512 * (grid0.coords p 1).val + t.val % 512 = t.val
  rw [hq]
  show 512 * (t.val / 512) + t.val % 512 = t.val
  omega

end Cert.ProjE

end
-- ==== Proof.ProjEEqual.lean ====
module

public import proofs.«01_k».proof.Proof.ProjEHost

/-! The four arrays of the even layer's first call are the fourth reference's results. -/

@[expose] public section

noncomputable section

namespace Cert.ProjE

open Idealize.ShloMosaic Idealize.ShloMosaic.TcCoe Cert.Kernel4Ideal Cert.Kernel4Ideal.Gen

variable (m : (ℓ : Loc nD τ sig) → Buf (Elt Ideal) ℓ) (c : Dev nD)

/-- The reference's stream and projection of the call's arguments. -/
abbrev rh : FVec Ideal S16x2048x1024 .f32 := Ref.h (ax m c) (ag m c) (ab m c) (ai m c) (au m c)
abbrev rp : FVec Ideal Reference4Ideal.S16x2048x2304 .f32 := Ref.proj (rh m c) (aw m c)

theorem rp_apply (n : Fin 16) (t : Fin 2048) (j : Fin 2304) :
    rp m c (ix3 n t j) = (∑ k : Fin 1024, tok (ax m c) (ag m c) (ab m c) (ai m c) (au m c) n t k * aw m c (ix3 (0 : Fin 1) k j) : EReal) := by
  refine (Ref.proj_apply _ _ n t j).trans ?_
  exact Finset.sum_congr rfl fun k _ => congrArg (· * aw m c (ix3 (0 : Fin 1) k j)) (Ref.h_apply _ _ _ _ _ n t k)

theorem equal0 : @_root_.Eq (FVec Ideal S16x2048x1024 .f32) (rh m c) ((dats m 0 c).arrAt 8 cfg0.N) := by
  funext i
  obtain ⟨n, t, f, rfl⟩ : ∃ (n : Fin 16) (t : Fin 2048) (f : Fin 1024), i = ix3 n t f := ⟨i 0, i 1, i 2, eq_ix3 i⟩
  obtain ⟨p, r, rfl, rfl, -, -⟩ := token n t
  exact (Ref.h_apply _ _ _ _ _ _ _ f).trans (arr8_at m c p r f).symm

theorem equal1 : @_root_.Eq (FVec Ideal S16x2048x1536 .bf16) (Ref.rows (rp m c)) ((dats m 0 c).arrAt 9 cfg0.N) := by
  funext i
  obtain ⟨n, t, w, rfl⟩ : ∃ (n : Fin 16) (t : Fin 2048) (w : Fin 1536), i = ix3 n t w := ⟨i 0, i 1, i 2, eq_ix3 i⟩
  obtain ⟨p, r, rfl, rfl, -, -⟩ := token n t
  exact (Ref.rows_apply _ _ _ w).trans ((rp_apply m c _ _ _).trans (arr9_at m c p r w).symm)

theorem equal2 : @_root_.Eq (FVec Ideal S16x512x2048 .bf16) (Ref.qt (rp m c)) ((dats m 0 c).arrAt 10 cfg0.N) := by
  funext i
  obtain ⟨n, q, t, rfl⟩ : ∃ (n : Fin 16) (q : Fin 512) (t : Fin 2048), i = ix3 n q t := ⟨i 0, i 1, i 2, eq_ix3 i⟩
  obtain ⟨p, r, rfl, rfl, -, -⟩ := token n t
  refine (Ref.qt_apply _ _ q _).trans (_root_.Eq.trans ?_ (arr10_at m c p q r).symm)
  rw [rp_apply]

theorem equal3 : @_root_.Eq (FVec Ideal S16x8x512x256 .bf16) (Ref.vt (rp m c)) ((dats m 0 c).arrAt 11 cfg0.N) := by
  funext i
  obtain ⟨n, j, v, s, rfl⟩ : ∃ (n : Fin 16) (j : Fin 8) (v : Fin 512) (s : Fin 256), i = ix4 n j v s := ⟨i 0, i 1, i 2, i 3, eq_ix4 i⟩
  obtain ⟨p, rfl, hq⟩ := point n ⟨j.val / 2, by omega⟩
  have hq : (grid0.coords p 1).val = j.val / 2 := hq
  have e := arr11_at m c p ⟨j.val % 2, by omega⟩ v s
  have ej : (⟨2 * (grid0.coords p 1).val + j.val % 2, by omega⟩ : Fin 8) = j := Fin.ext (by show 2 * (grid0.coords p 1).val + j.val % 2 = j.val; omega)
  have et : at_ p ⟨256 * (j.val % 2) + s.val, by omega⟩ = (⟨256 * j.val + s.val, by omega⟩ : Fin 2048) :=
    Fin.ext (by show 512 * (grid0.coords p 1).val + (256 * (j.val % 2) + s.val) = 256 * j.val + s.val; omega)
  refine (Ref.vt_apply _ _ j v s).trans ((rp_apply m c _ _ _).trans ?_)
  rw [← et]
  refine e.symm.trans ?_
  exact congrArg (fun z => ((dats m 0 c).arrAt 11 cfg0.N : FVec Ideal S16x8x512x256 .bf16) (ix4 (bat p) z v s)) ej

end Cert.ProjE

end
-- ==== Proof.ProjOBlock.lean ====
module

public import proofs.«01_k».proof.Proof.Gen.Kernel5Ideal.Frame
public import proofs.«01_k».proof.Proof.Stage

/-! The blocks that the odd layer's first call leaves: the normed stream, and its projections by tokens, by features, and to the gates. -/

@[expose] public section

set_option maxRecDepth 16384

noncomputable section

namespace Cert.ProjO

open Cert.Kernel5Ideal Cert.Kernel5Ideal.Gen Idealize.ShloMosaic Idealize.ShloMosaic.TcCoe Idealize.ShloMosaic.Tactic
open Cert.Stage (stage row lo hi z2 z3)

/-- The projections of a block of tokens, by features. -/
theorem pay2_apply (h : Vec Ideal S1x512x1024 .f32) (w : Vec Ideal S2048x1024 .bf16) (q : Fin 2048) (t : Fin 512) :
    k0_pay2 (k0_pay13 h) w (ix2 q t) = (∑ k : Fin 1024, w (ix2 q k) * h (ix3 0 t k) : EReal) := by
  pointwise [k0_pay2, k0_pay13]

theorem pay3_apply (h : Vec Ideal S1x512x1024 .f32) (w : Vec Ideal S2048x1024 .bf16) (q : Fin 1024) (t : Fin 512) :
    k0_pay3 (k0_pay13 h) w (ix3 (0 : Fin 1) q t) = ((∑ k : Fin 1024, w (ix2 (⟨q.val, by omega⟩ : Fin 2048) k) * h (ix3 0 t k)) * Ideal.ofBits .f32 0x3E38AA3B#32 : EReal) := by
  pointwise [k0_pay3]
  rw [pay2_apply]

theorem pay4_apply (h : Vec Ideal S1x512x1024 .f32) (w : Vec Ideal S2048x1024 .bf16) (v : Fin 1024) (s : Fin 256) :
    k0_pay4 (k0_pay13 h) w (ix4 (0 : Fin 1) (0 : Fin 1) v s) = (∑ k : Fin 1024, w (ix2 (⟨1024 + v.val, by omega⟩ : Fin 2048) k) * h (ix3 0 (⟨s.val, by omega⟩ : Fin 512) k) : EReal) := by
  pointwise [k0_pay4]
  rw [pay2_apply]

theorem pay5_apply (h : Vec Ideal S1x512x1024 .f32) (w : Vec Ideal S2048x1024 .bf16) (v : Fin 1024) (s : Fin 256) :
    k0_pay5 (k0_pay13 h) w (ix4 (0 : Fin 1) (0 : Fin 1) v s) = (∑ k : Fin 1024, w (ix2 (⟨1024 + v.val, by omega⟩ : Fin 2048) k) * h (ix3 0 (⟨256 + s.val, by omega⟩ : Fin 512) k) : EReal) := by
  pointwise [k0_pay5]
  rw [pay2_apply]

/-- The projections of a block of tokens: the keys and, after them, the gates. -/
theorem pay14_apply (h : Vec Ideal S1x512x1024 .f32) (w : Vec Ideal S1024x1152 .bf16) (t : Fin 512) (f : Fin 1152) :
    k0_pay14 h w (ix2 t f) = (∑ k : Fin 1024, h (ix3 0 t k) * w (ix2 k f) : EReal) := by
  pointwise [k0_pay14, k0_pay13]

theorem pay15_apply (h : Vec Ideal S1x512x1024 .f32) (w : Vec Ideal S1024x1152 .bf16) (t : Fin 512) (f : Fin 1024) :
    k0_pay15 h w (ix3 (0 : Fin 1) t f) = (∑ k : Fin 1024, h (ix3 0 t k) * w (ix2 k (⟨f.val, by omega⟩ : Fin 1152)) : EReal) := by
  pointwise [k0_pay15]
  rw [pay14_apply]

theorem pay16_apply (h : Vec Ideal S1x512x1024 .f32) (w : Vec Ideal S1024x1152 .bf16) (t : Fin 512) (f : Fin 128) :
    k0_pay1 (k0_pay16 h w) (ix3 (0 : Fin 1) t f) = (∑ k : Fin 1024, h (ix3 0 t k) * w (ix2 k (⟨1024 + f.val, by omega⟩ : Fin 1152)) : EReal) := by
  pointwise [k0_pay1, k0_pay16]
  rw [pay14_apply]

/-! The two halves' payloads are the stage's. -/

theorem lo_eq (x0 : Vec Ideal S1x256x1024 .f32) (x1 x2 : Vec Ideal S1x1024x2816 .bf16) (x3 : Vec Ideal S1x2816x1024 .bf16) (x4 x5 : Vec Ideal S1x1024 .f32) :
    k0_pay10 (k0_pay6 x4) (k0_pay7 x5) (k0_pay8 x0 x1 x2 x3) (k0_pay9 x0 x1 x2 x3) = Stage.half x0 x1 x2 x3 x4 x5 := rfl

theorem hi_eq (x0 : Vec Ideal S1x256x1024 .f32) (x1 x2 : Vec Ideal S1x1024x2816 .bf16) (x3 : Vec Ideal S1x2816x1024 .bf16) (x4 x5 : Vec Ideal S1x1024 .f32) :
    k0_pay12 (k0_pay11 x0 x1 x2 x3) x4 x5 = Stage.half x0 x1 x2 x3 x4 x5 := rfl

section
variable (c : Dev nD) (i : grid0.Coords) (a0 : Memref sig .tc .vmem S1x512x1024 .f32) (h0 : a0.IsWhole) (a1 : Memref sig .tc .vmem S1x1024x2816 .bf16) (h1 : a1.IsWhole) (a2 : Memref sig .tc .vmem S1x1024x2816 .bf16) (h2 : a2.IsWhole) (a3 : Memref sig .tc .vmem S1x2816x1024 .bf16) (h3 : a3.IsWhole) (a4 : Memref sig .tc .vmem S1x1024 .f32) (h4 : a4.IsWhole) (a5 : Memref sig .tc .vmem S1x1024 .f32) (h5 : a5.IsWhole) (a6 : Memref sig .tc .vmem S1024x1152 .bf16) (h6 : a6.IsWhole) (a7 : Memref sig .tc .vmem S2048x1024 .bf16) (h7 : a7.IsWhole) (a8 : Memref sig .tc .vmem S1x512x1024 .f32) (h8 : a8.IsWhole) (a9 : Memref sig .tc .vmem S1x512x1024 .bf16) (h9 : a9.IsWhole) (a10 : Memref sig .tc .vmem S1x1024x512 .bf16) (h10 : a10.IsWhole) (a11 : Memref sig .tc .vmem S1x2x1024x256 .bf16) (h11 : a11.IsWhole) (a12 : Memref sig .tc .vmem S1x512x128 .f32) (h12 : a12.IsWhole)
    (x0 : Vec Ideal S1x512x1024 .f32) (x1 x2 : Vec Ideal S1x1024x2816 .bf16) (x3 : Vec Ideal S1x2816x1024 .bf16) (x4 x5 : Vec Ideal S1x1024 .f32)
    (x6 : Vec Ideal S1024x1152 .bf16) (x7 : Vec Ideal S2048x1024 .bf16)

theorem out8 : out0_A_8 c i a0 h0 a1 h1 a2 h2 a3 h3 a4 h4 a5 h5 a6 h6 a7 h7 a8 h8 a9 h9 a10 h10 a11 h11 a12 h12 x0 x1 x2 x3 x4 x5 x6 x7 = stage x0 x1 x2 x3 x4 x5 := by
  unfold out0_A_8
  rw [View.read_writes_junk_eq_canon]
  unfold kernelRun0_A
  sl_unfold_words
  dsimp only
  simp only [View.readAt_eq_ld, h0.read_unread, h1.read_unread, h2.read_unread, h3.read_unread, h4.read_unread, h5.read_unread]
  rw [View.ld_unit_zero (S := S1x1024x2816) z3, View.ld_unit_zero (S := S1x1024x2816) z3, View.ld_unit_zero (S := S1x2816x1024) z3,
    View.ld_unit_zero (S := S1x1024) z2, View.ld_unit_zero (S := S1x1024) z2, hi_eq, lo_eq]
  rfl

theorem out9 : out0_A_9 c i a0 h0 a1 h1 a2 h2 a3 h3 a4 h4 a5 h5 a6 h6 a7 h7 a8 h8 a9 h9 a10 h10 a11 h11 a12 h12 x0 x1 x2 x3 x4 x5 x6 x7 = k0_pay15 (stage x0 x1 x2 x3 x4 x5) x6 := by
  rw [← out8 c i a0 h0 a1 h1 a2 h2 a3 h3 a4 h4 a5 h5 a6 h6 a7 h7 a8 h8 a9 h9 a10 h10 a11 h11 a12 h12 x0 x1 x2 x3 x4 x5 x6 x7]
  unfold out0_A_9 out0_A_8
  rw [View.read_writes_junk_eq_canon, View.read_writes_junk_eq_canon]
  unfold kernelRun0_A
  sl_unfold_words
  dsimp only
  rw [View.canon_unit_zero (S := S1x512x1024) z3, Stage.back, View.readAt_eq_ld a6.view (h6.unread x6), h6.read_unread, View.ld_unit_zero (S := S1024x1152) z2]

theorem out10 : out0_A_10 c i a0 h0 a1 h1 a2 h2 a3 h3 a4 h4 a5 h5 a6 h6 a7 h7 a8 h8 a9 h9 a10 h10 a11 h11 a12 h12 x0 x1 x2 x3 x4 x5 x6 x7 = k0_pay3 (k0_pay13 (stage x0 x1 x2 x3 x4 x5)) x7 := by
  rw [← out8 c i a0 h0 a1 h1 a2 h2 a3 h3 a4 h4 a5 h5 a6 h6 a7 h7 a8 h8 a9 h9 a10 h10 a11 h11 a12 h12 x0 x1 x2 x3 x4 x5 x6 x7]
  unfold out0_A_10 out0_A_8
  rw [View.read_writes_junk_eq_canon, View.read_writes_junk_eq_canon]
  unfold kernelRun0_A
  sl_unfold_words
  dsimp only
  rw [View.canon_unit_zero (S := S1x1024x512) z3, Stage.back, View.readAt_eq_ld a7.view (h7.unread x7), h7.read_unread, View.ld_unit_zero (S := S2048x1024) z2]

/-- The values' two blocks of 256 tokens. -/
abbrev v0 : Rect S1x2x1024x256 := Rect.unit (s := S1x2x1024x256) ![0, 0, 0, 0] S1x1x1024x256.size inb_S1x2x1024x256_S1x1x1024x256_0_0_0_0
abbrev v1 : Rect S1x2x1024x256 := Rect.unit (s := S1x2x1024x256) ![0, 1, 0, 0] S1x1x1024x256.size inb_S1x2x1024x256_S1x1x1024x256_0_1_0_0

theorem out11 : out0_A_11 c i a0 h0 a1 h1 a2 h2 a3 h3 a4 h4 a5 h5 a6 h6 a7 h7 a8 h8 a9 h9 a10 h10 a11 h11 a12 h12 x0 x1 x2 x3 x4 x5 x6 x7 =
    View.canon ([⟨v1, k0_pay5 (k0_pay13 (stage x0 x1 x2 x3 x4 x5)) x7⟩, ⟨v0, k0_pay4 (k0_pay13 (stage x0 x1 x2 x3 x4 x5)) x7⟩] : List (View.Piece (Elt Ideal) S1x2x1024x256 .bf16)) := by
  rw [← out8 c i a0 h0 a1 h1 a2 h2 a3 h3 a4 h4 a5 h5 a6 h6 a7 h7 a8 h8 a9 h9 a10 h10 a11 h11 a12 h12 x0 x1 x2 x3 x4 x5 x6 x7]
  unfold out0_A_11 out0_A_8
  rw [View.read_writes_junk_eq_canon, View.read_writes_junk_eq_canon]
  unfold kernelRun0_A
  sl_unfold_words
  dsimp only
  rw [Stage.back, View.readAt_eq_ld a7.view (h7.unread x7), h7.read_unread, View.ld_unit_zero (S := S2048x1024) z2]

/-! The blocks at a token and a feature. -/

theorem out8_apply (t : Fin 512) (f : Fin 1024) :
    out0_A_8 c i a0 h0 a1 h1 a2 h2 a3 h3 a4 h4 a5 h5 a6 h6 a7 h7 a8 h8 a9 h9 a10 h10 a11 h11 a12 h12 x0 x1 x2 x3 x4 x5 x6 x7 (ix3 (0 : Fin 1) t f) = row x0 x1 x2 x3 x4 x5 t f := by
  rw [out8]
  exact Stage.stage_apply x0 x1 x2 x3 x4 x5 t f

theorem out9_apply (t : Fin 512) (f : Fin 1024) :
    out0_A_9 c i a0 h0 a1 h1 a2 h2 a3 h3 a4 h4 a5 h5 a6 h6 a7 h7 a8 h8 a9 h9 a10 h10 a11 h11 a12 h12 x0 x1 x2 x3 x4 x5 x6 x7 (ix3 (0 : Fin 1) t f) = (∑ k : Fin 1024, row x0 x1 x2 x3 x4 x5 t k * x6 (ix2 k (⟨f.val, by omega⟩ : Fin 1152)) : EReal) := by
  rw [out9, pay15_apply]
  simp only [Stage.stage_apply]

theorem out10_apply (q : Fin 1024) (t : Fin 512) :
    out0_A_10 c i a0 h0 a1 h1 a2 h2 a3 h3 a4 h4 a5 h5 a6 h6 a7 h7 a8 h8 a9 h9 a10 h10 a11 h11 a12 h12 x0 x1 x2 x3 x4 x5 x6 x7 (ix3 (0 : Fin 1) q t) = ((∑ k : Fin 1024, x7 (ix2 (⟨q.val, by omega⟩ : Fin 2048) k) * row x0 x1 x2 x3 x4 x5 t k) * Ideal.ofBits .f32 0x3E38AA3B#32 : EReal) := by
  rw [out10, pay3_apply]
  simp only [Stage.stage_apply]

theorem out12 : out0_A_12 c i a0 h0 a1 h1 a2 h2 a3 h3 a4 h4 a5 h5 a6 h6 a7 h7 a8 h8 a9 h9 a10 h10 a11 h11 a12 h12 x0 x1 x2 x3 x4 x5 x6 x7 = k0_pay1 (k0_pay16 (stage x0 x1 x2 x3 x4 x5) x6) := by
  rw [← out8 c i a0 h0 a1 h1 a2 h2 a3 h3 a4 h4 a5 h5 a6 h6 a7 h7 a8 h8 a9 h9 a10 h10 a11 h11 a12 h12 x0 x1 x2 x3 x4 x5 x6 x7]
  unfold out0_A_12 out0_A_8
  rw [View.read_writes_junk_eq_canon, View.read_writes_junk_eq_canon]
  unfold kernelRun0_A
  sl_unfold_words
  dsimp only
  rw [View.canon_unit_zero (S := S1x512x128) z3, Stage.back, View.readAt_eq_ld a6.view (h6.unread x6), h6.read_unread, View.ld_unit_zero (S := S1024x1152) z2]

theorem out12_apply (t : Fin 512) (f : Fin 128) :
    out0_A_12 c i a0 h0 a1 h1 a2 h2 a3 h3 a4 h4 a5 h5 a6 h6 a7 h7 a8 h8 a9 h9 a10 h10 a11 h11 a12 h12 x0 x1 x2 x3 x4 x5 x6 x7 (ix3 (0 : Fin 1) t f) = (∑ k : Fin 1024, row x0 x1 x2 x3 x4 x5 t k * x6 (ix2 k (⟨1024 + f.val, by omega⟩ : Fin 1152)) : EReal) := by
  rw [out12, pay16_apply]
  simp only [Stage.stage_apply]

theorem emb0 (v : Fin 1024) (s : Fin 256) : v0.emb (ix4 (0 : Fin 1) (0 : Fin 1) v s) = ix4 (0 : Fin 1) (0 : Fin 2) v s := funext fun a => Fin.ext (by
  match a with
  | ⟨0, _⟩ => show 0 + 1 * 0 = 0; omega
  | ⟨1, _⟩ => show 0 + 1 * 0 = 0; omega
  | ⟨2, _⟩ => show 0 + 1 * v.val = v.val; omega
  | ⟨3, _⟩ => show 0 + 1 * s.val = s.val; omega)

theorem emb1 (v : Fin 1024) (s : Fin 256) : v1.emb (ix4 (0 : Fin 1) (0 : Fin 1) v s) = ix4 (0 : Fin 1) (1 : Fin 2) v s := funext fun a => Fin.ext (by
  match a with
  | ⟨0, _⟩ => show 0 + 1 * 0 = 0; omega
  | ⟨1, _⟩ => show 1 + 1 * 0 = 1; omega
  | ⟨2, _⟩ => show 0 + 1 * v.val = v.val; omega
  | ⟨3, _⟩ => show 0 + 1 * s.val = s.val; omega)

theorem not_mem1 (v : Fin 1024) (s : Fin 256) : ix4 (0 : Fin 1) (0 : Fin 2) v s ∉ v1.set := by
  intro h
  obtain ⟨j, _, e⟩ := v1.mem_set.mp h 1
  have e' : 0 = 1 + 1 * j := e
  omega

theorem out11_apply (j : Fin 2) (v : Fin 1024) (s : Fin 256) :
    out0_A_11 c i a0 h0 a1 h1 a2 h2 a3 h3 a4 h4 a5 h5 a6 h6 a7 h7 a8 h8 a9 h9 a10 h10 a11 h11 a12 h12 x0 x1 x2 x3 x4 x5 x6 x7 (ix4 (0 : Fin 1) j v s) =
      (∑ k : Fin 1024, x7 (ix2 (⟨1024 + v.val, by omega⟩ : Fin 2048) k) * row x0 x1 x2 x3 x4 x5 (⟨256 * j.val + s.val, by omega⟩ : Fin 512) k : EReal) := by
  rw [out11]
  match j with
  | ⟨0, _⟩ =>
    refine (View.canon_cons_of_not_mem ⟨v1, _⟩ _ (not_mem1 v s)).trans ((congrArg _ (emb0 v s).symm).trans ((View.canon_cons_emb v0 _ [] _).trans ?_))
    rw [pay4_apply]
    simp only [Stage.stage_apply]
    refine Finset.sum_congr rfl fun k _ => congrArg (fun t => _ * row x0 x1 x2 x3 x4 x5 t k) (Fin.ext ?_)
    show s.val = 256 * 0 + s.val; omega
  | ⟨1, _⟩ =>
    refine (congrArg _ (emb1 v s).symm).trans ((View.canon_cons_emb v1 _ _ _).trans ?_)
    rw [pay5_apply]
    simp only [Stage.stage_apply]

end

end Cert.ProjO

end
-- ==== Proof.ProjORef.lean ====
module

public import proofs.«01_k».proof.Proof.Gen.Reference5Ideal.Run
public import proofs.«01_k».proof.Proof.MixRef

/-! The fifth reference's five results read entry by entry. -/

@[expose] public section

set_option maxRecDepth 16384

noncomputable section

namespace Cert.ProjO

open Idealize.ShloMosaic Cert.Reference5Ideal

/-- The stream after the layer's first part, at a token. -/
def tok (x : FVec Ideal S16x2048x1024 .f32) (g b : FVec Ideal S2x3x1024 .f32) (wi : FVec Ideal S2x1024x5632 .f32)
    (wo : FVec Ideal S2x2816x1024 .f32) (n : Fin 16) (t : Fin 2048) : Fin 1024 → EReal :=
  Ffn.block (fun i => x (ix3 n t i)) (fun k j => wi (ix3 (1 : Fin 2) k (⟨j.val, by omega⟩ : Fin 5632))) (fun k j => wi (ix3 (1 : Fin 2) k (⟨2816 + j.val, by omega⟩ : Fin 5632)))
      (fun j i => wo (ix3 (1 : Fin 2) j i)) (fun i => g (ix3 (1 : Fin 2) (0 : Fin 3) i)) (fun i => b (ix3 (1 : Fin 2) (0 : Fin 3) i))

end Cert.ProjO

namespace Cert.ProjO.Ref

open Cert.Reference5Ideal Cert.Reference5Ideal.Gen Cert.Reference5Ideal.Value Idealize.ShloMosaic Idealize.ShloMosaic.TcCoe
open Cert.Mix.Ref (X norm norm_apply plus plus_apply wIn wIn_apply wOut wOut_apply)

def row0 (g : FVec Ideal S2x3x1024 .f32) : FVec Ideal S1024 .f32 :=
  shapeCast _ (extractStridedSlice S1x1x1024 ![1, 0, 0] g slices_S2x3x1024_S1x1x1024_1_0_0) shapeCasts_S1x1x1024_S1024

theorem row0_apply (g : FVec Ideal S2x3x1024 .f32) (f : Fin 1024) : row0 g (ix1 f) = g (ix3 (1 : Fin 2) (0 : Fin 3) f) := by
  pointwise [row0]

/-- The stream. -/
def h (x : X) (g b : FVec Ideal S2x3x1024 .f32) (wi : FVec Ideal S2x1024x5632 .f32) (wo : FVec Ideal S2x2816x1024 .f32) : X :=
  norm (plus x (wIn wi) (wOut wo)) (row0 g) (row0 b)

theorem h_apply (x : X) (g b : FVec Ideal S2x3x1024 .f32) (wi : FVec Ideal S2x1024x5632 .f32) (wo : FVec Ideal S2x2816x1024 .f32) (n : Fin 16) (t : Fin 2048) (f : Fin 1024) :
    h x g b wi wo (ix3 n t f) = tok x g b wi wo n t f := by
  unfold h
  rw [norm_apply]
  simp only [plus_apply, row0_apply, wIn_apply, wOut_apply]
  rfl

/-- The projection. -/
def proj (h : X) (w : FVec Ideal S1x1024x3088 .f32) : FVec Ideal S16x2048x3088 .f32 :=
  Host.dotGeneral dot_S16x2048x1024_S1024x3088_S16x2048x3088_2_0_01_1_n_n none h (shapeCast _ w shapeCasts_S1x1024x3088_S1024x3088)

theorem proj_apply (h : X) (w : FVec Ideal S1x1024x3088 .f32) (n : Fin 16) (t : Fin 2048) (j : Fin 3088) :
    proj h w (ix3 n t j) = (∑ k : Fin 1024, h (ix3 n t k) * w (ix3 (0 : Fin 1) k j) : EReal) := by
  pointwise [proj]

/-- The keys. -/
def keys (y : FVec Ideal S16x2048x3088 .f32) : FVec Ideal S16x2048x1024 .bf16 :=
  truncf .bf16 (extractStridedSlice S16x2048x1024 ![0, 0, 1024] y slices_S16x2048x3088_S16x2048x1024_0_0_1024) bitsLt_bf16_f32

theorem keys_apply (y : FVec Ideal S16x2048x3088 .f32) (n : Fin 16) (t : Fin 2048) (w : Fin 1024) :
    keys y (ix3 n t w) = y (ix3 n t (⟨1024 + w.val, by omega⟩ : Fin 3088)) := by
  pointwise [keys]

/-- The queries, scaled, by features. -/
def qt (y : FVec Ideal S16x2048x3088 .f32) : FVec Ideal S16x1024x2048 .bf16 :=
  truncf .bf16 (transpose S16x1024x2048 [0, 2, 1] (mulf (extractStridedSlice S16x2048x1024 ![0, 0, 0] y slices_S16x2048x3088_S16x2048x1024_0_0_0) (broadcastInDim S16x2048x1024 ![] bcast_S_S16x2048x1024 (constant S_ .f32 0x3E38AA3B#32))) transposes_S16x2048x1024_S16x1024x2048_0_2_1) bitsLt_bf16_f32

theorem qt_apply (y : FVec Ideal S16x2048x3088 .f32) (n : Fin 16) (q : Fin 1024) (t : Fin 2048) :
    qt y (ix3 n q t) = y (ix3 n t (⟨q.val, by omega⟩ : Fin 3088)) * Ideal.ofBits .f32 0x3E38AA3B#32 := by
  pointwise [qt]

/-- The values, in 256 tokens, by features. -/
def vt (y : FVec Ideal S16x2048x3088 .f32) : FVec Ideal S16x8x1024x256 .bf16 :=
  truncf .bf16 (transpose S16x8x1024x256 [0, 1, 3, 2] (shapeCast S16x8x256x1024 (extractStridedSlice S16x2048x1024 ![0, 0, 2048] y slices_S16x2048x3088_S16x2048x1024_0_0_2048) shapeCasts_S16x2048x1024_S16x8x256x1024) transposes_S16x8x256x1024_S16x8x1024x256_0_1_3_2) bitsLt_bf16_f32

theorem vt_apply (y : FVec Ideal S16x2048x3088 .f32) (n : Fin 16) (j : Fin 8) (v : Fin 1024) (s : Fin 256) :
    vt y (ix4 n j v s) = y (ix3 n (⟨256 * j.val + s.val, by omega⟩ : Fin 2048) (⟨2048 + v.val, by omega⟩ : Fin 3088)) := by
  pointwise [vt]
  exact congrArg (fun z => y (ix3 n z (⟨2048 + v.val, by omega⟩ : Fin 3088))) (Fin.ext (by show j.val * 256 + s.val = 256 * j.val + s.val; omega))

/-- One part of the gates. -/
def gate (y : FVec Ideal S16x2048x3088 .f32) : FVec Ideal S16x2048x16 .f32 :=
  extractStridedSlice S16x2048x16 ![0, 0, 3072] y slices_S16x2048x3088_S16x2048x16_0_0_3072

/-- The gates, three times over, and zeros. -/
def gates (y : FVec Ideal S16x2048x3088 .f32) : FVec Ideal S16x2048x128 .f32 :=
  concatenate S16x2048x128 2 [⟨S16x2048x16, (gate y : FVec Ideal S16x2048x16 .f32)⟩, ⟨S16x2048x16, (gate y : FVec Ideal S16x2048x16 .f32)⟩,
    ⟨S16x2048x16, (gate y : FVec Ideal S16x2048x16 .f32)⟩, ⟨S16x2048x80, (broadcastInDim S16x2048x80 ![] bcast_S_S16x2048x80 (constant S_ .f32 0x00000000#32) : FVec Ideal S16x2048x80 .f32)⟩]
    concatenates_S16x2048x16_S16x2048x16_S16x2048x16_S16x2048x80_S16x2048x128_d2

theorem gates_apply (y : FVec Ideal S16x2048x3088 .f32) (n : Fin 16) (t : Fin 2048) (f : Fin 128) :
    gates y (ix3 n t f) = if f.val < 48 then y (ix3 n t (⟨3072 + f.val % 16, by omega⟩ : Fin 3088)) else 0 := by
  pointwise [gates, gate]
  by_cases h : f.val < 48
  · rw [if_pos h]
    split_ifs <;> first | (exfalso; omega) | exact congrArg (fun z => y (ix3 n t z)) (Fin.ext (by dsimp only; omega))
  · rw [if_neg h]
    split_ifs <;> first | (exfalso; omega) | rfl

/-! The reference's results from its arguments. -/

variable (m : (ℓ : Loc nD τ sig) → Buf (Elt Ideal) ℓ) (c : Dev nD)

abbrev args : X := h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem res0_eq : res_main_v42 m c = args m c := rfl
theorem res1_eq : res_main_v56 m c = keys (proj (args m c) (m ((c.tc : Thread nD τ).loc main_arg5))) := rfl
theorem res2_eq : res_main_v57 m c = qt (proj (args m c) (m ((c.tc : Thread nD τ).loc main_arg5))) := rfl
theorem res3_eq : res_main_v58 m c = vt (proj (args m c) (m ((c.tc : Thread nD τ).loc main_arg5))) := rfl
theorem res4_eq : res_main_v55 m c = gates (proj (args m c) (m ((c.tc : Thread nD τ).loc main_arg5))) := rfl

end Cert.ProjO.Ref

end
-- ==== Proof.ProjOHost.lean ====
module

public import proofs.«01_k».proof.Proof.ProjOBlock
public import proofs.«01_k».proof.Proof.ProjORef
public import proofs.«01_k».proof.Proof.Gen.Kernel5Ideal.Value

/-! What the odd layer's first call's blocks hold of its arguments, and the five arrays it leaves, read entry by entry. -/

@[expose] public section

set_option maxRecDepth 16384

noncomputable section

namespace Cert.ProjO

open Cert.Kernel5Ideal Cert.Kernel5Ideal.Gen
open Idealize.ShloMosaic Idealize.ShloMosaic.TcCoe Idealize.ShloMosaic.Tactic

variable (m : (ℓ : Loc nD τ sig) → Buf (Elt Ideal) ℓ) (c : Dev nD)

/-! The six arguments on a core. -/

abbrev ax : FVec Ideal S16x2048x1024 .f32 := m ((c : Thread nD τ).loc main_arg0)
abbrev ag : FVec Ideal S2x3x1024 .f32 := m ((c : Thread nD τ).loc main_arg1)
abbrev ab : FVec Ideal S2x3x1024 .f32 := m ((c : Thread nD τ).loc main_arg2)
abbrev ai : FVec Ideal S2x1024x5632 .f32 := m ((c : Thread nD τ).loc main_arg3)
abbrev au : FVec Ideal S2x2816x1024 .f32 := m ((c : Thread nD τ).loc main_arg4)
abbrev aw : FVec Ideal S1x1024x3088 .f32 := m ((c : Thread nD τ).loc main_arg5)

theorem V_g (f : Fin 1024) : (V m c main_v2 : FVec Ideal S1x1024 .f32) (ix2 (0 : Fin 1) f) = ag m c (ix3 (1 : Fin 2) (0 : Fin 3) f) := by
  have e : @_root_.Eq (FVec Ideal S1x1024 .f32) (V m c main_v2) (shapeCast S1x1024 (shapeCast S1024 (extractStridedSlice S1x1x1024 ![1, 0, 0] (ag m c) slices_S2x3x1024_S1x1x1024_1_0_0) shapeCasts_S1x1x1024_S1024) shapeCasts_S1024_S1x1024) := by
    show StableHlo.after (List.flatten [hostOps0, hostOps0_1, hostOps0_2]) _ (Proc.devRef .tc main_v2) = _
    simp only [hostOps0, hostOps0_1, hostOps0_2, List.flatten_cons, List.flatten_nil, List.append_nil, List.cons_append, List.nil_append]
    after_results
    rfl
  refine (congrFun e _).trans ?_
  pointwise

theorem V_b (f : Fin 1024) : (V m c main_v5 : FVec Ideal S1x1024 .f32) (ix2 (0 : Fin 1) f) = ab m c (ix3 (1 : Fin 2) (0 : Fin 3) f) := by
  have e : @_root_.Eq (FVec Ideal S1x1024 .f32) (V m c main_v5) (shapeCast S1x1024 (shapeCast S1024 (extractStridedSlice S1x1x1024 ![1, 0, 0] (ab m c) slices_S2x3x1024_S1x1x1024_1_0_0) shapeCasts_S1x1x1024_S1024) shapeCasts_S1024_S1x1024) := by
    show StableHlo.after (List.flatten [hostOps0, hostOps0_1, hostOps0_2]) _ (Proc.devRef .tc main_v5) = _
    simp only [hostOps0, hostOps0_1, hostOps0_2, List.flatten_cons, List.flatten_nil, List.append_nil, List.cons_append, List.nil_append]
    after_results
    rfl
  refine (congrFun e _).trans ?_
  pointwise

theorem V_i (i : S2x1024x5632.Idx) : (V m c main_v18 : FVec Ideal S2x1024x5632 .bf16) i = ai m c i := by
  have e : @_root_.Eq (FVec Ideal S2x1024x5632 .bf16) (V m c main_v18) (truncf (F := Ideal) .bf16 (ai m c) bitsLt_bf16_f32) := by
    show StableHlo.after (List.flatten [hostOps0, hostOps0_1, hostOps0_2]) _ (Proc.devRef .tc main_v18) = _
    simp only [hostOps0, hostOps0_1, hostOps0_2, List.flatten_cons, List.flatten_nil, List.append_nil, List.cons_append, List.nil_append]
    after_results
  exact congrFun e _

theorem V_u (i : S2x2816x1024.Idx) : (V m c main_v19 : FVec Ideal S2x2816x1024 .bf16) i = au m c i := by
  have e : @_root_.Eq (FVec Ideal S2x2816x1024 .bf16) (V m c main_v19) (truncf (F := Ideal) .bf16 (au m c) bitsLt_bf16_f32) := by
    show StableHlo.after (List.flatten [hostOps0, hostOps0_1, hostOps0_2]) _ (Proc.devRef .tc main_v19) = _
    simp only [hostOps0, hostOps0_1, hostOps0_2, List.flatten_cons, List.flatten_nil, List.append_nil, List.cons_append, List.nil_append]
    after_results
  exact congrFun e _

/-- The projection's weights as a matrix. -/
def mat (w : FVec Ideal S1x1024x3088 .f32) : FVec Ideal S1024x3088 .f32 := shapeCast S1024x3088 w shapeCasts_S1x1024x3088_S1024x3088

theorem mat_apply (w : FVec Ideal S1x1024x3088 .f32) (k : Fin 1024) (j : Fin 3088) : mat w (ix2 k j) = w (ix3 (0 : Fin 1) k j) := by
  pointwise [mat]

/-- The gates' weights, three times over, and zeros. -/
def tail (y : FVec Ideal S1024x3088 .f32) : FVec Ideal S1024x128 .f32 :=
  pad S1024x128 ![0, 0] ![0, 80] ![0, 0] (shapeCast S1024x48 (broadcastInDim S1x1024x3x16 ![0, 1, 2, 3] bcast_S1x1024x1x16_S1x1024x3x16_0_1_2_3 (shapeCast S1x1024x1x16
    (extractStridedSlice S1024x16 ![0, 3072] y slices_S1024x3088_S1024x16_0_3072) shapeCasts_S1024x16_S1x1024x1x16)) shapeCasts_S1x1024x3x16_S1024x48)
    (sitofp (F := Ideal) .f32 (constantI S_ 32 0#32)) pads_S1024x48_S1024x128_000_0800 h_S_

theorem tail_apply (y : FVec Ideal S1024x3088 .f32) (k : Fin 1024) (f : Fin 128) :
    tail y (ix2 k f) = if f.val < 48 then y (ix2 k (⟨3072 + f.val % 16, by omega⟩ : Fin 3088)) else 0 := by
  pointwise [tail]
  split_ifs
  · rfl
  · show ((((0#32 : BitVec 32).toInt : ℤ) : ℝ) : EReal) = 0
    simp

/-- The weights of the keys and, after them, of the gates. -/
def cat (y : FVec Ideal S1024x3088 .f32) : FVec Ideal S1024x1152 .bf16 :=
  truncf (F := Ideal) .bf16 (concatenate S1024x1152 1 [⟨S1024x1024, (extractStridedSlice S1024x1024 ![0, 1024] y slices_S1024x3088_S1024x1024_0_1024 : FVec Ideal S1024x1024 .f32)⟩,
    ⟨S1024x128, (tail y : FVec Ideal S1024x128 .f32)⟩] concatenates_S1024x1024_S1024x128_S1024x1152_d1 : FVec Ideal S1024x1152 .f32) bitsLt_bf16_f32

theorem cat_lo (y : FVec Ideal S1024x3088 .f32) (k w : Fin 1024) : cat y (ix2 k (⟨w.val, by omega⟩ : Fin 1152)) = y (ix2 k (⟨1024 + w.val, by omega⟩ : Fin 3088)) := by
  pointwise [cat]

theorem cat_hi (y : FVec Ideal S1024x3088 .f32) (k : Fin 1024) (f : Fin 128) : cat y (ix2 k (⟨1024 + f.val, by omega⟩ : Fin 1152)) = if f.val < 48 then y (ix2 k (⟨3072 + f.val % 16, by omega⟩ : Fin 3088)) else 0 := by
  refine _root_.Eq.trans ?_ (tail_apply y k f)
  pointwise [cat]

theorem V_w : @_root_.Eq (FVec Ideal S1024x1152 .bf16) (V m c main_v28) (cat (mat (aw m c))) := by
  show StableHlo.after (List.flatten [hostOps0, hostOps0_1, hostOps0_2]) _ (Proc.devRef .tc main_v28) = _
  simp only [hostOps0, hostOps0_1, hostOps0_2, List.flatten_cons, List.flatten_nil, List.append_nil, List.cons_append, List.nil_append]
  after_results
  rfl

/-- The queries' and the values' weights, one column after another. -/
def cols (y : FVec Ideal S1024x3088 .f32) : FVec Ideal S2048x1024 .bf16 :=
  concatenate S2048x1024 0 [⟨S1024x1024, (truncf (F := Ideal) .bf16 (transpose S1024x1024 [1, 0] (extractStridedSlice S1024x1024 ![0, 0] y slices_S1024x3088_S1024x1024_0_0) transposes_S1024x1024_S1024x1024_1_0) bitsLt_bf16_f32 : FVec Ideal S1024x1024 .bf16)⟩,
    ⟨S1024x1024, (truncf (F := Ideal) .bf16 (transpose S1024x1024 [1, 0] (extractStridedSlice S1024x1024 ![0, 2048] y slices_S1024x3088_S1024x1024_0_2048) transposes_S1024x1024_S1024x1024_1_0) bitsLt_bf16_f32 : FVec Ideal S1024x1024 .bf16)⟩]
    concatenates_S1024x1024_S1024x1024_S2048x1024_d0

theorem cols_lo (y : FVec Ideal S1024x3088 .f32) (q k : Fin 1024) : cols y (ix2 (⟨q.val, by omega⟩ : Fin 2048) k) = y (ix2 k (⟨q.val, by omega⟩ : Fin 3088)) := by
  pointwise [cols]

theorem cols_hi (y : FVec Ideal S1024x3088 .f32) (q k : Fin 1024) : cols y (ix2 (⟨1024 + q.val, by omega⟩ : Fin 2048) k) = y (ix2 k (⟨2048 + q.val, by omega⟩ : Fin 3088)) := by
  pointwise [cols]

theorem V_c : @_root_.Eq (FVec Ideal S2048x1024 .bf16) (V m c main_v35) (cols (mat (aw m c))) := by
  show StableHlo.after (List.flatten [hostOps0, hostOps0_1, hostOps0_2]) _ (Proc.devRef .tc main_v35) = _
  simp only [hostOps0, hostOps0_1, hostOps0_2, List.flatten_cons, List.flatten_nil, List.append_nil, List.cons_append, List.nil_append]
  after_results
  rfl

/-! The blocks at a point of the grid: its batch's 512 tokens, and the whole weights. -/

abbrev bat (t : Fin cfg0.N) : Fin 16 := grid0.coords t 0
abbrev at_ (t : Fin cfg0.N) (r : Fin 512) : Fin 2048 := ⟨512 * (grid0.coords t 1).val + r.val, by have : (grid0.coords t 1).val < 4 := (grid0.coords t 1).isLt; omega⟩

theorem ind0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ind1 : ∀ t : Fin cfg0.N, win0_1.index t = ![1, 0, 0] := fun _ => rfl
theorem ind2 : ∀ t : Fin cfg0.N, win0_2.index t = ![1, 0, 1] := fun _ => rfl
theorem ind3 : ∀ t : Fin cfg0.N, win0_3.index t = ![1, 0, 0] := fun _ => rfl
theorem ind4 : ∀ t : Fin cfg0.N, win0_4.index t = ![0, 0] := fun _ => rfl
theorem ind5 : ∀ t : Fin cfg0.N, win0_5.index t = ![0, 0] := fun _ => rfl
theorem ind6 : ∀ t : Fin cfg0.N, win0_6.index t = ![0, 0] := fun _ => rfl
theorem ind7 : ∀ t : Fin cfg0.N, win0_7.index t = ![0, 0] := fun _ => rfl
theorem ind8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem ind9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem ind10 : ∀ t : Fin cfg0.N, win0_10.index t = ![(grid0.coords t 0).val, 0, (grid0.coords t 1).val] :=
  (by decide +kernel : ∀ t : Fin grid0.N, win0_10.index t = ![(grid0.coords t 0).val, 0, (grid0.coords t 1).val])
theorem ind11 : ∀ t : Fin cfg0.N, win0_11.index t = ![(grid0.coords t 0).val, (grid0.coords t 1).val, 0, 0] :=
  (by decide +kernel : ∀ t : Fin grid0.N, win0_11.index t = ![(grid0.coords t 0).val, (grid0.coords t 1).val, 0, 0])
theorem ind12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])

theorem iblk0 (t : Fin cfg0.N) (r : Fin 512) (k : Fin 1024) :
    (iblk m c 0 t : FVec Ideal S1x512x1024 .f32) (ix3 (0 : Fin 1) r k) = ax m c (ix3 (bat t) (at_ t r) k) := by
  have e : @_root_.Eq (FVec Ideal S16x2048x1024 .f32) (V m c main_arg0) (ax m c) := V_main_arg0 m c
  refine _root_.Eq.trans ?_ (congrFun e (ix3 (bat t) (at_ t r) k))
  unfold iblk
  rw [View.read_apply]
  show V m c main_arg0 _ = V m c main_arg0 _
  refine congrArg _ (funext fun a => Fin.ext ?_)
  match a with
  | ⟨0, _⟩ => show win0_0.index t 0 * 1 + 1 * 0 = (bat t).val; rw [ind0]; show (bat t).val * 1 + 1 * 0 = _; omega
  | ⟨1, _⟩ => show win0_0.index t 1 * 512 + 1 * r.val = (at_ t r).val; rw [ind0]; show (grid0.coords t 1).val * 512 + 1 * r.val = 512 * (grid0.coords t 1).val + r.val; omega
  | ⟨2, _⟩ => show win0_0.index t 2 * 1024 + 1 * k.val = k.val; rw [ind0]; show 0 * 1024 + 1 * k.val = _; omega

theorem iblk1 (t : Fin cfg0.N) (k : Fin 1024) (j : Fin 2816) :
    (iblk m c 1 t : FVec Ideal S1x1024x2816 .bf16) (ix3 (0 : Fin 1) k j) = ai m c (ix3 (1 : Fin 2) k (⟨j.val, by omega⟩ : Fin 5632)) := by
  refine _root_.Eq.trans ?_ (V_i m c (ix3 (1 : Fin 2) k (⟨j.val, by omega⟩ : Fin 5632)))
  unfold iblk
  rw [View.read_apply]
  show V m c main_v18 _ = V m c main_v18 _
  refine congrArg _ (funext fun a => Fin.ext ?_)
  match a with
  | ⟨0, _⟩ => show win0_1.index t 0 * 1 + 1 * 0 = 1; rw [ind1]; rfl
  | ⟨1, _⟩ => show win0_1.index t 1 * 1024 + 1 * k.val = k.val; rw [ind1]; show 0 * 1024 + 1 * k.val = _; omega
  | ⟨2, _⟩ => show win0_1.index t 2 * 2816 + 1 * j.val = j.val; rw [ind1]; show 0 * 2816 + 1 * j.val = _; omega

theorem iblk2 (t : Fin cfg0.N) (k : Fin 1024) (j : Fin 2816) :
    (iblk m c 2 t : FVec Ideal S1x1024x2816 .bf16) (ix3 (0 : Fin 1) k j) = ai m c (ix3 (1 : Fin 2) k (⟨2816 + j.val, by omega⟩ : Fin 5632)) := by
  refine _root_.Eq.trans ?_ (V_i m c (ix3 (1 : Fin 2) k (⟨2816 + j.val, by omega⟩ : Fin 5632)))
  unfold iblk
  rw [View.read_apply]
  show V m c main_v18 _ = V m c main_v18 _
  refine congrArg _ (funext fun a => Fin.ext ?_)
  match a with
  | ⟨0, _⟩ => show win0_2.index t 0 * 1 + 1 * 0 = 1; rw [ind2]; rfl
  | ⟨1, _⟩ => show win0_2.index t 1 * 1024 + 1 * k.val = k.val; rw [ind2]; show 0 * 1024 + 1 * k.val = _; omega
  | ⟨2, _⟩ => show win0_2.index t 2 * 2816 + 1 * j.val = 2816 + j.val; rw [ind2]; show 1 * 2816 + 1 * j.val = _; omega

theorem iblk3 (t : Fin cfg0.N) (j : Fin 2816) (f : Fin 1024) :
    (iblk m c 3 t : FVec Ideal S1x2816x1024 .bf16) (ix3 (0 : Fin 1) j f) = au m c (ix3 (1 : Fin 2) j f) := by
  refine _root_.Eq.trans ?_ (V_u m c (ix3 (1 : Fin 2) j f))
  unfold iblk
  rw [View.read_apply]
  show V m c main_v19 _ = V m c main_v19 _
  refine congrArg _ (funext fun a => Fin.ext ?_)
  match a with
  | ⟨0, _⟩ => show win0_3.index t 0 * 1 + 1 * 0 = 1; rw [ind3]; rfl
  | ⟨1, _⟩ => show win0_3.index t 1 * 2816 + 1 * j.val = j.val; rw [ind3]; show 0 * 2816 + 1 * j.val = _; omega
  | ⟨2, _⟩ => show win0_3.index t 2 * 1024 + 1 * f.val = f.val; rw [ind3]; show 0 * 1024 + 1 * f.val = _; omega

theorem iblk4 (t : Fin cfg0.N) (f : Fin 1024) :
    (iblk m c 4 t : FVec Ideal S1x1024 .f32) (ix2 (0 : Fin 1) f) = ag m c (ix3 (1 : Fin 2) (0 : Fin 3) f) := by
  refine _root_.Eq.trans ?_ (V_g m c f)
  unfold iblk
  rw [View.read_apply]
  show V m c main_v2 _ = V m c main_v2 _
  refine congrArg _ (funext fun a => Fin.ext ?_)
  match a with
  | ⟨0, _⟩ => show win0_4.index t 0 * 1 + 1 * 0 = 0; rw [ind4]; rfl
  | ⟨1, _⟩ => show win0_4.index t 1 * 1024 + 1 * f.val = f.val; rw [ind4]; show 0 * 1024 + 1 * f.val = _; omega

theorem iblk5 (t : Fin cfg0.N) (f : Fin 1024) :
    (iblk m c 5 t : FVec Ideal S1x1024 .f32) (ix2 (0 : Fin 1) f) = ab m c (ix3 (1 : Fin 2) (0 : Fin 3) f) := by
  refine _root_.Eq.trans ?_ (V_b m c f)
  unfold iblk
  rw [View.read_apply]
  show V m c main_v5 _ = V m c main_v5 _
  refine congrArg _ (funext fun a => Fin.ext ?_)
  match a with
  | ⟨0, _⟩ => show win0_5.index t 0 * 1 + 1 * 0 = 0; rw [ind5]; rfl
  | ⟨1, _⟩ => show win0_5.index t 1 * 1024 + 1 * f.val = f.val; rw [ind5]; show 0 * 1024 + 1 * f.val = _; omega

theorem iblk6 (t : Fin cfg0.N) (k : Fin 1024) (w : Fin 1152) :
    (iblk m c 6 t : FVec Ideal S1024x1152 .bf16) (ix2 k w) = cat (mat (aw m c)) (ix2 k w) := by
  refine _root_.Eq.trans ?_ (congrFun (V_w m c) (ix2 k w))
  unfold iblk
  rw [View.read_apply]
  show V m c main_v28 _ = V m c main_v28 _
  refine congrArg _ (funext fun a => Fin.ext ?_)
  match a with
  | ⟨0, _⟩ => show win0_6.index t 0 * 1024 + 1 * k.val = k.val; rw [ind6]; show 0 * 1024 + 1 * k.val = _; omega
  | ⟨1, _⟩ => show win0_6.index t 1 * 1152 + 1 * w.val = w.val; rw [ind6]; show 0 * 1152 + 1 * w.val = _; omega

theorem iblk7 (t : Fin cfg0.N) (q : Fin 2048) (k : Fin 1024) :
    (iblk m c 7 t : FVec Ideal S2048x1024 .bf16) (ix2 q k) = cols (mat (aw m c)) (ix2 q k) := by
  refine _root_.Eq.trans ?_ (congrFun (V_c m c) (ix2 q k))
  unfold iblk
  rw [View.read_apply]
  show V m c main_v35 _ = V m c main_v35 _
  refine congrArg _ (funext fun a => Fin.ext ?_)
  match a with
  | ⟨0, _⟩ => show win0_7.index t 0 * 2048 + 1 * q.val = q.val; rw [ind7]; show 0 * 2048 + 1 * q.val = _; omega
  | ⟨1, _⟩ => show win0_7.index t 1 * 1024 + 1 * k.val = k.val; rw [ind7]; show 0 * 1024 + 1 * k.val = _; omega

/-- A token of the stream that the call reads at a point of the grid. -/
theorem row_eq (t : Fin cfg0.N) (r : Fin 512) :
    Stage.row (iblk m c 0 t) (iblk m c 1 t) (iblk m c 2 t) (iblk m c 3 t) (iblk m c 4 t) (iblk m c 5 t) r =
      tok (ax m c) (ag m c) (ab m c) (ai m c) (au m c) (bat t) (at_ t r) := by
  unfold Stage.row tok
  simp only [iblk0, iblk1, iblk2, iblk3, iblk4, iblk5]

theorem flush8 (t : Fin cfg0.N) : (cfg0.win 8).flush t = true := (by decide +kernel : ∀ t : Fin grid0.N, win0_8.flush t = true) t
theorem flush9 (t : Fin cfg0.N) : (cfg0.win 9).flush t = true := (by decide +kernel : ∀ t : Fin grid0.N, win0_9.flush t = true) t
theorem flush10 (t : Fin cfg0.N) : (cfg0.win 10).flush t = true := (by decide +kernel : ∀ t : Fin grid0.N, win0_10.flush t = true) t
theorem flush11 (t : Fin cfg0.N) : (cfg0.win 11).flush t = true := (by decide +kernel : ∀ t : Fin grid0.N, win0_11.flush t = true) t
theorem flush12 (t : Fin cfg0.N) : (cfg0.win 12).flush t = true := (by decide +kernel : ∀ t : Fin grid0.N, win0_12.flush t = true) t

theorem arr8_at (t : Fin cfg0.N) (r : Fin 512) (f : Fin 1024) :
    ((dats m 0 c).arrAt 8 cfg0.N : FVec Ideal S16x2048x1024 .f32) (ix3 (bat t) (at_ t r) f) =
      tok (ax m c) (ag m c) (ab m c) (ai m c) (au m c) (bat t) (at_ t r) f := by
  have e := congrFun (Value.blocks8 m c t (flush8 t)) (ix3 (0 : Fin 1) r f)
  rw [View.read_apply, Value.flushed8_A] at e
  refine (_root_.Eq.trans ?_ e).trans ?_
  · refine congrArg ((dats m 0 c).arrAt 8 cfg0.N : FVec Ideal S16x2048x1024 .f32) (funext fun a => Fin.ext ?_)
    match a with
    | ⟨0, _⟩ => show (bat t).val = win0_8.index t 0 * 1 + 1 * 0; rw [ind8]; show (bat t).val = (bat t).val * 1 + 1 * 0; omega
    | ⟨1, _⟩ => show (at_ t r).val = win0_8.index t 1 * 512 + 1 * r.val; rw [ind8]; show 512 * (grid0.coords t 1).val + r.val = (grid0.coords t 1).val * 512 + 1 * r.val; omega
    | ⟨2, _⟩ => show f.val = win0_8.index t 2 * 1024 + 1 * f.val; rw [ind8]; show f.val = 0 * 1024 + 1 * f.val; omega
  · refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) r f).trans ?_
    exact congrFun (row_eq m c t r) f

theorem arr9_at (t : Fin cfg0.N) (r : Fin 512) (w : Fin 1024) :
    ((dats m 0 c).arrAt 9 cfg0.N : FVec Ideal S16x2048x1024 .bf16) (ix3 (bat t) (at_ t r) w) =
      (∑ k : Fin 1024, tok (ax m c) (ag m c) (ab m c) (ai m c) (au m c) (bat t) (at_ t r) k * aw m c (ix3 (0 : Fin 1) k (⟨1024 + w.val, by omega⟩ : Fin 3088)) : EReal) := by
  have e := congrFun (Value.blocks9 m c t (flush9 t)) (ix3 (0 : Fin 1) r w)
  rw [View.read_apply, Value.flushed9_A] at e
  refine (_root_.Eq.trans ?_ e).trans ?_
  · refine congrArg ((dats m 0 c).arrAt 9 cfg0.N : FVec Ideal S16x2048x1024 .bf16) (funext fun a => Fin.ext ?_)
    match a with
    | ⟨0, _⟩ => show (bat t).val = win0_9.index t 0 * 1 + 1 * 0; rw [ind9]; show (bat t).val = (bat t).val * 1 + 1 * 0; omega
    | ⟨1, _⟩ => show (at_ t r).val = win0_9.index t 1 * 512 + 1 * r.val; rw [ind9]; show 512 * (grid0.coords t 1).val + r.val = (grid0.coords t 1).val * 512 + 1 * r.val; omega
    | ⟨2, _⟩ => show w.val = win0_9.index t 2 * 1024 + 1 * w.val; rw [ind9]; show w.val = 0 * 1024 + 1 * w.val; omega
  · refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) r w).trans ?_
    rw [row_eq]
    refine Finset.sum_congr rfl fun k _ => ?_
    rw [iblk6, cat_lo, mat_apply]

theorem arr12_at (t : Fin cfg0.N) (r : Fin 512) (f : Fin 128) :
    ((dats m 0 c).arrAt 12 cfg0.N : FVec Ideal S16x2048x128 .f32) (ix3 (bat t) (at_ t r) f) =
      if f.val < 48 then (∑ k : Fin 1024, tok (ax m c) (ag m c) (ab m c) (ai m c) (au m c) (bat t) (at_ t r) k * aw m c (ix3 (0 : Fin 1) k (⟨3072 + f.val % 16, by omega⟩ : Fin 3088)) : EReal) else 0 := by
  have e := congrFun (Value.blocks12 m c t (flush12 t)) (ix3 (0 : Fin 1) r f)
  rw [View.read_apply, Value.flushed12_A] at e
  refine (_root_.Eq.trans ?_ e).trans ?_
  · refine congrArg ((dats m 0 c).arrAt 12 cfg0.N : FVec Ideal S16x2048x128 .f32) (funext fun a => Fin.ext ?_)
    match a with
    | ⟨0, _⟩ => show (bat t).val = win0_12.index t 0 * 1 + 1 * 0; rw [ind12]; show (bat t).val = (bat t).val * 1 + 1 * 0; omega
    | ⟨1, _⟩ => show (at_ t r).val = win0_12.index t 1 * 512 + 1 * r.val; rw [ind12]; show 512 * (grid0.coords t 1).val + r.val = (grid0.coords t 1).val * 512 + 1 * r.val; omega
    | ⟨2, _⟩ => show f.val = win0_12.index t 2 * 128 + 1 * f.val; rw [ind12]; show f.val = 0 * 128 + 1 * f.val; omega
  · refine (out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) r f).trans ?_
    rw [row_eq]
    by_cases h : f.val < 48
    · rw [if_pos h]
      refine Finset.sum_congr rfl fun k _ => ?_
      rw [iblk6, cat_hi, if_pos h, mat_apply]
    · rw [if_neg h]
      refine Finset.sum_eq_zero fun k _ => ?_
      rw [iblk6, cat_hi, if_neg h, mul_zero]

theorem arr10_at (t : Fin cfg0.N) (q : Fin 1024) (r : Fin 512) :
    ((dats m 0 c).arrAt 10 cfg0.N : FVec Ideal S16x1024x2048 .bf16) (ix3 (bat t) q (at_ t r)) =
      (∑ k : Fin 1024, tok (ax m c) (ag m c) (ab m c) (ai m c) (au m c) (bat t) (at_ t r) k * aw m c (ix3 (0 : Fin 1) k (⟨q.val, by omega⟩ : Fin 3088)) : EReal) * Ideal.ofBits .f32 0x3E38AA3B#32 := by
  have e := congrFun (Value.blocks10 m c t (flush10 t)) (ix3 (0 : Fin 1) q r)
  rw [View.read_apply, Value.flushed10_A] at e
  refine (_root_.Eq.trans ?_ e).trans ?_
  · refine congrArg ((dats m 0 c).arrAt 10 cfg0.N : FVec Ideal S16x1024x2048 .bf16) (funext fun a => Fin.ext ?_)
    match a with
    | ⟨0, _⟩ => show (bat t).val = win0_10.index t 0 * 1 + 1 * 0; rw [ind10]; show (bat t).val = (bat t).val * 1 + 1 * 0; omega
    | ⟨1, _⟩ => show q.val = win0_10.index t 1 * 1024 + 1 * q.val; rw [ind10]; show q.val = 0 * 1024 + 1 * q.val; omega
    | ⟨2, _⟩ => show (at_ t r).val = win0_10.index t 2 * 512 + 1 * r.val; rw [ind10]; show 512 * (grid0.coords t 1).val + r.val = (grid0.coords t 1).val * 512 + 1 * r.val; omega
  · refine (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) q r).trans ?_
    rw [row_eq]
    refine congrArg (· * Ideal.ofBits .f32 0x3E38AA3B#32) (Finset.sum_congr rfl fun k _ => ?_)
    rw [iblk7, cols_lo, mat_apply, mul_comm]

theorem arr11_at (t : Fin cfg0.N) (j : Fin 2) (v : Fin 1024) (s : Fin 256) :
    ((dats m 0 c).arrAt 11 cfg0.N : FVec Ideal S16x8x1024x256 .bf16) (ix4 (bat t) (⟨2 * (grid0.coords t 1).val + j.val, by have : (grid0.coords t 1).val < 4 := (grid0.coords t 1).isLt; omega⟩ : Fin 8) v s) =
      (∑ k : Fin 1024, tok (ax m c) (ag m c) (ab m c) (ai m c) (au m c) (bat t) (at_ t ⟨256 * j.val + s.val, by omega⟩) k * aw m c (ix3 (0 : Fin 1) k (⟨2048 + v.val, by omega⟩ : Fin 3088)) : EReal) := by
  have e := congrFun (Value.blocks11 m c t (flush11 t)) (ix4 (0 : Fin 1) j v s)
  rw [View.read_apply, Value.flushed11_A] at e
  refine (_root_.Eq.trans ?_ e).trans ?_
  · refine congrArg ((dats m 0 c).arrAt 11 cfg0.N : FVec Ideal S16x8x1024x256 .bf16) (funext fun a => Fin.ext ?_)
    match a with
    | ⟨0, _⟩ => show (bat t).val = win0_11.index t 0 * 1 + 1 * 0; rw [ind11]; show (bat t).val = (bat t).val * 1 + 1 * 0; omega
    | ⟨1, _⟩ => show 2 * (grid0.coords t 1).val + j.val = win0_11.index t 1 * 2 + 1 * j.val; rw [ind11]; show 2 * (grid0.coords t 1).val + j.val = (grid0.coords t 1).val * 2 + 1 * j.val; omega
    | ⟨2, _⟩ => show v.val = win0_11.index t 2 * 1024 + 1 * v.val; rw [ind11]; show v.val = 0 * 1024 + 1 * v.val; omega
    | ⟨3, _⟩ => show s.val = win0_11.index t 3 * 256 + 1 * s.val; rw [ind11]; show s.val = 0 * 256 + 1 * s.val; omega
  · refine (out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) j v s).trans ?_
    rw [row_eq]
    refine Finset.sum_congr rfl fun k _ => ?_
    rw [iblk7, cols_hi, mat_apply, mul_comm]

theorem point (n : Fin 16) (q : Fin 4) : ∃ t : Fin cfg0.N, bat t = n ∧ (grid0.coords t 1).val = q.val := by
  have h : ∀ t : Fin grid0.N, (grid0.coords t 0).val = t.val / 4 ∧ (grid0.coords t 1).val = t.val % 4 := by decide +kernel
  have hn : 4 * n.val + q.val < grid0.N := by
    have e : grid0.N = 64 := by decide
    omega
  refine ⟨⟨4 * n.val + q.val, hn⟩, Fin.ext ?_, ?_⟩
  · refine (h ⟨4 * n.val + q.val, hn⟩).1.trans ?_
    show (4 * n.val + q.val) / 4 = n.val; omega
  · refine (h ⟨4 * n.val + q.val, hn⟩).2.trans ?_
    show (4 * n.val + q.val) % 4 = q.val; omega

/-- Every token is one of a point of the grid. -/
theorem token (n : Fin 16) (t : Fin 2048) : ∃ (p : Fin cfg0.N) (r : Fin 512), bat p = n ∧ at_ p r = t ∧ (grid0.coords p 1).val = t.val / 512 ∧ r.val = t.val % 512 := by
  obtain ⟨p, hb, hq⟩ := point n ⟨t.val / 512, by omega⟩
  refine ⟨p, ⟨t.val % 512, by omega⟩, hb, Fin.ext ?_, hq, rfl⟩
  show 512 * (grid0.coords p 1).val + t.val % 512 = t.val
  rw [hq]
  show 512 * (t.val / 512) + t.val % 512 = t.val
  omega

end Cert.ProjO

end
-- ==== Proof.ProjOEqual.lean ====
module

public import proofs.«01_k».proof.Proof.ProjOHost

/-! The five arrays of the odd layer's first call are the fifth reference's results. -/

@[expose] public section

noncomputable section

namespace Cert.ProjO

open Idealize.ShloMosaic Idealize.ShloMosaic.TcCoe Cert.Kernel5Ideal Cert.Kernel5Ideal.Gen

variable (m : (ℓ : Loc nD τ sig) → Buf (Elt Ideal) ℓ) (c : Dev nD)

/-- The reference's stream and projection of the call's arguments. -/
abbrev rh : FVec Ideal S16x2048x1024 .f32 := Ref.h (ax m c) (ag m c) (ab m c) (ai m c) (au m c)
abbrev rp : FVec Ideal Reference5Ideal.S16x2048x3088 .f32 := Ref.proj (rh m c) (aw m c)

theorem rp_apply (n : Fin 16) (t : Fin 2048) (j : Fin 3088) :
    rp m c (ix3 n t j) = (∑ k : Fin 1024, tok (ax m c) (ag m c) (ab m c) (ai m c) (au m c) n t k * aw m c (ix3 (0 : Fin 1) k j) : EReal) := by
  refine (Ref.proj_apply _ _ n t j).trans ?_
  exact Finset.sum_congr rfl fun k _ => congrArg (· * aw m c (ix3 (0 : Fin 1) k j)) (Ref.h_apply _ _ _ _ _ n t k)

theorem equal0 : @_root_.Eq (FVec Ideal S16x2048x1024 .f32) (rh m c) ((dats m 0 c).arrAt 8 cfg0.N) := by
  funext i
  obtain ⟨n, t, f, rfl⟩ : ∃ (n : Fin 16) (t : Fin 2048) (f : Fin 1024), i = ix3 n t f := ⟨i 0, i 1, i 2, eq_ix3 i⟩
  obtain ⟨p, r, rfl, rfl, -, -⟩ := token n t
  exact (Ref.h_apply _ _ _ _ _ _ _ f).trans (arr8_at m c p r f).symm

theorem equal1 : @_root_.Eq (FVec Ideal S16x2048x1024 .bf16) (Ref.keys (rp m c)) ((dats m 0 c).arrAt 9 cfg0.N) := by
  funext i
  obtain ⟨n, t, w, rfl⟩ : ∃ (n : Fin 16) (t : Fin 2048) (w : Fin 1024), i = ix3 n t w := ⟨i 0, i 1, i 2, eq_ix3 i⟩
  obtain ⟨p, r, rfl, rfl, -, -⟩ := token n t
  exact (Ref.keys_apply _ _ _ w).trans ((rp_apply m c _ _ _).trans (arr9_at m c p r w).symm)

theorem equal2 : @_root_.Eq (FVec Ideal S16x1024x2048 .bf16) (Ref.qt (rp m c)) ((dats m 0 c).arrAt 10 cfg0.N) := by
  funext i
  obtain ⟨n, q, t, rfl⟩ : ∃ (n : Fin 16) (q : Fin 1024) (t : Fin 2048), i = ix3 n q t := ⟨i 0, i 1, i 2, eq_ix3 i⟩
  obtain ⟨p, r, rfl, rfl, -, -⟩ := token n t
  refine (Ref.qt_apply _ _ q _).trans (_root_.Eq.trans ?_ (arr10_at m c p q r).symm)
  rw [rp_apply]

theorem equal3 : @_root_.Eq (FVec Ideal S16x8x1024x256 .bf16) (Ref.vt (rp m c)) ((dats m 0 c).arrAt 11 cfg0.N) := by
  funext i
  obtain ⟨n, j, v, s, rfl⟩ : ∃ (n : Fin 16) (j : Fin 8) (v : Fin 1024) (s : Fin 256), i = ix4 n j v s := ⟨i 0, i 1, i 2, i 3, eq_ix4 i⟩
  obtain ⟨p, rfl, hq⟩ := point n ⟨j.val / 2, by omega⟩
  have hq : (grid0.coords p 1).val = j.val / 2 := hq
  have e := arr11_at m c p ⟨j.val % 2, by omega⟩ v s
  have ej : (⟨2 * (grid0.coords p 1).val + j.val % 2, by omega⟩ : Fin 8) = j := Fin.ext (by show 2 * (grid0.coords p 1).val + j.val % 2 = j.val; omega)
  have et : at_ p ⟨256 * (j.val % 2) + s.val, by omega⟩ = (⟨256 * j.val + s.val, by omega⟩ : Fin 2048) :=
    Fin.ext (by show 512 * (grid0.coords p 1).val + (256 * (j.val % 2) + s.val) = 256 * j.val + s.val; omega)
  refine (Ref.vt_apply _ _ j v s).trans ((rp_apply m c _ _ _).trans ?_)
  rw [← et]
  refine e.symm.trans ?_
  exact congrArg (fun z => ((dats m 0 c).arrAt 11 cfg0.N : FVec Ideal S16x8x1024x256 .bf16) (ix4 (bat p) z v s)) ej

theorem equal4 : @_root_.Eq (FVec Ideal S16x2048x128 .f32) (Ref.gates (rp m c)) ((dats m 0 c).arrAt 12 cfg0.N) := by
  funext i
  obtain ⟨n, t, f, rfl⟩ : ∃ (n : Fin 16) (t : Fin 2048) (f : Fin 128), i = ix3 n t f := ⟨i 0, i 1, i 2, eq_ix3 i⟩
  obtain ⟨p, r, rfl, rfl, -, -⟩ := token n t
  refine (Ref.gates_apply _ _ _ f).trans (_root_.Eq.trans ?_ (arr12_at m c p r f).symm)
  rw [rp_apply]

end Cert.ProjO

end
-- ==== Proof.lean ====
module

public import proofs.«01_k».proof.Defs
public import proofs.«01_k».proof.Proof.Gen.Kernel
public import proofs.«01_k».proof.Proof.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_qk
public import proofs.«01_k».proof.Proof.Equal
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.MixEqual
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.MixEEqual
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.ProjEEqual
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.ProjOEqual
public import Idealize.ShloMosaic.Lib.Quiescent
public import Idealize.ShloMosaic.Adequacy
public import Idealize.ShloMosaic.Init

/-! The claims: every call, over bits and over the reals, and every reference runs and leaves its arguments as they were;
the named constants are the literals; and over the extended reals each call's arrays are its reference's results. -/

@[expose] public section

noncomputable section

namespace Cert.Proof

open Idealize.ShloMosaic Idealize.ShloMosaic.TcCoe Idealize.SL.Sem

/-- The reference leaves its argument as it was and every semaphore at zero. -/
theorem ref_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "minus_scale" .f32 0xBE38AA3B#32 (((-1 / 8) * (Real.log 2)⁻¹ : ℝ) : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal_pre_finite_qk := by
  intro m ρ m' ρ' hpre hagree
  refine ⟨_, Cert.Sb.run_blocks m ρ, ?_⟩
  refine (θ_run _ _ _).mono (fun _ h c => ⟨(h c).1.trans ?_, (h c).2⟩) (Cert.ReferenceIdeal.Value.run (F := Ideal) m' ρ')
  refine (Cert.Sb.Ref.res_eq m' c).trans ?_
  rw [hagree c]
  exact (Cert.Sb.arr_eq m c (Cert.Sb.finite_of _ (hpre c))).symm

/-- The second reference leaves its arguments as they were and every semaphore at zero. -/
theorem ref2_frame : Cert.quiescent_Reference2Ideal := fun m ρ _ =>
  (θ_run _ _ _).mono (fun r h => ⟨fun c => (h c).2, Idealize.ShloMosaic.sem_eq_zero_of_no_sems (by decide) r.2⟩)
    (Cert.Reference2Ideal.Value.run (F := Ideal) m ρ)

theorem algebraic2 : Cert.algebraic_Kernel2Ideal_Reference2Ideal := by
  intro m ρ m' ρ' _ hagree
  refine ⟨_, Cert.Kernel2Ideal.Value.run_blocks m ρ, ?_⟩
  refine (θ_run _ _ _).mono (fun _ h c => ⟨(h c).1.trans ?_, (h c).2⟩) (Cert.Reference2Ideal.Value.run (F := Ideal) m' ρ')
  obtain ⟨h0, h1, h2, h3, h4, h5, h6⟩ := hagree c
  refine (show _ = Cert.Mix.Ref.out (m' ((c.tc : Thread _ _).loc Cert.Reference2Ideal.main_arg0)) (m' ((c.tc : Thread _ _).loc Cert.Reference2Ideal.main_arg1)) (m' ((c.tc : Thread _ _).loc Cert.Reference2Ideal.main_arg2))
    (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) from rfl).trans ?_
  rw [h0, h1, h2, h3, h4, h5, h6]
  exact Cert.Mix.equal m c

/-- The third reference leaves its arguments as they were and every semaphore at zero. -/
theorem ref3_frame : Cert.quiescent_Reference3Ideal := fun m ρ _ =>
  (θ_run _ _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal := by
  intro m ρ m' ρ' _ hagree
  refine ⟨_, Cert.Kernel3Ideal.Value.run_blocks m ρ, ?_⟩
  refine (θ_run _ _ _).mono (fun _ h c => ⟨(h c).1.trans ?_, (h c).2⟩) (Cert.Reference3Ideal.Value.run (F := Ideal) m' ρ')
  obtain ⟨h0, h1, h2, h3, h4, h5, h6⟩ := hagree c
  refine (show _ = Cert.MixE.Ref.out (m' ((c.tc : Thread _ _).loc Cert.Reference3Ideal.main_arg0)) (m' ((c.tc : Thread _ _).loc Cert.Reference3Ideal.main_arg1)) (m' ((c.tc : Thread _ _).loc Cert.Reference3Ideal.main_arg2))
    (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) from rfl).trans ?_
  rw [h0, h1, h2, h3, h4, h5, h6]
  exact Cert.MixE.equal m c

/-- The fourth reference leaves its arguments as they were and every semaphore at zero. -/
theorem ref4_frame : Cert.quiescent_Reference4Ideal := fun m ρ _ =>
  (θ_run _ _ _).mono (fun r h => ⟨fun c => (h c).2.2.2.2, Idealize.ShloMosaic.sem_eq_zero_of_no_sems (by decide) r.2⟩)
    (Cert.Reference4Ideal.Value.run (F := Ideal) m ρ)

theorem algebraic4 : Cert.algebraic_Kernel4Ideal_Reference4Ideal := by
  intro m ρ m' ρ' _ hagree
  refine ⟨_, _, _, _, Cert.Kernel4Ideal.Value.run_blocks m ρ, ?_⟩
  have eh : ∀ c, Cert.ProjE.Ref.args m' c = Cert.ProjE.rh m c := by
    intro c
    obtain ⟨h0, h1, h2, h3, h4, -⟩ := hagree c
    unfold Cert.ProjE.Ref.args
    rw [h0, h1, h2, h3, h4]
  have ep : ∀ c, Cert.ProjE.Ref.proj (Cert.ProjE.Ref.args m' c) (m' ((c.tc : Thread _ _).loc Cert.Reference4Ideal.main_arg5)) = Cert.ProjE.rp m c := by
    intro c
    obtain ⟨-, -, -, -, -, h5⟩ := hagree c
    rw [eh c, h5]
  refine (θ_run _ _ _).mono (fun _ h c => ⟨(h c).1.trans ?_, (h c).2.1.trans ?_, (h c).2.2.1.trans ?_, (h c).2.2.2.1.trans ?_, (h c).2.2.2.2⟩)
    (Cert.Reference4Ideal.Value.run (F := Ideal) m' ρ')
  · exact (Cert.ProjE.Ref.res0_eq m' c).trans ((eh c).trans (Cert.ProjE.equal0 m c))
  · exact (Cert.ProjE.Ref.res1_eq m' c).trans ((congrArg Cert.ProjE.Ref.rows (ep c)).trans (Cert.ProjE.equal1 m c))
  · exact (Cert.ProjE.Ref.res2_eq m' c).trans ((congrArg Cert.ProjE.Ref.qt (ep c)).trans (Cert.ProjE.equal2 m c))
  · exact (Cert.ProjE.Ref.res3_eq m' c).trans ((congrArg Cert.ProjE.Ref.vt (ep c)).trans (Cert.ProjE.equal3 m c))

/-- The fifth reference leaves its arguments as they were and every semaphore at zero. -/
theorem ref5_frame : Cert.quiescent_Reference5Ideal := fun m ρ _ =>
  (θ_run _ _ _).mono (fun r h => ⟨fun c => (h c).2.2.2.2.2, Idealize.ShloMosaic.sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨_, _, _, _, _, Cert.Kernel5Ideal.Value.run_blocks m ρ, ?_⟩
  have eh : ∀ c, Cert.ProjO.Ref.args m' c = Cert.ProjO.rh m c := by
    intro c
    obtain ⟨h0, h1, h2, h3, h4, -⟩ := hagree c
    unfold Cert.ProjO.Ref.args
    rw [h0, h1, h2, h3, h4]
  have ep : ∀ c, Cert.ProjO.Ref.proj (Cert.ProjO.Ref.args m' c) (m' ((c.tc : Thread _ _).loc Cert.Reference5Ideal.main_arg5)) = Cert.ProjO.rp m c := by
    intro c
    obtain ⟨-, -, -, -, -, h5⟩ := hagree c
    rw [eh c, h5]
  refine (θ_run _ _ _).mono (fun _ h c => ⟨(h c).1.trans ?_, (h c).2.1.trans ?_, (h c).2.2.1.trans ?_, (h c).2.2.2.1.trans ?_, (h c).2.2.2.2.1.trans ?_, (h c).2.2.2.2.2⟩)
    (Cert.Reference5Ideal.Value.run (F := Ideal) m' ρ')
  · exact (Cert.ProjO.Ref.res0_eq m' c).trans ((eh c).trans (Cert.ProjO.equal0 m c))
  · exact (Cert.ProjO.Ref.res1_eq m' c).trans ((congrArg Cert.ProjO.Ref.keys (ep c)).trans (Cert.ProjO.equal1 m c))
  · exact (Cert.ProjO.Ref.res2_eq m' c).trans ((congrArg Cert.ProjO.Ref.qt (ep c)).trans (Cert.ProjO.equal2 m c))
  · exact (Cert.ProjO.Ref.res3_eq m' c).trans ((congrArg Cert.ProjO.Ref.vt (ep c)).trans (Cert.ProjO.equal3 m c))
  · exact (Cert.ProjO.Ref.res4_eq m' c).trans ((congrArg Cert.ProjO.Ref.gates (ep c)).trans (Cert.ProjO.equal4 m c))

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_qk.Gen.facts,
  fun m ρ _ => Cert.SbFrame.frame m ρ, fun m ρ _ => Cert.Sb.frame_ideal m ρ, fun m ρ _ => Cert.Sb.frame_ideal m ρ,
  ref_frame, fun m ρ _ => ref_frame m ρ trivial, fun m ρ _ => Cert.Kernel2.Gen.frame m ρ, fun m ρ _ => Cert.Kernel2Ideal.Gen.frame m ρ, ref2_frame,
  fun m ρ _ => Cert.Kernel3.Gen.frame m ρ, fun m ρ _ => Cert.Kernel3Ideal.Gen.frame m ρ, ref3_frame,
  fun m ρ _ => Cert.Kernel4.Gen.frame m ρ, fun m ρ _ => Cert.Kernel4Ideal.Gen.frame m ρ, ref4_frame,
  fun m ρ _ => Cert.Kernel5.Gen.frame m ρ, fun m ρ _ => Cert.Kernel5Ideal.Gen.frame m ρ, ref5_frame,
  preserves, algebraic, trivial, algebraic2, trivial, algebraic3, trivial, algebraic4, trivial, algebraic5⟩

end Cert.Proof

end
